-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v35)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v35) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v57) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v35)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v61_0)) (v1 : (c : Dev Cert.Kernel5Ideal.nD) → Buf (Elt Ideal) ((c.tc : Thread Cert.Kernel5Ideal.nD Cert.Kernel5Ideal.τ).loc Cert.Kernel5Ideal.main_v61_1)) (v2 : (c : Dev Cert.Kernel5Ideal.nD) → Buf (Elt Ideal) ((c.tc : Thread Cert.Kernel5Ideal.nD Cert.Kernel5Ideal.τ).loc Cert.Kernel5Ideal.main_v61_2)) (v3 : (c : Dev Cert.Kernel5Ideal.nD) → Buf (Elt Ideal) ((c.tc : Thread Cert.Kernel5Ideal.nD Cert.Kernel5Ideal.τ).loc Cert.Kernel5Ideal.main_v61_3)) (v4 : (c : Dev Cert.Kernel5Ideal.nD) → Buf (Elt Ideal) ((c.tc : Thread Cert.Kernel5Ideal.nD Cert.Kernel5Ideal.τ).loc Cert.Kernel5Ideal.main_v61_7)) (v5 : (c : Dev Cert.Kernel5Ideal.nD) → Buf (Elt Ideal) ((c.tc : Thread Cert.Kernel5Ideal.nD Cert.Kernel5Ideal.τ).loc Cert.Kernel5Ideal.main_v61_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v61_0) = v0 c
          ∧ r.2.mem ((c.tc : Thread Cert.Kernel5Ideal.nD Cert.Kernel5Ideal.τ).loc Cert.Kernel5Ideal.main_v61_1) = v1 c
          ∧ r.2.mem ((c.tc : Thread Cert.Kernel5Ideal.nD Cert.Kernel5Ideal.τ).loc Cert.Kernel5Ideal.main_v61_2) = v2 c
          ∧ r.2.mem ((c.tc : Thread Cert.Kernel5Ideal.nD Cert.Kernel5Ideal.τ).loc Cert.Kernel5Ideal.main_v61_3) = v3 c
          ∧ r.2.mem ((c.tc : Thread Cert.Kernel5Ideal.nD Cert.Kernel5Ideal.τ).loc Cert.Kernel5Ideal.main_v61_7) = v4 c
          ∧ r.2.mem ((c.tc : Thread Cert.Kernel5Ideal.nD Cert.Kernel5Ideal.τ).loc Cert.Kernel5Ideal.main_v61_8) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_v43) = v3 c
          ∧ r.2.mem ((c.tc : Thread Cert.Reference5Ideal.nD Cert.Reference5Ideal.τ).loc Cert.Reference5Ideal.main_v47) = v4 c
          ∧ r.2.mem ((c.tc : Thread Cert.Reference5Ideal.nD Cert.Reference5Ideal.τ).loc Cert.Reference5Ideal.main_v55) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16x2048x5x64 : Shape := ⟨4, ![16, 2048, 5, 64]⟩
abbrev S_ : Shape := ⟨0, ![]⟩
abbrev S32768x320 : Shape := ⟨2, ![32768, 320]⟩
abbrev S32768x384 : Shape := ⟨2, ![32768, 384]⟩
abbrev S32768x768 : Shape := ⟨2, ![32768, 768]⟩
abbrev S16x2048x384 : Shape := ⟨3, ![16, 2048, 384]⟩
abbrev S16x384x2048 : Shape := ⟨3, ![16, 384, 2048]⟩
abbrev S256x384 : Shape := ⟨2, ![256, 384]⟩
abbrev S2048x384 : Shape := ⟨2, ![2048, 384]⟩
abbrev S1x384x2048 : Shape := ⟨3, ![1, 384, 2048]⟩
abbrev S1x128 : Shape := ⟨2, ![1, 128]⟩
abbrev S128x1 : Shape := ⟨2, ![128, 1]⟩
abbrev S256x256 : Shape := ⟨2, ![256, 256]⟩
abbrev S128x128 : Shape := ⟨2, ![128, 128]⟩
abbrev S128x256 : Shape := ⟨2, ![128, 256]⟩
abbrev S256x128 : Shape := ⟨2, ![256, 128]⟩
abbrev S1x256 : Shape := ⟨2, ![1, 256]⟩
abbrev S256 : Shape := ⟨1, ![256]⟩
abbrev S1x128x256 : Shape := ⟨3, ![1, 128, 256]⟩

abbrev nBuf : Space → Nat
  | .hbm => 24
  | .vmem => 8
  | .smem => 0
  | _ => 0

abbrev bufTy : (tb : Table) → Fin (tcTables nBuf tb) → BufTy
  | .hbm, ⟨0, _⟩ => ⟨S16x2048x5x64, .f32⟩
  | .hbm, ⟨1, _⟩ => ⟨S16x2048x5x64, .f32⟩
  | .hbm, ⟨2, _⟩ => ⟨S16x2048x5x64, .f32⟩
  | .hbm, ⟨3, _⟩ => ⟨S_, .f32⟩
  | .hbm, ⟨4, _⟩ => ⟨S16x2048x5x64, .f32⟩
  | .hbm, ⟨5, _⟩ => ⟨S16x2048x5x64, .f32⟩
  | .hbm, ⟨6, _⟩ => ⟨S32768x320, .f32⟩
  | .hbm, ⟨7, _⟩ => ⟨S_, .i32⟩
  | .hbm, ⟨8, _⟩ => ⟨S_, .f32⟩
  | .hbm, ⟨9, _⟩ => ⟨S32768x384, .f32⟩
  | .hbm, ⟨10, _⟩ => ⟨S32768x320, .f32⟩
  | .hbm, ⟨11, _⟩ => ⟨S_, .i32⟩
  | .hbm, ⟨12, _⟩ => ⟨S_, .f32⟩
  | .hbm, ⟨13, _⟩ => ⟨S32768x384, .f32⟩
  | .hbm, ⟨14, _⟩ => ⟨S32768x768, .f32⟩
  | .hbm, ⟨15, _⟩ => ⟨S32768x768, .bf16⟩
  | .hbm, ⟨16, _⟩ => ⟨S32768x320, .f32⟩
  | .hbm, ⟨17, _⟩ => ⟨S_, .i32⟩
  | .hbm, ⟨18, _⟩ => ⟨S_, .f32⟩
  | .hbm, ⟨19, _⟩ => ⟨S32768x384, .f32⟩
  | .hbm, ⟨20, _⟩ => ⟨S16x2048x384, .f32⟩
  | .hbm, ⟨21, _⟩ => ⟨S16x384x2048, .f32⟩
  | .hbm, ⟨22, _⟩ => ⟨S16x384x2048, .bf16⟩
  | .hbm, ⟨23, _⟩ => ⟨S32768x384, .bf16⟩
  | .local _ .vmem, ⟨0, _⟩ => ⟨S256x384, .bf16⟩
  | .local _ .vmem, ⟨1, _⟩ => ⟨S256x384, .bf16⟩
  | .local _ .vmem, ⟨2, _⟩ => ⟨S2048x384, .bf16⟩
  | .local _ .vmem, ⟨3, _⟩ => ⟨S2048x384, .bf16⟩
  | .local _ .vmem, ⟨4, _⟩ => ⟨S1x384x2048, .bf16⟩
  | .local _ .vmem, ⟨5, _⟩ => ⟨S1x384x2048, .bf16⟩
  | .local _ .vmem, ⟨6, _⟩ => ⟨S256x384, .bf16⟩
  | .local _ .vmem, ⟨7, _⟩ => ⟨S256x384, .bf16⟩
  | _, _ => ⟨S16x2048x5x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_call2_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v49 : BitVec 32 := Scalar.muli arg1 c256_i32
  v49
def k0_off1 (i : grid0.Coords) : Fin 2 → Nat :=
  let arg1 : BitVec 32 := BitVec.ofNat 32 (i 1).val
  let c256_i32 : BitVec 32 := 256#32
  let v49 : BitVec 32 := Scalar.muli arg1 c256_i32
  let v50 : BitVec 32 := v49
  let v51 : Index := Scalar.indexCast v50
  let c0_15 : Index := 0#32
  ![v51.toNat, 0]
def k0_mult2 (i : grid0.Coords) : BitVec 32 :=
  let arg1 : BitVec 32 := BitVec.ofNat 32 (i 1).val
  let c256_i32_17 : BitVec 32 := 256#32
  let v55 : BitVec 32 := Scalar.muli arg1 c256_i32_17
  v55
def k0_mult3 (i : grid0.Coords) : BitVec 32 :=
  let arg1 : BitVec 32 := BitVec.ofNat 32 (i 1).val
  let c256_i32_20 : BitVec 32 := 256#32
  let v61 : BitVec 32 := Scalar.muli arg1 c256_i32_20
  v61
def k0_off2 (i : grid0.Coords) : Fin 2 → Nat :=
  let arg1 : BitVec 32 := BitVec.ofNat 32 (i 1).val
  let c256_i32_20 : BitVec 32 := 256#32
  let v61 : BitVec 32 := Scalar.muli arg1 c256_i32_20
  let v62 : BitVec 32 := v61
  let v63 : Index := Scalar.indexCast v62
  let c128_21 : Index := 128#32
  ![v63.toNat, 128]
def k0_mult4 (i : grid0.Coords) : BitVec 32 :=
  let arg1 : BitVec 32 := BitVec.ofNat 32 (i 1).val
  let c256_i32_23 : BitVec 32 := 256#32
  let v67 : BitVec 32 := Scalar.muli arg1 c256_i32_23
  v67
def k0_mult5 (i : grid0.Coords) : BitVec 32 :=
  let arg1 : BitVec 32 := BitVec.ofNat 32 (i 1).val
  let c256_i32_26 : BitVec 32 := 256#32
  let v73 : BitVec 32 := Scalar.muli arg1 c256_i32_26
  v73
def k0_off3 (i : grid0.Coords) : Fin 2 → Nat :=
  let arg1 : BitVec 32 := BitVec.ofNat 32 (i 1).val
  let c256_i32_26 : BitVec 32 := 256#32
  let v73 : BitVec 32 := Scalar.muli arg1 c256_i32_26
  let v74 : BitVec 32 := v73
  let v75 : Index := Scalar.indexCast v74
  let c256_27 : Index := 256#32
  ![v75.toNat, 256]
def k0_mult6 (i : grid0.Coords) : BitVec 32 :=
  let arg1 : BitVec 32 := BitVec.ofNat 32 (i 1).val
  let c1_i32 : BitVec 32 := 1#32
  let v79 : BitVec 32 := Scalar.subi arg1 c1_i32
  let c0_i32 : BitVec 32 := 0#32
  let v80 : BitVec 32 := Scalar.maxsi v79 c0_i32
  let c256_i32_29 : BitVec 32 := 256#32
  let v81 : BitVec 32 := Scalar.muli v80 c256_i32_29
  v81
def k0_off4 (i : grid0.Coords) : Fin 2 → Nat :=
  let arg1 : BitVec 32 := BitVec.ofNat 32 (i 1).val
  let c1_i32 : BitVec 32 := 1#32
  let v79 : BitVec 32 := Scalar.subi arg1 c1_i32
  let c0_i32 : BitVec 32 := 0#32
  let v80 : BitVec 32 := Scalar.maxsi v79 c0_i32
  let c256_i32_29 : BitVec 32 := 256#32
  let v81 : BitVec 32 := Scalar.muli v80 c256_i32_29
  let v82 : BitVec 32 := v81
  let v83 : Index := Scalar.indexCast v82
  let c0_30 : Index := 0#32
  ![v83.toNat, 0]
def k0_mult7 (i : grid0.Coords) : BitVec 32 :=
  let arg1 : BitVec 32 := BitVec.ofNat 32 (i 1).val
  let c1_i32_32 : BitVec 32 := 1#32
  let v87 : BitVec 32 := Scalar.subi arg1 c1_i32_32
  let c0_i32_33 : BitVec 32 := 0#32
  let v88 : BitVec 32 := Scalar.maxsi v87 c0_i32_33
  let c256_i32_34 : BitVec 32 := 256#32
  let v89 : BitVec 32 := Scalar.muli v88 c256_i32_34
  v89
def k0_mult8 (i : grid0.Coords) : BitVec 32 :=
  let arg1 : BitVec 32 := BitVec.ofNat 32 (i 1).val
  let c1_i32_37 : BitVec 32 := 1#32
  let v95 : BitVec 32 := Scalar.subi arg1 c1_i32_37
  let c0_i32_38 : BitVec 32 := 0#32
  let v96 : BitVec 32 := Scalar.maxsi v95 c0_i32_38
  let c256_i32_39 : BitVec 32 := 256#32
  let v97 : BitVec 32 := Scalar.muli v96 c256_i32_39
  v97
def k0_off5 (i : grid0.Coords) : Fin 2 → Nat :=
  let arg1 : BitVec 32 := BitVec.ofNat 32 (i 1).val
  let c1_i32_37 : BitVec 32 := 1#32
  let v95 : BitVec 32 := Scalar.subi arg1 c1_i32_37
  let c0_i32_38 : BitVec 32 := 0#32
  let v96 : BitVec 32 := Scalar.maxsi v95 c0_i32_38
  let c256_i32_39 : BitVec 32 := 256#32
  let v97 : BitVec 32 := Scalar.muli v96 c256_i32_39
  let v98 : BitVec 32 := v97
  let v99 : Index := Scalar.indexCast v98
  let c128_40 : Index := 128#32
  ![v99.toNat, 128]
def k0_mult9 (i : grid0.Coords) : BitVec 32 :=
  let arg1 : BitVec 32 := BitVec.ofNat 32 (i 1).val
  let c1_i32_42 : BitVec 32 := 1#32
  let v103 : BitVec 32 := Scalar.subi arg1 c1_i32_42
  let c0_i32_43 : BitVec 32 := 0#32
  let v104 : BitVec 32 := Scalar.maxsi v103 c0_i32_43
  let c256_i32_44 : BitVec 32 := 256#32
  let v105 : BitVec 32 := Scalar.muli v104 c256_i32_44
  v105
def k0_mult10 (i : grid0.Coords) : BitVec 32 :=
  let arg1 : BitVec 32 := BitVec.ofNat 32 (i 1).val
  let c1_i32_47 : BitVec 32 := 1#32
  let v111 : BitVec 32 := Scalar.subi arg1 c1_i32_47
  let c0_i32_48 : BitVec 32 := 0#32
  let v112 : BitVec 32 := Scalar.maxsi v111 c0_i32_48
  let c256_i32_49 : BitVec 32 := 256#32
  let v113 : BitVec 32 := Scalar.muli v112 c256_i32_49
  v113
def k0_off6 (i : grid0.Coords) : Fin 2 → Nat :=
  let arg1 : BitVec 32 := BitVec.ofNat 32 (i 1).val
  let c1_i32_47 : BitVec 32 := 1#32
  let v111 : BitVec 32 := Scalar.subi arg1 c1_i32_47
  let c0_i32_48 : BitVec 32 := 0#32
  let v112 : BitVec 32 := Scalar.maxsi v111 c0_i32_48
  let c256_i32_49 : BitVec 32 := 256#32
  let v113 : BitVec 32 := Scalar.muli v112 c256_i32_49
  let v114 : BitVec 32 := v113
  let v115 : Index := Scalar.indexCast v114
  let c256_50 : Index := 256#32
  ![v115.toNat, 256]
@[reducible] def k0_t1_loop (i : grid0.Coords) : Scf.Loop 32 :=
  let c0_i32_103 : BitVec 32 := 0#32
  let arg1 : BitVec 32 := BitVec.ofNat 32 (i 1).val
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_105 : BitVec 32 := 1#32
  ⟨c0_i32_103, v350, c1_i32_105⟩
def k0_mult11 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_146 : BitVec 32 := 1#32
  let v421 : BitVec 32 := Scalar.subi v420 c1_i32_146
  let c0_i32_147 : BitVec 32 := 0#32
  let v422 : BitVec 32 := Scalar.maxsi v421 c0_i32_147
  let c256_i32_148 : BitVec 32 := 256#32
  let v423 : BitVec 32 := Scalar.muli v422 c256_i32_148
  v423
def k0_off7 (i : grid0.Coords) (k0_t1 : Fin (k0_t1_loop i).trips) (c1_i32_145 : BitVec 32) : Fin 2 → Nat :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let v419 : BitVec 32 := Scalar.addi v418 c1_i32_145
  let v420 : BitVec 32 := Scalar.subi arg1 v419
  let c1_i32_146 : BitVec 32 := 1#32
  let v421 : BitVec 32 := Scalar.subi v420 c1_i32_146
  let c0_i32_147 : BitVec 32 := 0#32
  let v422 : BitVec 32 := Scalar.maxsi v421 c0_i32_147
  let c256_i32_148 : BitVec 32 := 256#32
  let v423 : BitVec 32 := Scalar.muli v422 c256_i32_148
  let v424 : BitVec 32 := v423
  let v425 : Index := Scalar.indexCast v424
  let c0_149 : Index := 0#32
  ![v425.toNat, 0]
def k0_mult12 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_151 : BitVec 32 := 1#32
  let v429 : BitVec 32 := Scalar.subi v420 c1_i32_151
  let c0_i32_152 : BitVec 32 := 0#32
  let v430 : BitVec 32 := Scalar.maxsi v429 c0_i32_152
  let c256_i32_153 : BitVec 32 := 256#32
  let v431 : BitVec 32 := Scalar.muli v430 c256_i32_153
  v431
def k0_mult13 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_156 : BitVec 32 := 1#32
  let v437 : BitVec 32 := Scalar.subi v420 c1_i32_156
  let c0_i32_157 : BitVec 32 := 0#32
  let v438 : BitVec 32 := Scalar.maxsi v437 c0_i32_157
  let c256_i32_158 : BitVec 32 := 256#32
  let v439 : BitVec 32 := Scalar.muli v438 c256_i32_158
  v439
def k0_off8 (i : grid0.Coords) (k0_t1 : Fin (k0_t1_loop i).trips) (c1_i32_145 : BitVec 32) : Fin 2 → Nat :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let v419 : BitVec 32 := Scalar.addi v418 c1_i32_145
  let v420 : BitVec 32 := Scalar.subi arg1 v419
  let c1_i32_156 : BitVec 32 := 1#32
  let v437 : BitVec 32 := Scalar.subi v420 c1_i32_156
  let c0_i32_157 : BitVec 32 := 0#32
  let v438 : BitVec 32 := Scalar.maxsi v437 c0_i32_157
  let c256_i32_158 : BitVec 32 := 256#32
  let v439 : BitVec 32 := Scalar.muli v438 c256_i32_158
  let v440 : BitVec 32 := v439
  let v441 : Index := Scalar.indexCast v440
  let c128_159 : Index := 128#32
  ![v441.toNat, 128]
def k0_mult14 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_161 : BitVec 32 := 1#32
  let v445 : BitVec 32 := Scalar.subi v420 c1_i32_161
  let c0_i32_162 : BitVec 32 := 0#32
  let v446 : BitVec 32 := Scalar.maxsi v445 c0_i32_162
  let c256_i32_163 : BitVec 32 := 256#32
  let v447 : BitVec 32 := Scalar.muli v446 c256_i32_163
  v447
def k0_mult15 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_166 : BitVec 32 := 1#32
  let v453 : BitVec 32 := Scalar.subi v420 c1_i32_166
  let c0_i32_167 : BitVec 32 := 0#32
  let v454 : BitVec 32 := Scalar.maxsi v453 c0_i32_167
  let c256_i32_168 : BitVec 32 := 256#32
  let v455 : BitVec 32 := Scalar.muli v454 c256_i32_168
  v455
def k0_off9 (i : grid0.Coords) (k0_t1 : Fin (k0_t1_loop i).trips) (c1_i32_145 : BitVec 32) : Fin 2 → Nat :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let v419 : BitVec 32 := Scalar.addi v418 c1_i32_145
  let v420 : BitVec 32 := Scalar.subi arg1 v419
  let c1_i32_166 : BitVec 32 := 1#32
  let v453 : BitVec 32 := Scalar.subi v420 c1_i32_166
  let c0_i32_167 : BitVec 32 := 0#32
  let v454 : BitVec 32 := Scalar.maxsi v453 c0_i32_167
  let c256_i32_168 : BitVec 32 := 256#32
  let v455 : BitVec 32 := Scalar.muli v454 c256_i32_168
  let v456 : BitVec 32 := v455
  let v457 : Index := Scalar.indexCast v456
  let c256_169 : Index := 256#32
  ![v457.toNat, 256]
def k0_mult16 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_171 : BitVec 32 := 1#32
  let v461 : BitVec 32 := Scalar.addi v420 c1_i32_171
  let c256_i32_172 : BitVec 32 := 256#32
  let v462 : BitVec 32 := Scalar.muli v461 c256_i32_172
  v462
def k0_off10 (i : grid0.Coords) (k0_t1 : Fin (k0_t1_loop i).trips) (c1_i32_145 : BitVec 32) : Fin 3 → Nat :=
  let c0_173 : Index := 0#32
  let c0_174 : Index := 0#32
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let v419 : BitVec 32 := Scalar.addi v418 c1_i32_145
  let v420 : BitVec 32 := Scalar.subi arg1 v419
  let c1_i32_171 : BitVec 32 := 1#32
  let v461 : BitVec 32 := Scalar.addi v420 c1_i32_171
  let c256_i32_172 : BitVec 32 := 256#32
  let v462 : BitVec 32 := Scalar.muli v461 c256_i32_172
  let v463 : BitVec 32 := v462
  let v464 : Index := Scalar.indexCast v463
  ![0, 0, v464.toNat]
def k0_mult17 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_176 : BitVec 32 := 1#32
  let v469 : BitVec 32 := Scalar.addi v420 c1_i32_176
  let c256_i32_177 : BitVec 32 := 256#32
  let v470 : BitVec 32 := Scalar.muli v469 c256_i32_177
  v470
def k0_mult18 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_181 : BitVec 32 := 1#32
  let v477 : BitVec 32 := Scalar.addi v420 c1_i32_181
  let c256_i32_182 : BitVec 32 := 256#32
  let v478 : BitVec 32 := Scalar.muli v477 c256_i32_182
  v478
def k0_off11 (i : grid0.Coords) (k0_t1 : Fin (k0_t1_loop i).trips) (c1_i32_145 : BitVec 32) : Fin 3 → Nat :=
  let c0_183 : Index := 0#32
  let c128_184 : Index := 128#32
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let v419 : BitVec 32 := Scalar.addi v418 c1_i32_145
  let v420 : BitVec 32 := Scalar.subi arg1 v419
  let c1_i32_181 : BitVec 32 := 1#32
  let v477 : BitVec 32 := Scalar.addi v420 c1_i32_181
  let c256_i32_182 : BitVec 32 := 256#32
  let v478 : BitVec 32 := Scalar.muli v477 c256_i32_182
  let v479 : BitVec 32 := v478
  let v480 : Index := Scalar.indexCast v479
  ![0, 128, v480.toNat]
def k0_mult19 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_186 : BitVec 32 := 1#32
  let v485 : BitVec 32 := Scalar.addi v420 c1_i32_186
  let c256_i32_187 : BitVec 32 := 256#32
  let v486 : BitVec 32 := Scalar.muli v485 c256_i32_187
  v486
def k0_mult20 (i : grid0.Coords) (k0_t1 : Fin (k0_t1_loop i).trips) : BitVec 32 :=
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_191 : BitVec 32 := 1#32
  let v493 : BitVec 32 := Scalar.addi v420 c1_i32_191
  let c256_i32_192 : BitVec 32 := 256#32
  let v494 : BitVec 32 := Scalar.muli v493 c256_i32_192
  v494
def k0_off12 (i : grid0.Coords) (k0_t1 : Fin (k0_t1_loop i).trips) (c1_i32_145 : BitVec 32) : Fin 3 → Nat :=
  let c0_193 : Index := 0#32
  let c256_194 : Index := 256#32
  let arg1 : BitVec 32 := BitVec.ofNat 32 (i 1).val
  let c2_i32_144 : BitVec 32 := 2#32
  let c0_i32_103 : BitVec 32 := 0#32
  let c1_i32_105 : BitVec 32 := 1#32
  let arg6 : BitVec 32 := Scf.iv c0_i32_103 c1_i32_105 k0_t1
  let v418 : BitVec 32 := Scalar.muli c2_i32_144 arg6
  let v419 : BitVec 32 := Scalar.addi v418 c1_i32_145
  let v420 : BitVec 32 := Scalar.subi arg1 v419
  let c1_i32_191 : BitVec 32 := 1#32
  let v493 : BitVec 32 := Scalar.addi v420 c1_i32_191
  let c256_i32_192 : BitVec 32 := 256#32
  let v494 : BitVec 32 := Scalar.muli v493 c256_i32_192
  let v495 : BitVec 32 := v494
  let v496 : Index := Scalar.indexCast v495
  ![0, 256, v496.toNat]
def k0_mult21 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_231 : BitVec 32 := 1#32
  let v692 : BitVec 32 := Scalar.subi v691 c1_i32_231
  let c0_i32_232 : BitVec 32 := 0#32
  let v693 : BitVec 32 := Scalar.maxsi v692 c0_i32_232
  let c256_i32_233 : BitVec 32 := 256#32
  let v694 : BitVec 32 := Scalar.muli v693 c256_i32_233
  v694
def k0_mult22 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_236 : BitVec 32 := 1#32
  let v700 : BitVec 32 := Scalar.subi v691 c1_i32_236
  let c0_i32_237 : BitVec 32 := 0#32
  let v701 : BitVec 32 := Scalar.maxsi v700 c0_i32_237
  let c256_i32_238 : BitVec 32 := 256#32
  let v702 : BitVec 32 := Scalar.muli v701 c256_i32_238
  v702
def k0_mult23 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_241 : BitVec 32 := 1#32
  let v708 : BitVec 32 := Scalar.subi v691 c1_i32_241
  let c0_i32_242 : BitVec 32 := 0#32
  let v709 : BitVec 32 := Scalar.maxsi v708 c0_i32_242
  let c256_i32_243 : BitVec 32 := 256#32
  let v710 : BitVec 32 := Scalar.muli v709 c256_i32_243
  v710
def k0_mult24 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_246 : BitVec 32 := 1#32
  let v716 : BitVec 32 := Scalar.subi v691 c1_i32_246
  let c0_i32_247 : BitVec 32 := 0#32
  let v717 : BitVec 32 := Scalar.maxsi v716 c0_i32_247
  let c256_i32_248 : BitVec 32 := 256#32
  let v718 : BitVec 32 := Scalar.muli v717 c256_i32_248
  v718
def k0_mult25 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_251 : BitVec 32 := 1#32
  let v724 : BitVec 32 := Scalar.subi v691 c1_i32_251
  let c0_i32_252 : BitVec 32 := 0#32
  let v725 : BitVec 32 := Scalar.maxsi v724 c0_i32_252
  let c256_i32_253 : BitVec 32 := 256#32
  let v726 : BitVec 32 := Scalar.muli v725 c256_i32_253
  v726
def k0_mult26 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_256 : BitVec 32 := 1#32
  let v732 : BitVec 32 := Scalar.addi v691 c1_i32_256
  let c256_i32_257 : BitVec 32 := 256#32
  let v733 : BitVec 32 := Scalar.muli v732 c256_i32_257
  v733
def k0_mult27 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_261 : BitVec 32 := 1#32
  let v740 : BitVec 32 := Scalar.addi v691 c1_i32_261
  let c256_i32_262 : BitVec 32 := 256#32
  let v741 : BitVec 32 := Scalar.muli v740 c256_i32_262
  v741
def k0_mult28 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_266 : BitVec 32 := 1#32
  let v748 : BitVec 32 := Scalar.addi v691 c1_i32_266
  let c256_i32_267 : BitVec 32 := 256#32
  let v749 : BitVec 32 := Scalar.muli v748 c256_i32_267
  v749
def k0_mult29 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_271 : BitVec 32 := 1#32
  let v756 : BitVec 32 := Scalar.addi v691 c1_i32_271
  let c256_i32_272 : BitVec 32 := 256#32
  let v757 : BitVec 32 := Scalar.muli v756 c256_i32_272
  v757
def k0_mult30 (i : grid0.Coords) (k0_t1 : Fin (k0_t1_loop i).trips) : BitVec 32 :=
  let arg1 : BitVec 32 := BitVec.ofNat 32 (i 1).val
  let c2_i32_142 : BitVec 32 := 2#32
  let c0_i32_103 : BitVec 32 := 0#32
  let c1_i32_105 : BitVec 32 := 1#32
  let arg6 : BitVec 32 := Scf.iv c0_i32_103 c1_i32_105 k0_t1
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_276 : BitVec 32 := 1#32
  let v764 : BitVec 32 := Scalar.addi v691 c1_i32_276
  let c256_i32_277 : BitVec 32 := 256#32
  let v765 : BitVec 32 := Scalar.muli v764 c256_i32_277
  v765
@[reducible] def k0_t2_loop (i : grid0.Coords) : Scf.Loop 32 :=
  let c0_i32_103 : BitVec 32 := 0#32
  let arg1 : BitVec 32 := BitVec.ofNat 32 (i 1).val
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let v347 : BitVec 32 := Scalar.addi c0_i32_103 v346
  let c1_i32_106 : BitVec 32 := 1#32
  ⟨v350, v347, c1_i32_106⟩
def k0_mult31 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_146 : BitVec 32 := 1#32
  let v421 : BitVec 32 := Scalar.subi v420 c1_i32_146
  let c0_i32_147 : BitVec 32 := 0#32
  let v422 : BitVec 32 := Scalar.maxsi v421 c0_i32_147
  let c256_i32_148 : BitVec 32 := 256#32
  let v423 : BitVec 32 := Scalar.muli v422 c256_i32_148
  v423
def k0_off13 (i : grid0.Coords) (k0_t2 : Fin (k0_t2_loop i).trips) (c1_i32_145 : BitVec 32) : Fin 2 → Nat :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let v419 : BitVec 32 := Scalar.addi v418 c1_i32_145
  let v420 : BitVec 32 := Scalar.subi arg1 v419
  let c1_i32_146 : BitVec 32 := 1#32
  let v421 : BitVec 32 := Scalar.subi v420 c1_i32_146
  let c0_i32_147 : BitVec 32 := 0#32
  let v422 : BitVec 32 := Scalar.maxsi v421 c0_i32_147
  let c256_i32_148 : BitVec 32 := 256#32
  let v423 : BitVec 32 := Scalar.muli v422 c256_i32_148
  let v424 : BitVec 32 := v423
  let v425 : Index := Scalar.indexCast v424
  let c0_149 : Index := 0#32
  ![v425.toNat, 0]
def k0_mult32 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_151 : BitVec 32 := 1#32
  let v429 : BitVec 32 := Scalar.subi v420 c1_i32_151
  let c0_i32_152 : BitVec 32 := 0#32
  let v430 : BitVec 32 := Scalar.maxsi v429 c0_i32_152
  let c256_i32_153 : BitVec 32 := 256#32
  let v431 : BitVec 32 := Scalar.muli v430 c256_i32_153
  v431
def k0_mult33 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_156 : BitVec 32 := 1#32
  let v437 : BitVec 32 := Scalar.subi v420 c1_i32_156
  let c0_i32_157 : BitVec 32 := 0#32
  let v438 : BitVec 32 := Scalar.maxsi v437 c0_i32_157
  let c256_i32_158 : BitVec 32 := 256#32
  let v439 : BitVec 32 := Scalar.muli v438 c256_i32_158
  v439
def k0_off14 (i : grid0.Coords) (k0_t2 : Fin (k0_t2_loop i).trips) (c1_i32_145 : BitVec 32) : Fin 2 → Nat :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let v419 : BitVec 32 := Scalar.addi v418 c1_i32_145
  let v420 : BitVec 32 := Scalar.subi arg1 v419
  let c1_i32_156 : BitVec 32 := 1#32
  let v437 : BitVec 32 := Scalar.subi v420 c1_i32_156
  let c0_i32_157 : BitVec 32 := 0#32
  let v438 : BitVec 32 := Scalar.maxsi v437 c0_i32_157
  let c256_i32_158 : BitVec 32 := 256#32
  let v439 : BitVec 32 := Scalar.muli v438 c256_i32_158
  let v440 : BitVec 32 := v439
  let v441 : Index := Scalar.indexCast v440
  let c128_159 : Index := 128#32
  ![v441.toNat, 128]
def k0_mult34 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_161 : BitVec 32 := 1#32
  let v445 : BitVec 32 := Scalar.subi v420 c1_i32_161
  let c0_i32_162 : BitVec 32 := 0#32
  let v446 : BitVec 32 := Scalar.maxsi v445 c0_i32_162
  let c256_i32_163 : BitVec 32 := 256#32
  let v447 : BitVec 32 := Scalar.muli v446 c256_i32_163
  v447
def k0_mult35 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_166 : BitVec 32 := 1#32
  let v453 : BitVec 32 := Scalar.subi v420 c1_i32_166
  let c0_i32_167 : BitVec 32 := 0#32
  let v454 : BitVec 32 := Scalar.maxsi v453 c0_i32_167
  let c256_i32_168 : BitVec 32 := 256#32
  let v455 : BitVec 32 := Scalar.muli v454 c256_i32_168
  v455
def k0_off15 (i : grid0.Coords) (k0_t2 : Fin (k0_t2_loop i).trips) (c1_i32_145 : BitVec 32) : Fin 2 → Nat :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let v419 : BitVec 32 := Scalar.addi v418 c1_i32_145
  let v420 : BitVec 32 := Scalar.subi arg1 v419
  let c1_i32_166 : BitVec 32 := 1#32
  let v453 : BitVec 32 := Scalar.subi v420 c1_i32_166
  let c0_i32_167 : BitVec 32 := 0#32
  let v454 : BitVec 32 := Scalar.maxsi v453 c0_i32_167
  let c256_i32_168 : BitVec 32 := 256#32
  let v455 : BitVec 32 := Scalar.muli v454 c256_i32_168
  let v456 : BitVec 32 := v455
  let v457 : Index := Scalar.indexCast v456
  let c256_169 : Index := 256#32
  ![v457.toNat, 256]
def k0_mult36 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_171 : BitVec 32 := 1#32
  let v461 : BitVec 32 := Scalar.addi v420 c1_i32_171
  let c256_i32_172 : BitVec 32 := 256#32
  let v462 : BitVec 32 := Scalar.muli v461 c256_i32_172
  v462
def k0_off16 (i : grid0.Coords) (k0_t2 : Fin (k0_t2_loop i).trips) (c1_i32_145 : BitVec 32) : Fin 3 → Nat :=
  let c0_173 : Index := 0#32
  let c0_174 : Index := 0#32
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let v419 : BitVec 32 := Scalar.addi v418 c1_i32_145
  let v420 : BitVec 32 := Scalar.subi arg1 v419
  let c1_i32_171 : BitVec 32 := 1#32
  let v461 : BitVec 32 := Scalar.addi v420 c1_i32_171
  let c256_i32_172 : BitVec 32 := 256#32
  let v462 : BitVec 32 := Scalar.muli v461 c256_i32_172
  let v463 : BitVec 32 := v462
  let v464 : Index := Scalar.indexCast v463
  ![0, 0, v464.toNat]
def k0_mult37 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_176 : BitVec 32 := 1#32
  let v469 : BitVec 32 := Scalar.addi v420 c1_i32_176
  let c256_i32_177 : BitVec 32 := 256#32
  let v470 : BitVec 32 := Scalar.muli v469 c256_i32_177
  v470
def k0_mult38 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_181 : BitVec 32 := 1#32
  let v477 : BitVec 32 := Scalar.addi v420 c1_i32_181
  let c256_i32_182 : BitVec 32 := 256#32
  let v478 : BitVec 32 := Scalar.muli v477 c256_i32_182
  v478
def k0_off17 (i : grid0.Coords) (k0_t2 : Fin (k0_t2_loop i).trips) (c1_i32_145 : BitVec 32) : Fin 3 → Nat :=
  let c0_183 : Index := 0#32
  let c128_184 : Index := 128#32
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let v419 : BitVec 32 := Scalar.addi v418 c1_i32_145
  let v420 : BitVec 32 := Scalar.subi arg1 v419
  let c1_i32_181 : BitVec 32 := 1#32
  let v477 : BitVec 32 := Scalar.addi v420 c1_i32_181
  let c256_i32_182 : BitVec 32 := 256#32
  let v478 : BitVec 32 := Scalar.muli v477 c256_i32_182
  let v479 : BitVec 32 := v478
  let v480 : Index := Scalar.indexCast v479
  ![0, 128, v480.toNat]
def k0_mult39 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_186 : BitVec 32 := 1#32
  let v485 : BitVec 32 := Scalar.addi v420 c1_i32_186
  let c256_i32_187 : BitVec 32 := 256#32
  let v486 : BitVec 32 := Scalar.muli v485 c256_i32_187
  v486
def k0_mult40 (i : grid0.Coords) (k0_t2 : Fin (k0_t2_loop i).trips) : BitVec 32 :=
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let c1_i32_145 : BitVec 32 := 1#32
  let v419 : BitVec 32 := Scalar.addi v418 c1_i32_145
  let v420 : BitVec 32 := Scalar.subi arg1 v419
  let c1_i32_191 : BitVec 32 := 1#32
  let v493 : BitVec 32 := Scalar.addi v420 c1_i32_191
  let c256_i32_192 : BitVec 32 := 256#32
  let v494 : BitVec 32 := Scalar.muli v493 c256_i32_192
  v494
def k0_off18 (i : grid0.Coords) (k0_t2 : Fin (k0_t2_loop i).trips) (c1_i32_145 : BitVec 32) : Fin 3 → Nat :=
  let c0_193 : Index := 0#32
  let c256_194 : Index := 256#32
  let arg1 : BitVec 32 := BitVec.ofNat 32 (i 1).val
  let c2_i32_144 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v418 : BitVec 32 := Scalar.muli c2_i32_144 arg6
  let v419 : BitVec 32 := Scalar.addi v418 c1_i32_145
  let v420 : BitVec 32 := Scalar.subi arg1 v419
  let c1_i32_191 : BitVec 32 := 1#32
  let v493 : BitVec 32 := Scalar.addi v420 c1_i32_191
  let c256_i32_192 : BitVec 32 := 256#32
  let v494 : BitVec 32 := Scalar.muli v493 c256_i32_192
  let v495 : BitVec 32 := v494
  let v496 : Index := Scalar.indexCast v495
  ![0, 256, v496.toNat]
def k0_mult41 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_231 : BitVec 32 := 1#32
  let v692 : BitVec 32 := Scalar.subi v691 c1_i32_231
  let c0_i32_232 : BitVec 32 := 0#32
  let v693 : BitVec 32 := Scalar.maxsi v692 c0_i32_232
  let c256_i32_233 : BitVec 32 := 256#32
  let v694 : BitVec 32 := Scalar.muli v693 c256_i32_233
  v694
def k0_mult42 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_236 : BitVec 32 := 1#32
  let v700 : BitVec 32 := Scalar.subi v691 c1_i32_236
  let c0_i32_237 : BitVec 32 := 0#32
  let v701 : BitVec 32 := Scalar.maxsi v700 c0_i32_237
  let c256_i32_238 : BitVec 32 := 256#32
  let v702 : BitVec 32 := Scalar.muli v701 c256_i32_238
  v702
def k0_mult43 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_241 : BitVec 32 := 1#32
  let v708 : BitVec 32 := Scalar.subi v691 c1_i32_241
  let c0_i32_242 : BitVec 32 := 0#32
  let v709 : BitVec 32 := Scalar.maxsi v708 c0_i32_242
  let c256_i32_243 : BitVec 32 := 256#32
  let v710 : BitVec 32 := Scalar.muli v709 c256_i32_243
  v710
def k0_mult44 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_246 : BitVec 32 := 1#32
  let v716 : BitVec 32 := Scalar.subi v691 c1_i32_246
  let c0_i32_247 : BitVec 32 := 0#32
  let v717 : BitVec 32 := Scalar.maxsi v716 c0_i32_247
  let c256_i32_248 : BitVec 32 := 256#32
  let v718 : BitVec 32 := Scalar.muli v717 c256_i32_248
  v718
def k0_mult45 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_251 : BitVec 32 := 1#32
  let v724 : BitVec 32 := Scalar.subi v691 c1_i32_251
  let c0_i32_252 : BitVec 32 := 0#32
  let v725 : BitVec 32 := Scalar.maxsi v724 c0_i32_252
  let c256_i32_253 : BitVec 32 := 256#32
  let v726 : BitVec 32 := Scalar.muli v725 c256_i32_253
  v726
def k0_mult46 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_256 : BitVec 32 := 1#32
  let v732 : BitVec 32 := Scalar.addi v691 c1_i32_256
  let c256_i32_257 : BitVec 32 := 256#32
  let v733 : BitVec 32 := Scalar.muli v732 c256_i32_257
  v733
def k0_mult47 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_261 : BitVec 32 := 1#32
  let v740 : BitVec 32 := Scalar.addi v691 c1_i32_261
  let c256_i32_262 : BitVec 32 := 256#32
  let v741 : BitVec 32 := Scalar.muli v740 c256_i32_262
  v741
def k0_mult48 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_266 : BitVec 32 := 1#32
  let v748 : BitVec 32 := Scalar.addi v691 c1_i32_266
  let c256_i32_267 : BitVec 32 := 256#32
  let v749 : BitVec 32 := Scalar.muli v748 c256_i32_267
  v749
def k0_mult49 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_271 : BitVec 32 := 1#32
  let v756 : BitVec 32 := Scalar.addi v691 c1_i32_271
  let c256_i32_272 : BitVec 32 := 256#32
  let v757 : BitVec 32 := Scalar.muli v756 c256_i32_272
  v757
def k0_mult50 (i : grid0.Coords) (k0_t2 : Fin (k0_t2_loop i).trips) : BitVec 32 :=
  let arg1 : BitVec 32 := BitVec.ofNat 32 (i 1).val
  let c2_i32_142 : BitVec 32 := 2#32
  let c0_i32_103 : BitVec 32 := 0#32
  let c0_i32_97 : BitVec 32 := 0#32
  let v330 : BitVec 1 := Scalar.cmpi .sgt arg1 c0_i32_97
  let v331 : BitVec 32 := Scalar.extui v330
  let c0_i32_98 : BitVec 32 := 0#32
  let v332 : BitVec 1 := Scalar.cmpi .slt arg1 c0_i32_98
  let v333 : BitVec 32 := Scalar.extui v332
  let v334 : BitVec 32 := Scalar.subi v331 v333
  let c2_i32 : BitVec 32 := 2#32
  let c0_i32_99 : BitVec 32 := 0#32
  let v335 : BitVec 1 := Scalar.cmpi .sgt c2_i32 c0_i32_99
  let v336 : BitVec 32 := Scalar.extui v335
  let c0_i32_100 : BitVec 32 := 0#32
  let v337 : BitVec 1 := Scalar.cmpi .slt c2_i32 c0_i32_100
  let v338 : BitVec 32 := Scalar.extui v337
  let v339 : BitVec 32 := Scalar.subi v336 v338
  let v340 : BitVec 1 := Scalar.cmpi .ne v334 v339
  let v341 : BitVec 32 := Scalar.remsi arg1 c2_i32
  let c0_i32_101 : BitVec 32 := 0#32
  let v342 : BitVec 1 := Scalar.cmpi .ne v341 c0_i32_101
  let v343 : BitVec 1 := Scalar.andi v340 v342
  let v329 : BitVec 32 := Scalar.divsi arg1 c2_i32
  let c1_i32_102 : BitVec 32 := 1#32
  let v344 : BitVec 32 := Scalar.subi v329 c1_i32_102
  let v345 : BitVec 32 := Scalar.select v343 v344 v329
  let v346 : BitVec 32 := Scalar.subi v345 c0_i32_103
  let c1_i32_104 : BitVec 32 := 1#32
  let v348 : BitVec 32 := Scalar.divsi v346 c1_i32_104
  let v349 : BitVec 32 := Scalar.muli v348 c1_i32_104
  let v350 : BitVec 32 := Scalar.addi c0_i32_103 v349
  let c1_i32_106 : BitVec 32 := 1#32
  let arg6 : BitVec 32 := Scf.iv v350 c1_i32_106 k0_t2
  let v416 : BitVec 32 := Scalar.muli c2_i32_142 arg6
  let c2_i32_143 : BitVec 32 := 2#32
  let v417 : BitVec 32 := Scalar.addi v416 c2_i32_143
  let v691 : BitVec 32 := Scalar.subi arg1 v417
  let c1_i32_276 : BitVec 32 := 1#32
  let v764 : BitVec 32 := Scalar.addi v691 c1_i32_276
  let c256_i32_277 : BitVec 32 := 256#32
  let v765 : BitVec 32 := Scalar.muli v764 c256_i32_277
  v765
def k0_cond1 (i : grid0.Coords) : BitVec 1 :=
  let arg1 : BitVec 32 := BitVec.ofNat 32 (i 1).val
  let c2_i32_107 : BitVec 32 := 2#32
  let c0_i32_108 : BitVec 32 := 0#32
  let v353 : BitVec 1 := Scalar.cmpi .eq c2_i32_107 c0_i32_108
  let c1_i32_109 : BitVec 32 := 1#32
  let v354 : BitVec 32 := Scalar.select v353 c1_i32_109 c2_i32_107
  let v355 : BitVec 32 := Scalar.remsi arg1 v354
  let c0_i32_111 : BitVec 32 := 0#32
  let v357 : BitVec 1 := Scalar.cmpi .slt v355 c0_i32_111
  let c0_i32_112 : BitVec 32 := 0#32
  let v358 : BitVec 1 := Scalar.cmpi .slt v354 c0_i32_112
  let v359 : BitVec 1 := Scalar.xori v357 v358
  let c0_i32_110 : BitVec 32 := 0#32
  let v356 : BitVec 1 := Scalar.cmpi .ne v355 c0_i32_110
  let v360 : BitVec 1 := Scalar.andi v359 v356
  let v361 : BitVec 32 := Scalar.addi v355 v354
  let v362 : BitVec 32 := Scalar.select v360 v361 v355
  let c1_i32_113 : BitVec 32 := 1#32
  let v363 : BitVec 1 := Scalar.cmpi .eq v362 c1_i32_113
  let v364 : BitVec 32 := Scalar.extui v363
  let c0_i32_114 : BitVec 32 := 0#32
  let v365 : BitVec 1 := Scalar.cmpi .ne v364 c0_i32_114
  v365

def k0_mult51 (i : grid0.Coords) : BitVec 32 :=
  let arg1 : BitVec 32 := BitVec.ofNat 32 (i 1).val
  let v416 : BitVec 32 := Scalar.subi arg1 arg1
  let c1_i32_142 : BitVec 32 := 1#32
  let v417 : BitVec 32 := Scalar.addi v416 c1_i32_142
  let c256_i32_143 : BitVec 32 := 256#32
  let v418 : BitVec 32 := Scalar.muli v417 c256_i32_143
  v418
def k0_off19 (i : grid0.Coords) : Fin 3 → Nat :=
  let c0_144 : Index := 0#32
  let c0_145 : Index := 0#32
  let arg1 : BitVec 32 := BitVec.ofNat 32 (i 1).val
  let v416 : BitVec 32 := Scalar.subi arg1 arg1
  let c1_i32_142 : BitVec 32 := 1#32
  let v417 : BitVec 32 := Scalar.addi v416 c1_i32_142
  let c256_i32_143 : BitVec 32 := 256#32
  let v418 : BitVec 32 := Scalar.muli v417 c256_i32_143
  let v419 : BitVec 32 := v418
  let v420 : Index := Scalar.indexCast v419
  ![0, 0, v420.toNat]
def k0_mult52 (i : grid0.Coords) : BitVec 32 :=
  let arg1 : BitVec 32 := BitVec.ofNat 32 (i 1).val
  let v416 : BitVec 32 := Scalar.subi arg1 arg1
  let c1_i32_147 : BitVec 32 := 1#32
  let v425 : BitVec 32 := Scalar.addi v416 c1_i32_147
  let c256_i32_148 : BitVec 32 := 256#32
  let v426 : BitVec 32 := Scalar.muli v425 c256_i32_148
  v426
def k0_mult53 (i : grid0.Coords) : BitVec 32 :=
  let arg1 : BitVec 32 := BitVec.ofNat 32 (i 1).val
  let v416 : BitVec 32 := Scalar.subi arg1 arg1
  let c1_i32_152 : BitVec 32 := 1#32
  let v433 : BitVec 32 := Scalar.addi v416 c1_i32_152
  let c256_i32_153 : BitVec 32 := 256#32
  let v434 : BitVec 32 := Scalar.muli v433 c256_i32_153
  v434
def k0_off20 (i : grid0.Coords) : Fin 3 → Nat :=
  let c0_154 : Index := 0#32
  let c128_155 : Index := 128#32
  let arg1 : BitVec 32 := BitVec.ofNat 32 (i 1).val
  let v416 : BitVec 32 := Scalar.subi arg1 arg1
  let c1_i32_152 : BitVec 32 := 1#32
  let v433 : BitVec 32 := Scalar.addi v416 c1_i32_152
  let c256_i32_153 : BitVec 32 := 256#32
  let v434 : BitVec 32 := Scalar.muli v433 c256_i32_153
  let v435 : BitVec 32 := v434
  let v436 : Index := Scalar.indexCast v435
  ![0, 128, v436.toNat]
def k0_mult54 (i : grid0.Coords) : BitVec 32 :=
  let arg1 : BitVec 32 := BitVec.ofNat 32 (i 1).val
  let v416 : BitVec 32 := Scalar.subi arg1 arg1
  let c1_i32_157 : BitVec 32 := 1#32
  let v441 : BitVec 32 := Scalar.addi v416 c1_i32_157
  let c256_i32_158 : BitVec 32 := 256#32
  let v442 : BitVec 32 := Scalar.muli v441 c256_i32_158
  v442
def k0_mult55 (i : grid0.Coords) : BitVec 32 :=
  let arg1 : BitVec 32 := BitVec.ofNat 32 (i 1).val
  let v416 : BitVec 32 := Scalar.subi arg1 arg1
  let c1_i32_162 : BitVec 32 := 1#32
  let v449 : BitVec 32 := Scalar.addi v416 c1_i32_162
  let c256_i32_163 : BitVec 32 := 256#32
  let v450 : BitVec 32 := Scalar.muli v449 c256_i32_163
  v450
def k0_off21 (i : grid0.Coords) : Fin 3 → Nat :=
  let c0_164 : Index := 0#32
  let c256_165 : Index := 256#32
  let arg1 : BitVec 32 := BitVec.ofNat 32 (i 1).val
  let v416 : BitVec 32 := Scalar.subi arg1 arg1
  let c1_i32_162 : BitVec 32 := 1#32
  let v449 : BitVec 32 := Scalar.addi v416 c1_i32_162
  let c256_i32_163 : BitVec 32 := 256#32
  let v450 : BitVec 32 := Scalar.muli v449 c256_i32_163
  let v451 : BitVec 32 := v450
  let v452 : Index := Scalar.indexCast v451
  ![0, 256, v452.toNat]
def k0_mult56 : BitVec 32 :=
  let c0_i32_115 : BitVec 32 := 0#32
  c0_i32_115
def k0_mult57 : BitVec 32 :=
  let c0_i32_119 : BitVec 32 := 0#32
  c0_i32_119
def k0_mult58 : BitVec 32 :=
  let c0_i32_123 : BitVec 32 := 0#32
  c0_i32_123
def k0_mult59 : BitVec 32 :=
  let c0_i32_127 : BitVec 32 := 0#32
  c0_i32_127
def k0_mult60 : BitVec 32 :=
  let c0_i32_131 : BitVec 32 := 0#32
  c0_i32_131
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x5x64 : Shape := ⟨4, ![16, 2048, 5, 64]⟩
abbrev S16x5x2048x2048 : Shape := ⟨4, ![16, 5, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x5x64x2048 : Shape := ⟨4, ![16, 5, 64, 2048]⟩
abbrev S32768x320 : Shape := ⟨2, ![32768, 320]⟩
abbrev S32768x384 : Shape := ⟨2, ![32768, 384]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x5x64, .f32⟩
  | .hbm, ⟨1, _⟩ => ⟨S16x2048x5x64, .f32⟩
  | .hbm, ⟨2, _⟩ => ⟨S16x2048x5x64, .f32⟩
  | .hbm, ⟨3, _⟩ => ⟨S16x5x2048x2048, .f32⟩
  | .hbm, ⟨4, _⟩ => ⟨S_, .f32⟩
  | .hbm, ⟨5, _⟩ => ⟨S16x5x2048x2048, .f32⟩
  | .hbm, ⟨6, _⟩ => ⟨S16x5x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S16x5x2048x2048, .f32⟩
  | .hbm, ⟨14, _⟩ => ⟨S16x5x2048x2048, .f32⟩
  | .hbm, ⟨15, _⟩ => ⟨S_, .f32⟩
  | .hbm, ⟨16, _⟩ => ⟨S16x5x2048x2048, .f32⟩
  | .hbm, ⟨17, _⟩ => ⟨S16x5x2048x2048, .f32⟩
  | .hbm, ⟨18, _⟩ => ⟨S16x5x2048x2048, .f32⟩
  | .hbm, ⟨19, _⟩ => ⟨S16x5x2048x2048, .f32⟩
  | .hbm, ⟨20, _⟩ => ⟨S16x5x2048x2048, .i1⟩
  | .hbm, ⟨21, _⟩ => ⟨S16x5x2048x2048, .f32⟩
  | .hbm, ⟨22, _⟩ => ⟨S16x5x2048x2048, .f32⟩
  | .hbm, ⟨23, _⟩ => ⟨S16x5x2048x2048, .f32⟩
  | .hbm, ⟨24, _⟩ => ⟨S16x5x2048x2048, .f32⟩
  | .hbm, ⟨25, _⟩ => ⟨S16x5x2048x2048, .f32⟩
  | .hbm, ⟨26, _⟩ => ⟨S16x5x2048x2048, .f32⟩
  | .hbm, ⟨27, _⟩ => ⟨S16x5x2048x2048, .f32⟩
  | .hbm, ⟨28, _⟩ => ⟨S16x5x2048x2048, .f32⟩
  | .hbm, ⟨29, _⟩ => ⟨S16x5x2048x2048, .f32⟩
  | .hbm, ⟨30, _⟩ => ⟨S_, .f32⟩
  | .hbm, ⟨31, _⟩ => ⟨S_, .f32⟩
  | .hbm, ⟨32, _⟩ => ⟨S16x5x2048x2048, .i1⟩
  | .hbm, ⟨33, _⟩ => ⟨S16x5x2048x2048, .f32⟩
  | .hbm, ⟨34, _⟩ => ⟨S16x5x2048x2048, .f32⟩
  | .hbm, ⟨35, _⟩ => ⟨S_, .f32⟩
  | .hbm, ⟨36, _⟩ => ⟨S_, .f32⟩
  | .hbm, ⟨37, _⟩ => ⟨S16x5x2048x2048, .f32⟩
  | .hbm, ⟨38, _⟩ => ⟨S16x5x2048x2048, .f32⟩
  | .hbm, ⟨39, _⟩ => ⟨S16x5x2048x2048, .f32⟩
  | .hbm, ⟨40, _⟩ => ⟨S_, .f32⟩
  | .hbm, ⟨41, _⟩ => ⟨S16x5x2048x2048, .f32⟩
  | .hbm, ⟨42, _⟩ => ⟨S16x5x2048x2048, .f32⟩
  | .hbm, ⟨43, _⟩ => ⟨S16x5x2048x2048, .f32⟩
  | .hbm, ⟨44, _⟩ => ⟨S16x5x2048x2048, .f32⟩
  | .hbm, ⟨45, _⟩ => ⟨S16x5x2048x2048, .i1⟩
  | .hbm, ⟨46, _⟩ => ⟨S16x5x2048x2048, .f32⟩
  | .hbm, ⟨47, _⟩ => ⟨S16x5x2048x2048, .f32⟩
  | .hbm, ⟨48, _⟩ => ⟨S16x5x2048x2048, .f32⟩
  | .hbm, ⟨49, _⟩ => ⟨S16x5x2048x2048, .f32⟩
  | .hbm, ⟨50, _⟩ => ⟨S16x5x2048x2048, .f32⟩
  | .hbm, ⟨51, _⟩ => ⟨S16x5x2048x2048, .f32⟩
  | .hbm, ⟨52, _⟩ => ⟨S16x5x2048x2048, .f32⟩
  | .hbm, ⟨53, _⟩ => ⟨S16x5x2048x2048, .f32⟩
  | .hbm, ⟨54, _⟩ => ⟨S16x5x2048x2048, .f32⟩
  | .hbm, ⟨55, _⟩ => ⟨S16x5x2048x2048, .f32⟩
  | .hbm, ⟨56, _⟩ => ⟨S16x5x2048x2048, .f32⟩
  | .hbm, ⟨57, _⟩ => ⟨S_, .f32⟩
  | .hbm, ⟨58, _⟩ => ⟨S_, .f32⟩
  | .hbm, ⟨59, _⟩ => ⟨S16x5x2048x2048, .i1⟩
  | .hbm, ⟨60, _⟩ => ⟨S16x5x2048x2048, .f32⟩
  | .hbm, ⟨61, _⟩ => ⟨S16x5x2048x2048, .f32⟩
  | .hbm, ⟨62, _⟩ => ⟨S16x5x64x2048, .f32⟩
  | .hbm, ⟨63, _⟩ => ⟨S16x2048x5x64, .f32⟩
  | .hbm, ⟨64, _⟩ => ⟨S32768x320, .f32⟩
  | .hbm, ⟨65, _⟩ => ⟨S_, .i32⟩
  | .hbm, ⟨66, _⟩ => ⟨S_, .f32⟩
  | .hbm, ⟨67, _⟩ => ⟨S32768x384, .f32⟩
  | .hbm, ⟨68, _⟩ => ⟨S32768x384, .bf16⟩
  | _, _ => ⟨S16x2048x5x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_c : Ref sig .tc := ⟨.hbm, 65, rfl⟩
abbrev main_call5_v0 : Ref sig .tc := ⟨.hbm, 66, rfl⟩
abbrev main_v21 : Ref sig .tc := ⟨.hbm, 67, rfl⟩
abbrev main_v22 : Ref sig .tc := ⟨.hbm, 68, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S11x256x1024 : Shape := ⟨3, ![11, 256, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 18
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x11x256, .f32⟩
  | .hbm, ⟨7, _⟩ => ⟨S1024x2816, .f32⟩
  | .hbm, ⟨8, _⟩ => ⟨S1024x11x256, .f32⟩
  | .hbm, ⟨9, _⟩ => ⟨S1024x11x512, .f32⟩
  | .hbm, ⟨10, _⟩ => ⟨S11x1024x512, .f32⟩
  | .hbm, ⟨11, _⟩ => ⟨S11x1024x512, .bf16⟩
  | .hbm, ⟨12, _⟩ => ⟨S11x256x1024, .f32⟩
  | .hbm, ⟨13, _⟩ => ⟨S11x256x1024, .bf16⟩
  | .hbm, ⟨14, _⟩ => ⟨S32768x1024, .f32⟩
  | .hbm, ⟨15, _⟩ => ⟨S1x1024, .f32⟩
  | .hbm, ⟨16, _⟩ => ⟨S1x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S11x1024x512, .bf16⟩
  | .local _ .vmem, ⟨4, _⟩ => ⟨S11x256x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S11x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x5632, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S_, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S16x2048x1024, .f32⟩
  | .hbm, ⟨35, _⟩ => ⟨S_, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x6x64 : Shape := ⟨4, ![16, 2048, 6, 64]⟩
abbrev S16x2048x5x64 : Shape := ⟨4, ![16, 2048, 5, 64]⟩
abbrev S16x2048x3072 : Shape := ⟨3, ![16, 2048, 3072]⟩
abbrev S384x1024 : Shape := ⟨2, ![384, 1024]⟩
abbrev S320x1024 : Shape := ⟨2, ![320, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S11x256x1024 : Shape := ⟨3, ![11, 256, 1024]⟩
abbrev S32768x1024 : Shape := ⟨2, ![32768, 1024]⟩
abbrev S32768x384 : Shape := ⟨2, ![32768, 384]⟩
abbrev S_ : Shape := ⟨0, ![]⟩
abbrev S32768x320 : Shape := ⟨2, ![32768, 320]⟩
abbrev S32768x3072 : Shape := ⟨2, ![32768, 3072]⟩
abbrev S1x1024 : Shape := ⟨2, ![1, 1024]⟩
abbrev S512x1024 : Shape := ⟨2, ![512, 1024]⟩
abbrev S512x384 : Shape := ⟨2, ![512, 384]⟩
abbrev S512x3072 : Shape := ⟨2, ![512, 3072]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 61
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x2048x6x64, .f32⟩
  | .hbm, ⟨2, _⟩ => ⟨S16x2048x5x64, .f32⟩
  | .hbm, ⟨3, _⟩ => ⟨S16x2048x5x64, .f32⟩
  | .hbm, ⟨4, _⟩ => ⟨S16x2048x3072, .f32⟩
  | .hbm, ⟨5, _⟩ => ⟨S384x1024, .f32⟩
  | .hbm, ⟨6, _⟩ => ⟨S320x1024, .f32⟩
  | .hbm, ⟨7, _⟩ => ⟨S320x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S1024x2816, .f32⟩
  | .hbm, ⟨14, _⟩ => ⟨S1024x11x256, .f32⟩
  | .hbm, ⟨15, _⟩ => ⟨S1024x2816, .f32⟩
  | .hbm, ⟨16, _⟩ => ⟨S1024x11x256, .f32⟩
  | .hbm, ⟨17, _⟩ => ⟨S1024x11x512, .f32⟩
  | .hbm, ⟨18, _⟩ => ⟨S11x1024x512, .f32⟩
  | .hbm, ⟨19, _⟩ => ⟨S11x1024x512, .bf16⟩
  | .hbm, ⟨20, _⟩ => ⟨S11x256x1024, .f32⟩
  | .hbm, ⟨21, _⟩ => ⟨S11x256x1024, .bf16⟩
  | .hbm, ⟨22, _⟩ => ⟨S32768x1024, .f32⟩
  | .hbm, ⟨23, _⟩ => ⟨S32768x384, .f32⟩
  | .hbm, ⟨24, _⟩ => ⟨S_, .i32⟩
  | .hbm, ⟨25, _⟩ => ⟨S_, .f32⟩
  | .hbm, ⟨26, _⟩ => ⟨S32768x384, .f32⟩
  | .hbm, ⟨27, _⟩ => ⟨S32768x384, .bf16⟩
  | .hbm, ⟨28, _⟩ => ⟨S32768x320, .f32⟩
  | .hbm, ⟨29, _⟩ => ⟨S_, .i32⟩
  | .hbm, ⟨30, _⟩ => ⟨S_, .f32⟩
  | .hbm, ⟨31, _⟩ => ⟨S32768x384, .f32⟩
  | .hbm, ⟨32, _⟩ => ⟨S32768x384, .bf16⟩
  | .hbm, ⟨33, _⟩ => ⟨S32768x320, .f32⟩
  | .hbm, ⟨34, _⟩ => ⟨S_, .i32⟩
  | .hbm, ⟨35, _⟩ => ⟨S_, .f32⟩
  | .hbm, ⟨36, _⟩ => ⟨S32768x384, .f32⟩
  | .hbm, ⟨37, _⟩ => ⟨S32768x384, .bf16⟩
  | .hbm, ⟨38, _⟩ => ⟨S32768x3072, .f32⟩
  | .hbm, ⟨39, _⟩ => ⟨S32768x3072, .f32⟩
  | .hbm, ⟨40, _⟩ => ⟨S32768x3072, .f32⟩
  | .hbm, ⟨41, _⟩ => ⟨S_, .f32⟩
  | .hbm, ⟨42, _⟩ => ⟨S32768x3072, .f32⟩
  | .hbm, ⟨43, _⟩ => ⟨S32768x3072, .f32⟩
  | .hbm, ⟨44, _⟩ => ⟨S_, .f32⟩
  | .hbm, ⟨45, _⟩ => ⟨S32768x3072, .f32⟩
  | .hbm, ⟨46, _⟩ => ⟨S32768x3072, .f32⟩
  | .hbm, ⟨47, _⟩ => ⟨S32768x3072, .bf16⟩
  | .hbm, ⟨48, _⟩ => ⟨S384x1024, .bf16⟩
  | .hbm, ⟨49, _⟩ => ⟨S_, .i32⟩
  | .hbm, ⟨50, _⟩ => ⟨S_, .f32⟩
  | .hbm, ⟨51, _⟩ => ⟨S384x1024, .f32⟩
  | .hbm, ⟨52, _⟩ => ⟨S384x1024, .bf16⟩
  | .hbm, ⟨53, _⟩ => ⟨S_, .i32⟩
  | .hbm, ⟨54, _⟩ => ⟨S_, .f32⟩
  | .hbm, ⟨55, _⟩ => ⟨S384x1024, .f32⟩
  | .hbm, ⟨56, _⟩ => ⟨S384x1024, .bf16⟩
  | .hbm, ⟨57, _⟩ => ⟨S1024x1024, .bf16⟩
  | .hbm, ⟨58, _⟩ => ⟨S1x1024, .f32⟩
  | .hbm, ⟨59, _⟩ => ⟨S1x1024, .f32⟩
  | .hbm, ⟨60, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x3072, .bf16⟩
  | .local _ .vmem, ⟨9, _⟩ => ⟨S512x3072, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S1024x1024, .bf16⟩
  | .local _ .vmem, ⟨14, _⟩ => ⟨S1x1024, .f32⟩
  | .local _ .vmem, ⟨15, _⟩ => ⟨S11x1024x512, .bf16⟩
  | .local _ .vmem, ⟨16, _⟩ => ⟨S11x256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_call2_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_call3_v0 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_call4_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16x2048x1024 : Shape := ⟨3, ![16, 2048, 1024]⟩
abbrev S16x2048x6x64 : Shape := ⟨4, ![16, 2048, 6, 64]⟩
abbrev S16x2048x5x64 : Shape := ⟨4, ![16, 2048, 5, 64]⟩
abbrev S16x2048x3072 : Shape := ⟨3, ![16, 2048, 3072]⟩
abbrev S384x1024 : Shape := ⟨2, ![384, 1024]⟩
abbrev S320x1024 : Shape := ⟨2, ![320, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048x384 : Shape := ⟨3, ![16, 2048, 384]⟩
abbrev S16x2048x320 : Shape := ⟨3, ![16, 2048, 320]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x6x64, .f32⟩
  | .hbm, ⟨2, _⟩ => ⟨S16x2048x5x64, .f32⟩
  | .hbm, ⟨3, _⟩ => ⟨S16x2048x5x64, .f32⟩
  | .hbm, ⟨4, _⟩ => ⟨S16x2048x3072, .f32⟩
  | .hbm, ⟨5, _⟩ => ⟨S384x1024, .f32⟩
  | .hbm, ⟨6, _⟩ => ⟨S320x1024, .f32⟩
  | .hbm, ⟨7, _⟩ => ⟨S320x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S16x2048x3072, .f32⟩
  | .hbm, ⟨14, _⟩ => ⟨S16x2048x3072, .f32⟩
  | .hbm, ⟨15, _⟩ => ⟨S_, .f32⟩
  | .hbm, ⟨16, _⟩ => ⟨S16x2048x3072, .f32⟩
  | .hbm, ⟨17, _⟩ => ⟨S16x2048x3072, .f32⟩
  | .hbm, ⟨18, _⟩ => ⟨S_, .f32⟩
  | .hbm, ⟨19, _⟩ => ⟨S16x2048x3072, .f32⟩
  | .hbm, ⟨20, _⟩ => ⟨S16x2048x3072, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x384, .f32⟩
  | .hbm, ⟨25, _⟩ => ⟨S16x2048x1024, .f32⟩
  | .hbm, ⟨26, _⟩ => ⟨S16x2048x1024, .f32⟩
  | .hbm, ⟨27, _⟩ => ⟨S16x2048x320, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x320, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S16x2048x5632, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x1024, .f32⟩
  | .hbm, ⟨67, _⟩ => ⟨S_, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S16x2048x1024, .f32⟩
  | .hbm, ⟨72, _⟩ => ⟨S_, .f32⟩
  | .hbm, ⟨73, _⟩ => ⟨S16x2048, .f32⟩
  | .hbm, ⟨74, _⟩ => ⟨S16x2048x1, .f32⟩
  | .hbm, ⟨75, _⟩ => ⟨S_, .f32⟩
  | .hbm, ⟨76, _⟩ => ⟨S16x2048x1, .f32⟩
  | .hbm, ⟨77, _⟩ => ⟨S16x2048x1, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1, .f32⟩
  | .hbm, ⟨82, _⟩ => ⟨S16x2048x1024, .f32⟩
  | .hbm, ⟨83, _⟩ => ⟨S16x2048x1024, .f32⟩
  | .hbm, ⟨84, _⟩ => ⟨S1x1x1024, .f32⟩
  | .hbm, ⟨85, _⟩ => ⟨S16x2048x1024, .f32⟩
  | .hbm, ⟨86, _⟩ => ⟨S16x2048x1024, .f32⟩
  | .hbm, ⟨87, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x2048x6x64 : Shape := ⟨4, ![16, 2048, 6, 64]⟩
abbrev S16x2048x5x64 : Shape := ⟨4, ![16, 2048, 5, 64]⟩
abbrev S16x2048x3072 : Shape := ⟨3, ![16, 2048, 3072]⟩
abbrev S384x1024 : Shape := ⟨2, ![384, 1024]⟩
abbrev S320x1024 : Shape := ⟨2, ![320, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S1024x11x512 : Shape := ⟨3, ![1024, 11, 512]⟩
abbrev S11x1024x512 : Shape := ⟨3, ![11, 1024, 512]⟩
abbrev S11x256x1024 : Shape := ⟨3, ![11, 256, 1024]⟩
abbrev S32768x1024 : Shape := ⟨2, ![32768, 1024]⟩
abbrev S32768x384 : Shape := ⟨2, ![32768, 384]⟩
abbrev S_ : Shape := ⟨0, ![]⟩
abbrev S32768x320 : Shape := ⟨2, ![32768, 320]⟩
abbrev S32768x3072 : Shape := ⟨2, ![32768, 3072]⟩
abbrev S1x1024 : Shape := ⟨2, ![1, 1024]⟩
abbrev S512x1024 : Shape := ⟨2, ![512, 1024]⟩
abbrev S512x384 : Shape := ⟨2, ![512, 384]⟩
abbrev S512x3072 : Shape := ⟨2, ![512, 3072]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 61
  | .vmem => 21
  | .smem => 0
  | _ => 0

abbrev bufTy : (tb : Table) → Fin (tcTables nBuf tb) → BufTy
  | .hbm, ⟨0, _⟩ => ⟨S16x2048x1024, .f32⟩
  | .hbm, ⟨1, _⟩ => ⟨S16x2048x6x64, .f32⟩
  | .hbm, ⟨2, _⟩ => ⟨S16x2048x5x64, .f32⟩
  | .hbm, ⟨3, _⟩ => ⟨S16x2048x5x64, .f32⟩
  | .hbm, ⟨4, _⟩ => ⟨S16x2048x3072, .f32⟩
  | .hbm, ⟨5, _⟩ => ⟨S384x1024, .f32⟩
  | .hbm, ⟨6, _⟩ => ⟨S320x1024, .f32⟩
  | .hbm, ⟨7, _⟩ => ⟨S320x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S1024x2816, .f32⟩
  | .hbm, ⟨14, _⟩ => ⟨S1024x11x256, .f32⟩
  | .hbm, ⟨15, _⟩ => ⟨S1024x2816, .f32⟩
  | .hbm, ⟨16, _⟩ => ⟨S1024x11x256, .f32⟩
  | .hbm, ⟨17, _⟩ => ⟨S1024x11x512, .f32⟩
  | .hbm, ⟨18, _⟩ => ⟨S11x1024x512, .f32⟩
  | .hbm, ⟨19, _⟩ => ⟨S11x1024x512, .bf16⟩
  | .hbm, ⟨20, _⟩ => ⟨S11x256x1024, .f32⟩
  | .hbm, ⟨21, _⟩ => ⟨S11x256x1024, .bf16⟩
  | .hbm, ⟨22, _⟩ => ⟨S32768x1024, .f32⟩
  | .hbm, ⟨23, _⟩ => ⟨S32768x384, .f32⟩
  | .hbm, ⟨24, _⟩ => ⟨S_, .i32⟩
  | .hbm, ⟨25, _⟩ => ⟨S_, .f32⟩
  | .hbm, ⟨26, _⟩ => ⟨S32768x384, .f32⟩
  | .hbm, ⟨27, _⟩ => ⟨S32768x384, .bf16⟩
  | .hbm, ⟨28, _⟩ => ⟨S32768x320, .f32⟩
  | .hbm, ⟨29, _⟩ => ⟨S_, .i32⟩
  | .hbm, ⟨30, _⟩ => ⟨S_, .f32⟩
  | .hbm, ⟨31, _⟩ => ⟨S32768x384, .f32⟩
  | .hbm, ⟨32, _⟩ => ⟨S32768x384, .bf16⟩
  | .hbm, ⟨33, _⟩ => ⟨S32768x320, .f32⟩
  | .hbm, ⟨34, _⟩ => ⟨S_, .i32⟩
  | .hbm, ⟨35, _⟩ => ⟨S_, .f32⟩
  | .hbm, ⟨36, _⟩ => ⟨S32768x384, .f32⟩
  | .hbm, ⟨37, _⟩ => ⟨S32768x384, .bf16⟩
  | .hbm, ⟨38, _⟩ => ⟨S32768x3072, .f32⟩
  | .hbm, ⟨39, _⟩ => ⟨S32768x3072, .f32⟩
  | .hbm, ⟨40, _⟩ => ⟨S32768x3072, .f32⟩
  | .hbm, ⟨41, _⟩ => ⟨S_, .f32⟩
  | .hbm, ⟨42, _⟩ => ⟨S32768x3072, .f32⟩
  | .hbm, ⟨43, _⟩ => ⟨S32768x3072, .f32⟩
  | .hbm, ⟨44, _⟩ => ⟨S_, .f32⟩
  | .hbm, ⟨45, _⟩ => ⟨S32768x3072, .f32⟩
  | .hbm, ⟨46, _⟩ => ⟨S32768x3072, .f32⟩
  | .hbm, ⟨47, _⟩ => ⟨S32768x3072, .bf16⟩
  | .hbm, ⟨48, _⟩ => ⟨S384x1024, .bf16⟩
  | .hbm, ⟨49, _⟩ => ⟨S_, .i32⟩
  | .hbm, ⟨50, _⟩ => ⟨S_, .f32⟩
  | .hbm, ⟨51, _⟩ => ⟨S384x1024, .f32⟩
  | .hbm, ⟨52, _⟩ => ⟨S384x1024, .bf16⟩
  | .hbm, ⟨53, _⟩ => ⟨S_, .i32⟩
  | .hbm, ⟨54, _⟩ => ⟨S_, .f32⟩
  | .hbm, ⟨55, _⟩ => ⟨S384x1024, .f32⟩
  | .hbm, ⟨56, _⟩ => ⟨S384x1024, .bf16⟩
  | .hbm, ⟨57, _⟩ => ⟨S1024x1024, .bf16⟩
  | .hbm, ⟨58, _⟩ => ⟨S1x1024, .f32⟩
  | .hbm, ⟨59, _⟩ => ⟨S1x1024, .f32⟩
  | .hbm, ⟨60, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x3072, .bf16⟩
  | .local _ .vmem, ⟨9, _⟩ => ⟨S512x3072, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .bf16⟩
  | .local _ .vmem, ⟨13, _⟩ => ⟨S1024x1024, .bf16⟩
  | .local _ .vmem, ⟨14, _⟩ => ⟨S1x1024, .f32⟩
  | .local _ .vmem, ⟨15, _⟩ => ⟨S11x1024x512, .bf16⟩
  | .local _ .vmem, ⟨16, _⟩ => ⟨S11x256x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_call0_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_call1_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_call2_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_call3_v0 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_call4_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S11x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16x2048x1024 : Shape := ⟨3, ![16, 2048, 1024]⟩
abbrev S16x2048x6x64 : Shape := ⟨4, ![16, 2048, 6, 64]⟩
abbrev S16x2048x5x64 : Shape := ⟨4, ![16, 2048, 5, 64]⟩
abbrev S16x2048x3072 : Shape := ⟨3, ![16, 2048, 3072]⟩
abbrev S384x1024 : Shape := ⟨2, ![384, 1024]⟩
abbrev S320x1024 : Shape := ⟨2, ![320, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048x384 : Shape := ⟨3, ![16, 2048, 384]⟩
abbrev S16x2048x320 : Shape := ⟨3, ![16, 2048, 320]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x6x64, .f32⟩
  | .hbm, ⟨2, _⟩ => ⟨S16x2048x5x64, .f32⟩
  | .hbm, ⟨3, _⟩ => ⟨S16x2048x5x64, .f32⟩
  | .hbm, ⟨4, _⟩ => ⟨S16x2048x3072, .f32⟩
  | .hbm, ⟨5, _⟩ => ⟨S384x1024, .f32⟩
  | .hbm, ⟨6, _⟩ => ⟨S320x1024, .f32⟩
  | .hbm, ⟨7, _⟩ => ⟨S320x1024, .f32⟩
  | .hbm, ⟨8, _⟩ => ⟨S1024x1024, .f32⟩
  | .hbm, ⟨9, _⟩ => ⟨S1024, .f32⟩
  | .hbm, ⟨10, _⟩ => ⟨S1024x5632, .f32⟩
  | .hbm, ⟨11, _⟩ => ⟨S2816x1024, .f32⟩
  | .hbm, ⟨12, _⟩ => ⟨S1024, .f32⟩
  | .hbm, ⟨13, _⟩ => ⟨S16x2048x3072, .f32⟩
  | .hbm, ⟨14, _⟩ => ⟨S16x2048x3072, .f32⟩
  | .hbm, ⟨15, _⟩ => ⟨S_, .f32⟩
  | .hbm, ⟨16, _⟩ => ⟨S16x2048x3072, .f32⟩
  | .hbm, ⟨17, _⟩ => ⟨S16x2048x3072, .f32⟩
  | .hbm, ⟨18, _⟩ => ⟨S_, .f32⟩
  | .hbm, ⟨19, _⟩ => ⟨S16x2048x3072, .f32⟩
  | .hbm, ⟨20, _⟩ => ⟨S16x2048x3072, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S16x2048x384, .f32⟩
  | .hbm, ⟨25, _⟩ => ⟨S16x2048x1024, .f32⟩
  | .hbm, ⟨26, _⟩ => ⟨S16x2048x1024, .f32⟩
  | .hbm, ⟨27, _⟩ => ⟨S16x2048x320, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x320, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S16x2048x5632, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S_, .f32⟩
  | .hbm, ⟨59, _⟩ => ⟨S16x2048x2816, .f32⟩
  | .hbm, ⟨60, _⟩ => ⟨S16x2048x2816, .f32⟩
  | .hbm, ⟨61, _⟩ => ⟨S_, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x2816, .f32⟩
  | .hbm, ⟨66, _⟩ => ⟨S16x2048x1024, .f32⟩
  | .hbm, ⟨67, _⟩ => ⟨S_, .f32⟩
  | .hbm, ⟨68, _⟩ => ⟨S16x2048x1024, .f32⟩
  | .hbm, ⟨69, _⟩ => ⟨S16x2048x1024, .f32⟩
  | .hbm, ⟨70, _⟩ => ⟨S16x2048x1024, .f32⟩
  | .hbm, ⟨71, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Kernel5.lean ====
abbrev S16x2048x1024 : Shape := ⟨3, ![16, 2048, 1024]⟩
abbrev S1024 : Shape := ⟨1, ![1024]⟩
abbrev S1024x5962 : Shape := ⟨2, ![1024, 5962]⟩
abbrev S128 : Shape := ⟨1, ![128]⟩
abbrev S128x128 : Shape := ⟨2, ![128, 128]⟩
abbrev S64 : Shape := ⟨1, ![64]⟩
abbrev S2048 : Shape := ⟨1, ![2048]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S2048x128 : Shape := ⟨2, ![2048, 128]⟩
abbrev S1x128 : Shape := ⟨2, ![1, 128]⟩
abbrev S32768x1024 : Shape := ⟨2, ![32768, 1024]⟩
abbrev S1x1024 : Shape := ⟨2, ![1, 1024]⟩
abbrev S1024x384 : Shape := ⟨2, ![1024, 384]⟩
abbrev S1024x6 : Shape := ⟨2, ![1024, 6]⟩
abbrev S1024x320 : Shape := ⟨2, ![1024, 320]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x3072 : Shape := ⟨2, ![1024, 3072]⟩
abbrev S1024x2 : Shape := ⟨2, ![1024, 2]⟩
abbrev S1024x116 : Shape := ⟨2, ![1024, 116]⟩
abbrev S1024x6272 : Shape := ⟨2, ![1024, 6272]⟩
abbrev S32768x768 : Shape := ⟨2, ![32768, 768]⟩
abbrev S16x384x2048 : Shape := ⟨3, ![16, 384, 2048]⟩
abbrev S32768x640 : Shape := ⟨2, ![32768, 640]⟩
abbrev S32768x128 : Shape := ⟨2, ![32768, 128]⟩
abbrev S16x64x2048 : Shape := ⟨3, ![16, 64, 2048]⟩
abbrev S32768x3072 : Shape := ⟨2, ![32768, 3072]⟩
abbrev S512x1024 : Shape := ⟨2, ![512, 1024]⟩
abbrev S512x128 : Shape := ⟨2, ![512, 128]⟩
abbrev S512x768 : Shape := ⟨2, ![512, 768]⟩
abbrev S1x384x512 : Shape := ⟨3, ![1, 384, 512]⟩
abbrev S512x640 : Shape := ⟨2, ![512, 640]⟩
abbrev S1x64x512 : Shape := ⟨3, ![1, 64, 512]⟩
abbrev S512x3072 : Shape := ⟨2, ![512, 3072]⟩
abbrev S512 : Shape := ⟨1, ![512]⟩
abbrev S512x1 : Shape := ⟨2, ![512, 1]⟩
abbrev S512x384 : Shape := ⟨2, ![512, 384]⟩
abbrev S128x512 : Shape := ⟨2, ![128, 512]⟩
abbrev S1x128x512 : Shape := ⟨3, ![1, 128, 512]⟩
abbrev S1024x512 : Shape := ⟨2, ![1024, 512]⟩
abbrev S512x512 : Shape := ⟨2, ![512, 512]⟩
abbrev S1024x768 : Shape := ⟨2, ![1024, 768]⟩
abbrev S64x512 : Shape := ⟨2, ![64, 512]⟩

abbrev nBuf : Space → Nat
  | .hbm => 95
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5962, .f32⟩
  | .hbm, ⟨3, _⟩ => ⟨S128, .f32⟩
  | .hbm, ⟨4, _⟩ => ⟨S128x128, .f32⟩
  | .hbm, ⟨5, _⟩ => ⟨S64, .f32⟩
  | .hbm, ⟨6, _⟩ => ⟨S2048, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S2048x1, .f32⟩
  | .hbm, ⟨22, _⟩ => ⟨S1x8, .f32⟩
  | .hbm, ⟨23, _⟩ => ⟨S2048x8, .f32⟩
  | .hbm, ⟨24, _⟩ => ⟨S2048x8, .f32⟩
  | .hbm, ⟨25, _⟩ => ⟨S2048x8, .f32⟩
  | .hbm, ⟨26, _⟩ => ⟨S2048x8, .f32⟩
  | .hbm, ⟨27, _⟩ => ⟨S2048x8, .f32⟩
  | .hbm, ⟨28, _⟩ => ⟨S_, .f32⟩
  | .hbm, ⟨29, _⟩ => ⟨S2048x48, .f32⟩
  | .hbm, ⟨30, _⟩ => ⟨S_, .f32⟩
  | .hbm, ⟨31, _⟩ => ⟨S2048x48, .f32⟩
  | .hbm, ⟨32, _⟩ => ⟨S_, .f32⟩
  | .hbm, ⟨33, _⟩ => ⟨S2048x8, .f32⟩
  | .hbm, ⟨34, _⟩ => ⟨S2048x64, .f32⟩
  | .hbm, ⟨35, _⟩ => ⟨S2048x8, .f32⟩
  | .hbm, ⟨36, _⟩ => ⟨S2048x64, .f32⟩
  | .hbm, ⟨37, _⟩ => ⟨S2048x64, .f32⟩
  | .hbm, ⟨38, _⟩ => ⟨S2048x128, .f32⟩
  | .hbm, ⟨39, _⟩ => ⟨S2048x128, .f32⟩
  | .hbm, ⟨40, _⟩ => ⟨S2048x128, .f32⟩
  | .hbm, ⟨41, _⟩ => ⟨S_, .f32⟩
  | .hbm, ⟨42, _⟩ => ⟨S64, .f32⟩
  | .hbm, ⟨43, _⟩ => ⟨S128, .f32⟩
  | .hbm, ⟨44, _⟩ => ⟨S1x128, .f32⟩
  | .hbm, ⟨45, _⟩ => ⟨S32768x1024, .f32⟩
  | .hbm, ⟨46, _⟩ => ⟨S1x1024, .f32⟩
  | .hbm, ⟨47, _⟩ => ⟨S1024x384, .f32⟩
  | .hbm, ⟨48, _⟩ => ⟨S1024x384, .f32⟩
  | .hbm, ⟨49, _⟩ => ⟨S1024x384, .f32⟩
  | .hbm, ⟨50, _⟩ => ⟨S1024x6, .f32⟩
  | .hbm, ⟨51, _⟩ => ⟨S1024x320, .f32⟩
  | .hbm, ⟨52, _⟩ => ⟨S1024x320, .f32⟩
  | .hbm, ⟨53, _⟩ => ⟨S1024x320, .f32⟩
  | .hbm, ⟨54, _⟩ => ⟨S1024x320, .f32⟩
  | .hbm, ⟨55, _⟩ => ⟨S1024x128, .f32⟩
  | .hbm, ⟨56, _⟩ => ⟨S1024x256, .f32⟩
  | .hbm, ⟨57, _⟩ => ⟨S1024x64, .f32⟩
  | .hbm, ⟨58, _⟩ => ⟨S1024x4, .f32⟩
  | .hbm, ⟨59, _⟩ => ⟨S1024x3072, .f32⟩
  | .hbm, ⟨60, _⟩ => ⟨S_, .f32⟩
  | .hbm, ⟨61, _⟩ => ⟨S1024x384, .f32⟩
  | .hbm, ⟨62, _⟩ => ⟨S1024x384, .f32⟩
  | .hbm, ⟨63, _⟩ => ⟨S_, .f32⟩
  | .hbm, ⟨64, _⟩ => ⟨S1024x320, .f32⟩
  | .hbm, ⟨65, _⟩ => ⟨S1024x320, .f32⟩
  | .hbm, ⟨66, _⟩ => ⟨S_, .i32⟩
  | .hbm, ⟨67, _⟩ => ⟨S_, .f32⟩
  | .hbm, ⟨68, _⟩ => ⟨S1024x384, .f32⟩
  | .hbm, ⟨69, _⟩ => ⟨S_, .i32⟩
  | .hbm, ⟨70, _⟩ => ⟨S_, .f32⟩
  | .hbm, ⟨71, _⟩ => ⟨S1024x384, .f32⟩
  | .hbm, ⟨72, _⟩ => ⟨S_, .i32⟩
  | .hbm, ⟨73, _⟩ => ⟨S_, .f32⟩
  | .hbm, ⟨74, _⟩ => ⟨S1024x384, .f32⟩
  | .hbm, ⟨75, _⟩ => ⟨S_, .f32⟩
  | .hbm, ⟨76, _⟩ => ⟨S1024x320, .f32⟩
  | .hbm, ⟨77, _⟩ => ⟨S1024x320, .f32⟩
  | .hbm, ⟨78, _⟩ => ⟨S_, .f32⟩
  | .hbm, ⟨79, _⟩ => ⟨S1024x2, .f32⟩
  | .hbm, ⟨80, _⟩ => ⟨S_, .f32⟩
  | .hbm, ⟨81, _⟩ => ⟨S1024x116, .f32⟩
  | .hbm, ⟨82, _⟩ => ⟨S1024x6272, .f32⟩
  | .hbm, ⟨83, _⟩ => ⟨S1024x6272, .bf16⟩
  | .hbm, ⟨84, _⟩ => ⟨S128x128, .bf16⟩
  | .hbm, ⟨85, _⟩ => ⟨S1x128, .f32⟩
  | .hbm, ⟨86, _⟩ => ⟨S32768x768, .bf16⟩
  | .hbm, ⟨87, _⟩ => ⟨S32768x768, .bf16⟩
  | .hbm, ⟨88, _⟩ => ⟨S16x384x2048, .bf16⟩
  | .hbm, ⟨89, _⟩ => ⟨S16x384x2048, .bf16⟩
  | .hbm, ⟨90, _⟩ => ⟨S32768x640, .bf16⟩
  | .hbm, ⟨91, _⟩ => ⟨S32768x128, .bf16⟩
  | .hbm, ⟨92, _⟩ => ⟨S16x64x2048, .bf16⟩
  | .hbm, ⟨93, _⟩ => ⟨S32768x128, .f32⟩
  | .hbm, ⟨94, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6272, .bf16⟩
  | .local _ .vmem, ⟨4, _⟩ => ⟨S128x128, .bf16⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x768, .bf16⟩
  | .local _ .vmem, ⟨14, _⟩ => ⟨S512x768, .bf16⟩
  | .local _ .vmem, ⟨15, _⟩ => ⟨S512x768, .bf16⟩
  | .local _ .vmem, ⟨16, _⟩ => ⟨S512x768, .bf16⟩
  | .local _ .vmem, ⟨17, _⟩ => ⟨S1x384x512, .bf16⟩
  | .local _ .vmem, ⟨18, _⟩ => ⟨S1x384x512, .bf16⟩
  | .local _ .vmem, ⟨19, _⟩ => ⟨S1x384x512, .bf16⟩
  | .local _ .vmem, ⟨20, _⟩ => ⟨S1x384x512, .bf16⟩
  | .local _ .vmem, ⟨21, _⟩ => ⟨S512x640, .bf16⟩
  | .local _ .vmem, ⟨22, _⟩ => ⟨S512x640, .bf16⟩
  | .local _ .vmem, ⟨23, _⟩ => ⟨S512x128, .bf16⟩
  | .local _ .vmem, ⟨24, _⟩ => ⟨S512x128, .bf16⟩
  | .local _ .vmem, ⟨25, _⟩ => ⟨S1x64x512, .bf16⟩
  | .local _ .vmem, ⟨26, _⟩ => ⟨S1x64x512, .bf16⟩
  | .local _ .vmem, ⟨27, _⟩ => ⟨S512x128, .f32⟩
  | .local _ .vmem, ⟨28, _⟩ => ⟨S512x128, .f32⟩
  | .local _ .vmem, ⟨29, _⟩ => ⟨S512x3072, .bf16⟩
  | .local _ .vmem, ⟨30, _⟩ => ⟨S512x3072, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_c : Ref sig .tc := ⟨.hbm, 66, rfl⟩
abbrev main_call0_v0 : Ref sig .tc := ⟨.hbm, 67, rfl⟩
abbrev main_v50 : Ref sig .tc := ⟨.hbm, 68, rfl⟩
abbrev main_c_9 : Ref sig .tc := ⟨.hbm, 69, rfl⟩
abbrev main_call1_v0 : Ref sig .tc := ⟨.hbm, 70, rfl⟩
abbrev main_v51 : Ref sig .tc := ⟨.hbm, 71, rfl⟩
abbrev main_c_10 : Ref sig .tc := ⟨.hbm, 72, rfl⟩
abbrev main_call2_v0 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61_0 : Ref sig .tc := ⟨.hbm, 86, rfl⟩
abbrev main_v61_1 : Ref sig .tc := ⟨.hbm, 87, rfl⟩
abbrev main_v61_2 : Ref sig .tc := ⟨.hbm, 88, rfl⟩
abbrev main_v61_3 : Ref sig .tc := ⟨.hbm, 89, rfl⟩
abbrev main_v61_4 : Ref sig .tc := ⟨.hbm, 90, rfl⟩
abbrev main_v61_5 : Ref sig .tc := ⟨.hbm, 91, rfl⟩
abbrev main_v61_6 : Ref sig .tc := ⟨.hbm, 92, rfl⟩
abbrev main_v61_7 : Ref sig .tc := ⟨.hbm, 93, rfl⟩
abbrev main_v61_8 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x384x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x640 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference5Ideal.lean ====
abbrev S16x2048x1024 : Shape := ⟨3, ![16, 2048, 1024]⟩
abbrev S1024 : Shape := ⟨1, ![1024]⟩
abbrev S1024x5962 : Shape := ⟨2, ![1024, 5962]⟩
abbrev S128 : Shape := ⟨1, ![128]⟩
abbrev S128x128 : Shape := ⟨2, ![128, 128]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5962 : Shape := ⟨3, ![16, 2048, 5962]⟩
abbrev S16x2048x384 : Shape := ⟨3, ![16, 2048, 384]⟩
abbrev S16x2048x6 : Shape := ⟨3, ![16, 2048, 6]⟩
abbrev S16x2048x320 : Shape := ⟨3, ![16, 2048, 320]⟩
abbrev S16x2048x128 : Shape := ⟨3, ![16, 2048, 128]⟩
abbrev S16x2048x256 : Shape := ⟨3, ![16, 2048, 256]⟩
abbrev S16x2048x64 : Shape := ⟨3, ![16, 2048, 64]⟩
abbrev S16x2048x4 : Shape := ⟨3, ![16, 2048, 4]⟩
abbrev S16x2048x3072 : Shape := ⟨3, ![16, 2048, 3072]⟩
abbrev S16x2048x768 : Shape := ⟨3, ![16, 2048, 768]⟩
abbrev S32768x768 : Shape := ⟨2, ![32768, 768]⟩
abbrev S16x384x2048 : Shape := ⟨3, ![16, 384, 2048]⟩
abbrev S16x2048x2 : Shape := ⟨3, ![16, 2048, 2]⟩
abbrev S16x2048x116 : Shape := ⟨3, ![16, 2048, 116]⟩
abbrev S32768x128 : Shape := ⟨2, ![32768, 128]⟩
abbrev S32768x3072 : Shape := ⟨2, ![32768, 3072]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x5962, .f32⟩
  | .hbm, ⟨3, _⟩ => ⟨S128, .f32⟩
  | .hbm, ⟨4, _⟩ => ⟨S128x128, .f32⟩
  | .hbm, ⟨5, _⟩ => ⟨S64, .f32⟩
  | .hbm, ⟨6, _⟩ => ⟨S16x2048x1024, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x1024, .f32⟩
  | .hbm, ⟨18, _⟩ => ⟨S16x2048x1024, .f32⟩
  | .hbm, ⟨19, _⟩ => ⟨S1x1x1024, .f32⟩
  | .hbm, ⟨20, _⟩ => ⟨S16x2048x1024, .f32⟩
  | .hbm, ⟨21, _⟩ => ⟨S16x2048x1024, .f32⟩
  | .hbm, ⟨22, _⟩ => ⟨S16x2048x5962, .f32⟩
  | .hbm, ⟨23, _⟩ => ⟨S16x2048x384, .f32⟩
  | .hbm, ⟨24, _⟩ => ⟨S16x2048x384, .f32⟩
  | .hbm, ⟨25, _⟩ => ⟨S16x2048x384, .f32⟩
  | .hbm, ⟨26, _⟩ => ⟨S16x2048x6, .f32⟩
  | .hbm, ⟨27, _⟩ => ⟨S16x2048x320, .f32⟩
  | .hbm, ⟨28, _⟩ => ⟨S16x2048x320, .f32⟩
  | .hbm, ⟨29, _⟩ => ⟨S16x2048x320, .f32⟩
  | .hbm, ⟨30, _⟩ => ⟨S16x2048x320, .f32⟩
  | .hbm, ⟨31, _⟩ => ⟨S16x2048x128, .f32⟩
  | .hbm, ⟨32, _⟩ => ⟨S16x2048x256, .f32⟩
  | .hbm, ⟨33, _⟩ => ⟨S16x2048x64, .f32⟩
  | .hbm, ⟨34, _⟩ => ⟨S16x2048x4, .f32⟩
  | .hbm, ⟨35, _⟩ => ⟨S16x2048x3072, .f32⟩
  | .hbm, ⟨36, _⟩ => ⟨S_, .f32⟩
  | .hbm, ⟨37, _⟩ => ⟨S16x2048x384, .f32⟩
  | .hbm, ⟨38, _⟩ => ⟨S16x2048x384, .f32⟩
  | .hbm, ⟨39, _⟩ => ⟨S16x2048x768, .f32⟩
  | .hbm, ⟨40, _⟩ => ⟨S32768x768, .f32⟩
  | .hbm, ⟨41, _⟩ => ⟨S32768x768, .bf16⟩
  | .hbm, ⟨42, _⟩ => ⟨S_, .f32⟩
  | .hbm, ⟨43, _⟩ => ⟨S16x2048x320, .f32⟩
  | .hbm, ⟨44, _⟩ => ⟨S16x2048x320, .f32⟩
  | .hbm, ⟨45, _⟩ => ⟨S_, .i32⟩
  | .hbm, ⟨46, _⟩ => ⟨S_, .f32⟩
  | .hbm, ⟨47, _⟩ => ⟨S16x2048x384, .f32⟩
  | .hbm, ⟨48, _⟩ => ⟨S_, .i32⟩
  | .hbm, ⟨49, _⟩ => ⟨S_, .f32⟩
  | .hbm, ⟨50, _⟩ => ⟨S16x2048x384, .f32⟩
  | .hbm, ⟨51, _⟩ => ⟨S16x2048x768, .f32⟩
  | .hbm, ⟨52, _⟩ => ⟨S32768x768, .f32⟩
  | .hbm, ⟨53, _⟩ => ⟨S32768x768, .bf16⟩
  | .hbm, ⟨54, _⟩ => ⟨S16x384x2048, .f32⟩
  | .hbm, ⟨55, _⟩ => ⟨S16x384x2048, .bf16⟩
  | .hbm, ⟨56, _⟩ => ⟨S_, .i32⟩
  | .hbm, ⟨57, _⟩ => ⟨S_, .f32⟩
  | .hbm, ⟨58, _⟩ => ⟨S16x2048x384, .f32⟩
  | .hbm, ⟨59, _⟩ => ⟨S16x384x2048, .f32⟩
  | .hbm, ⟨60, _⟩ => ⟨S16x384x2048, .bf16⟩
  | .hbm, ⟨61, _⟩ => ⟨S_, .f32⟩
  | .hbm, ⟨62, _⟩ => ⟨S16x2048x2, .f32⟩
  | .hbm, ⟨63, _⟩ => ⟨S_, .f32⟩
  | .hbm, ⟨64, _⟩ => ⟨S16x2048x116, .f32⟩
  | .hbm, ⟨65, _⟩ => ⟨S16x2048x128, .f32⟩
  | .hbm, ⟨66, _⟩ => ⟨S32768x128, .f32⟩
  | .hbm, ⟨67, _⟩ => ⟨S16x2048x3072, .f32⟩
  | .hbm, ⟨68, _⟩ => ⟨S16x2048x3072, .f32⟩
  | .hbm, ⟨69, _⟩ => ⟨S_, .f32⟩
  | .hbm, ⟨70, _⟩ => ⟨S16x2048x3072, .f32⟩
  | .hbm, ⟨71, _⟩ => ⟨S16x2048x3072, .f32⟩
  | .hbm, ⟨72, _⟩ => ⟨S_, .f32⟩
  | .hbm, ⟨73, _⟩ => ⟨S16x2048x3072, .f32⟩
  | .hbm, ⟨74, _⟩ => ⟨S16x2048x3072, .f32⟩
  | .hbm, ⟨75, _⟩ => ⟨S32768x3072, .f32⟩
  | .hbm, ⟨76, _⟩ => ⟨S32768x3072, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_v34 : Ref sig .tc := ⟨.hbm, 47, rfl⟩
abbrev main_c_4 : Ref sig .tc := ⟨.hbm, 48, rfl⟩
abbrev main_call1_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_call2_v0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Proof.Scalar.lean ====
/- The stick-breaking weights over the extended reals: the logarithm of one minus a key's probability, the sums of it over the later keys,
   and the weight of a key, in the kernel's spelling and in the reference's. -/
module

public import Idealize.ShloMosaic.Lib.Pointwise

@[expose] public section

noncomputable section

namespace Cert.Proof.Sb

open Idealize.ShloMosaic

/-- The logarithm of one minus the probability of a key of score `z`, as the kernel computes it. -/
def lm (z : EReal) : EReal := min (0 - z) 0 - Ideal.log (1 + Ideal.exp (min z (0 - z)))

/-- The logarithm of the probability of a key of score `z`, as the reference computes it. -/
def lsg (z : EReal) : EReal := -(max (-z) 0 + Ideal.log1p (Ideal.exp (-(max (-z - 0) (-(-z - 0))))))

theorem log_one_add_exp (r : ℝ) : Ideal.log (1 + Ideal.exp ((r : ℝ) : EReal)) = ((Real.log (1 + Real.exp r) : ℝ) : EReal) := by
  show Ideal.log (((1 : ℝ) : EReal) + ((Real.exp r : ℝ) : EReal)) = _
  rw [← EReal.coe_add]
  show (if 1 + Real.exp r ≤ 0 then (⊥ : EReal) else _) = _
  rw [if_neg (by have := Real.exp_pos r; linarith)]

theorem log_one : Ideal.log (1 + 0) = 0 := by
  rw [add_zero]
  show (if (1 : ℝ) ≤ 0 then (⊥ : EReal) else ((Real.log 1 : ℝ) : EReal)) = 0
  rw [if_neg (by norm_num), Real.log_one, EReal.coe_zero]

theorem log_one' : Ideal.log 1 = 0 := by rw [← log_one, add_zero]

theorem lm_top : lm ⊤ = ⊥ := by
  unfold lm
  simp

theorem lm_bot : lm ⊥ = 0 := by
  unfold lm
  have h : Ideal.exp ⊥ = 0 := rfl
  simp only [EReal.sub_bot (EReal.zero_ne_bot), min_eq_right le_top, min_eq_left bot_le, h, log_one]
  simp

theorem lm_coe (r : ℝ) : lm r = ((min (-r) 0 - Real.log (1 + Real.exp (min r (-r))) : ℝ) : EReal) := by
  unfold lm
  have h0 : (0 : EReal) - (r : EReal) = ((-r : ℝ) : EReal) := by rw [zero_sub, EReal.coe_neg]
  have h1 : min ((r : ℝ) : EReal) ((-r : ℝ) : EReal) = ((min r (-r) : ℝ) : EReal) := (EReal.coe_strictMono.monotone.map_min).symm
  have h2 : min ((-r : ℝ) : EReal) 0 = ((min (-r) 0 : ℝ) : EReal) := (EReal.coe_strictMono.monotone.map_min (a := -r) (b := 0)).symm
  rw [h0, h1, h2, log_one_add_exp, ← EReal.coe_sub]

theorem lm_le (z : EReal) : lm z ≤ 0 := by
  induction z using EReal.rec with
  | bot => rw [lm_bot]
  | top => rw [lm_top]; exact bot_le
  | coe r =>
    rw [lm_coe, ← EReal.coe_zero, EReal.coe_le_coe_iff]
    have h : 0 ≤ Real.log (1 + Real.exp (min r (-r))) := Real.log_nonneg (by have := Real.exp_pos (min r (-r)); linarith)
    have := min_le_right (-r) 0
    linarith

theorem lsg_top : lsg ⊤ = 0 := by
  unfold lsg
  have h : Ideal.exp ⊥ = 0 := rfl
  simp [Ideal.log1p, h, log_one']

theorem lsg_bot : lsg ⊥ = ⊥ := by
  unfold lsg
  have h : Ideal.exp ⊥ = 0 := rfl
  simp [Ideal.log1p, h, log_one']

theorem lsg_coe (r : ℝ) : lsg r = ((r + (min (-r) 0 - Real.log (1 + Real.exp (min r (-r)))) : ℝ) : EReal) := by
  unfold lsg Ideal.log1p
  have h1 : max (((-r : ℝ)) : EReal) 0 = ((max (-r) 0 : ℝ) : EReal) := (EReal.coe_strictMono.monotone.map_max (a := -r) (b := 0)).symm
  have h2 : -(max (((-r : ℝ)) : EReal) ((r : ℝ) : EReal)) = ((min r (-r) : ℝ) : EReal) := by
    rw [← EReal.coe_strictMono.monotone.map_max, ← EReal.coe_neg, max_comm, ← min_neg_neg, neg_neg, min_comm]
  rw [← EReal.coe_neg, sub_zero, ← EReal.coe_neg (-r), neg_neg, h1, h2, log_one_add_exp, ← EReal.coe_add, ← EReal.coe_neg]
  congr 1
  rcases le_total r 0 with h | h
  · rw [max_eq_left (by linarith), min_eq_right (a := -r) (b := 0) (by linarith)]; ring
  · rw [max_eq_right (by linarith), min_eq_left (a := -r) (b := 0) (by linarith)]; ring

/-- The reference's spelling of `lm`. -/
theorem lsg_neg (z : EReal) : lsg (-z) = lm z := by
  induction z using EReal.rec with
  | bot => rw [EReal.neg_bot, lsg_top, lm_bot]
  | top => rw [EReal.neg_top, lsg_bot, lm_top]
  | coe r =>
    rw [← EReal.coe_neg, lsg_coe, lm_coe]
    congr 1
    rw [neg_neg, min_comm (-r) r]
    rcases le_total r 0 with h | h
    · rw [min_eq_left h, min_eq_right (a := -r) (b := 0) (by linarith)]; ring
    · rw [min_eq_right h, min_eq_left (a := -r) (b := 0) (by linarith)]; ring

/-- A key's weight: the reference adds the sum over the later keys as a sum less the key's own term, the kernel adds the whole sum to the score. -/
theorem weight_eq (z R : EReal) (hR : R ≤ 0) : lsg z + ((lm z + R) - lm z) = z + (lm z + R) := by
  induction z using EReal.rec with
  | bot => rw [lsg_bot, EReal.bot_add, EReal.bot_add]
  | top => rw [lm_top, EReal.bot_add, EReal.bot_sub, EReal.add_bot, EReal.add_bot]
  | coe r =>
    induction R using EReal.rec with
    | bot => rw [EReal.add_bot, EReal.bot_sub, EReal.add_bot, EReal.add_bot]
    | top => exact absurd hR (by simp)
    | coe s =>
      rw [lsg_coe, lm_coe, ← EReal.coe_add, ← EReal.coe_sub, ← EReal.coe_add, ← EReal.coe_add]
      congr 1
      ring

/-- A rounding's remainder adds nothing: over the extended reals it is zero, or minus infinity where the number is. -/
theorem add_rem (l : EReal) (hl : l ≤ 0) : l + (l - l) = l := by
  induction l using EReal.rec with
  | bot => simp
  | top => exact absurd hl (by simp)
  | coe r => rw [← EReal.coe_sub, ← EReal.coe_add]; simp

theorem sum_le_zero {ι : Type*} (s : Finset ι) (f : ι → EReal) (h : ∀ i ∈ s, f i ≤ 0) : ∑ i ∈ s, f i ≤ 0 := by
  classical
  induction s using Finset.induction_on with
  | empty => simp
  | insert a s ha ih =>
    rw [Finset.sum_insert ha]
    exact add_nonpos (h a (Finset.mem_insert_self a s)) (ih fun i hi => h i (Finset.mem_insert_of_mem hi))

/-- A real scale that is not negative distributes over a sum. -/
theorem sum_mul_real {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-! ## The weights of a query's keys, from their scores `Z` -/

/-- The masked logarithm at key `n` of query `q`. -/
def lq (Z : ℕ → EReal) (q n : ℕ) : EReal := if n < q then lm (Z n) else 0

/-- The sum of the masked logarithms over the keys from `n` on. -/
def tq (Z : ℕ → EReal) (q n : ℕ) : EReal := ∑ k ∈ Finset.Ico n 2048, lq Z q k

/-- The weight of key `n`. -/
def aq (Z : ℕ → EReal) (q n : ℕ) : EReal := if n < q then Ideal.exp (Z n + tq Z q n) else 0

theorem lq_le (Z : ℕ → EReal) (q n : ℕ) : lq Z q n ≤ 0 := by
  unfold lq
  split
  · exact lm_le _
  · exact le_rfl

/-- A sum over the keys from `a` on, by its first block of keys. -/
theorem tq_split (Z : ℕ → EReal) (q a : ℕ) (h : a + 256 ≤ 2048) :
    tq Z q a = (∑ s : Fin 256, lq Z q (a + s.val)) + tq Z q (a + 256) := by
  unfold tq
  rw [← Finset.sum_Ico_consecutive _ (show a ≤ a + 256 by omega) h, Finset.sum_Ico_eq_sum_range,
    ← Fin.sum_univ_eq_sum_range (fun x => lq Z q (a + x)) (a + 256 - a)]
  congr 1
  have e : a + 256 - a = 256 := by omega
  rw [e]

/-- The sum from a key inside a block on: the rest of the block and the blocks after it. -/
theorem tq_inner (Z : ℕ → EReal) (q a : ℕ) (s : Fin 256) (h : a + 256 ≤ 2048) :
    tq Z q (a + s.val) = (∑ r : Fin 256, if s.val ≤ r.val then lq Z q (a + r.val) else 0) + tq Z q (a + 256) := by
  unfold tq
  rw [← Finset.sum_Ico_consecutive _ (show a + s.val ≤ a + 256 by omega) h]
  congr 1
  rw [Fin.sum_univ_eq_sum_range (fun x => if s.val ≤ x then lq Z q (a + x) else 0) 256, Finset.range_eq_Ico,
    ← Finset.sum_Ico_consecutive _ (show 0 ≤ s.val by omega) (show s.val ≤ 256 by omega)]
  rw [Finset.sum_eq_zero (s := Finset.Ico 0 s.val) (fun x hx => if_neg (by have := Finset.mem_Ico.1 hx; omega)), zero_add,
    Finset.sum_congr rfl (g := fun x => lq Z q (a + x)) (fun x hx => if_pos (by have := Finset.mem_Ico.1 hx; omega)),
    Finset.sum_Ico_add (fun x => lq Z q x) s.val 256 a, add_comm s.val a, add_comm 256 a]

theorem tq_zero (Z : ℕ → EReal) (q a : ℕ) (h : q ≤ a) : tq Z q a = 0 :=
  Finset.sum_eq_zero fun k hk => if_neg (by have := Finset.mem_Ico.1 hk; omega)

/-- The weight as the reference computes it. -/
theorem aq_ref (Z : ℕ → EReal) (q n : ℕ) (hn : n < 2048) :
    aq Z q n = if n < q then Ideal.exp (lsg (Z n) + (tq Z q n - lq Z q n)) else 0 := by
  unfold aq
  split
  · next h =>
    have e : tq Z q n = lm (Z n) + tq Z q (n + 1) := by
      unfold tq
      rw [Finset.sum_eq_sum_Ico_succ_bot hn, lq, if_pos h]
    have hl : lq Z q n = lm (Z n) := if_pos h
    rw [e, hl, weight_eq (Z n) (tq Z q (n + 1)) (sum_le_zero _ _ fun k _ => lq_le Z q k)]
  · rfl

end Cert.Proof.Sb

end
-- ==== Proof.Body.lean ====
/- The stick-breaking kernel's body, run once at any float instance: from the three staged inputs at their contents to
   the output's staging buffer with its three column blocks written. Two cases, by the parity of the query block. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an odd query block: the conditional's first branch is taken. -/
def runOdd (c : Dev nD) (i : grid0.Coords) (hc : k0_cond1 i = 1#1) (arg2 : Memref sig .tc .vmem S256x384 .bf16) (harg2 : arg2.IsWhole)
    (arg3 : Memref sig .tc .vmem S2048x384 .bf16) (harg3 : arg3.IsWhole) (arg4 : Memref sig .tc .vmem S1x384x2048 .bf16) (harg4 : arg4.IsWhole)
    (arg5 : Memref sig .tc .vmem S256x384 .bf16) (harg5 : arg5.IsWhole)
    (x0 : Vec F S256x384 .bf16) (x1 : Vec F S2048x384 .bf16) (x2 : Vec F S1x384x2048 .bf16) :
    { L : List (View.Piece (Elt F) S256x384 .bf16) // ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0_sb_attn i arg2 harg2 arg3 harg3 arg4 harg4 arg5 harg5) K } := by
  refine ⟨?_, fun E K => ?run⟩
  case run =>
    simp only [cc0_sb_attn_eq_skeleton]; unfold cc0_sb_attn_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 4000000 in
/-- The body at an even query block: the conditional's second branch is taken. -/
def runEven (c : Dev nD) (i : grid0.Coords) (hc : ¬ k0_cond1 i = 1#1) (arg2 : Memref sig .tc .vmem S256x384 .bf16) (harg2 : arg2.IsWhole)
    (arg3 : Memref sig .tc .vmem S2048x384 .bf16) (harg3 : arg3.IsWhole) (arg4 : Memref sig .tc .vmem S1x384x2048 .bf16) (harg4 : arg4.IsWhole)
    (arg5 : Memref sig .tc .vmem S256x384 .bf16) (harg5 : arg5.IsWhole)
    (x0 : Vec F S256x384 .bf16) (x1 : Vec F S2048x384 .bf16) (x2 : Vec F S1x384x2048 .bf16) :
    { L : List (View.Piece (Elt F) S256x384 .bf16) // ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0_sb_attn i arg2 harg2 arg3 harg3 arg4 harg4 arg5 harg5) K } := by
  refine ⟨?_, fun E K => ?run⟩
  case run =>
    simp only [cc0_sb_attn_eq_skeleton]; unfold cc0_sb_attn_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Proof.Sb

end
-- ==== Proof.Step.lean ====
/- One half-step of the stick-breaking kernel per head, and the loop's trip as two half-steps of each of the five heads. -/
module

public import proofs.«01_k».proof.Proof.Gen.KernelIdeal.Loops
public import proofs.«01_k».proof.Proof.Body

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- What the kernel carries for one head: the scores of the next block of keys, the running sum of log-complements over the
    keys already met, the weights waiting for their product with the values, and the accumulated output. -/
structure HS (F : FTy → Type) where
  s : FVec F S256x256 .f32
  tl : FVec F S1x256 .f32
  p : FVec F S256x256 .bf16
  ac : FVec F S128x256 .f32

/-- The five heads' states, as the loop carries them. -/
abbrev pack (h0 h1 h2 h3 h4 : HS F) :=
  (h0.s, h1.s, h2.s, h3.s, h4.s, h0.tl, h1.tl, h2.tl, h3.tl, h4.tl, h0.p, h1.p, h2.p, h3.p, h4.p, h0.ac, h1.ac, h2.ac, h3.ac, h4.ac)

/-- A half-step of one head: the product of the waiting weights with their values is accumulated, the scores in hand become
    weights, and the scores of the next block are taken. -/
def hstep (v16 : FVec F S128x256 .bf16) (qm : FVec F S256x128 .bf16) (kb : Vec F S256x128 .bf16) (vb : Vec F S1x128x256 .bf16) (h : HS F) : HS F :=
  ⟨k0_pay4 qm kb, k0_pay24 h.s h.tl, k0_pay25 v16 h.s h.tl, k0_pay10 h.p h.ac vb⟩

section
variable (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (arg1 : BitVec 32)
variable (v10 : IVec S256x256 1) (v16 : FVec F S128x256 .bf16) (v22 : FVec F S256x128 .bf16) (v28 : FVec F S256x128 .bf16) (v34 : FVec F S256x128 .bf16) (v40 : FVec F S256x128 .bf16) (v46 : FVec F S256x128 .bf16) (v47 : FVec F S1x256 .f32) (v48 : FVec F S128x256 .f32) (v78 : FVec F S256x256 .f32) (v86 : FVec F S256x256 .f32) (v94 : FVec F S256x256 .f32) (v102 : FVec F S256x256 .f32) (v110 : FVec F S256x256 .f32) (v118 : FVec F S256x256 .f32) (v159 : FVec F S1x256 .f32) (v160 : FVec F S256x256 .bf16) (v201 : FVec F S1x256 .f32) (v202 : FVec F S256x256 .bf16) (v243 : FVec F S1x256 .f32) (v244 : FVec F S256x256 .bf16) (v285 : FVec F S1x256 .f32) (v286 : FVec F S256x256 .bf16) (v299 : FVec F S256x256 .bf16) (v302 : FVec F S256x256 .bf16) (v305 : FVec F S1x256 .f32) (v308 : FVec F S1x256 .f32) (v314 : FVec F S128x256 .f32)
variable (X3 : BufTy.Contents (Elt F) arg3.view.ty) (X4 : BufTy.Contents (Elt F) arg4.view.ty)

/-- A block of keys as the body loads it. -/
abbrev ldK (off : Fin 2 → ℕ) (h : ∀ a, off a + S256x128.size a ≤ S2048x384.size a) : Vec F S256x128 .bf16 :=
  arg3.view.readAt (Elt F) (Rect.unit (s := S2048x384) off S256x128.size h).toLoadRect X3

/-- A block of values as the body loads it. -/
abbrev ldV (off : Fin 3 → ℕ) (h : ∀ a, off a + S1x128x256.size a ≤ S1x384x2048.size a) : Vec F S1x128x256 .bf16 :=
  arg4.view.readAt (Elt F) (Rect.unit (s := S1x384x2048) off S1x128x256.size h).toLoadRect X4

omit [FloatOps F] in
theorem pack_inj {h0 h1 h2 h3 h4 g0 g1 g2 g3 g4 : HS F} (e0 : h0 = g0) (e1 : h1 = g1) (e2 : h2 = g2) (e3 : h3 = g3) (e4 : h4 = g4) :
    pack h0 h1 h2 h3 h4 = pack g0 g1 g2 g3 g4 := by rw [e0, e1, e2, e3, e4]

set_option maxHeartbeats 4000000 in
/-- A trip of the loop is two half-steps of each head. -/
theorem trip1 (k : Fin (k0_t1_loop i).trips) (h0 h1 h2 h3 h4 : HS F) :
    tripR_k0_t1 (F := F) Variants.none c none i arg2 harg2 arg3 harg3 arg4 harg4 arg5 harg5 arg1 v10 v16 v22 v28 v34 v40 v46 v47 v48 v78 v86 v94 v102 v110 v118 v159 v160 v201 v202 v243 v244 v285 v286 v299 v302 v305 v308 v314 X3 X4 k (pack h0 h1 h2 h3 h4)
      = pack (hstep v16 v22 (ldK arg3 X3 (k0_off7 i k 2#32) (k0_off7_inb i k 1)) (ldV arg4 X4 (k0_off10 i k 2#32) (k0_off10_inb i k 1)) (hstep v16 v22 (ldK arg3 X3 (k0_off7 i k 1#32) (k0_off7_inb i k 0)) (ldV arg4 X4 (k0_off10 i k 1#32) (k0_off10_inb i k 0)) h0))
        (hstep v16 v28 (ldK arg3 X3 (k0_off7 i k 2#32) (k0_off7_inb i k 1)) (ldV arg4 X4 (k0_off10 i k 2#32) (k0_off10_inb i k 1)) (hstep v16 v28 (ldK arg3 X3 (k0_off7 i k 1#32) (k0_off7_inb i k 0)) (ldV arg4 X4 (k0_off10 i k 1#32) (k0_off10_inb i k 0)) h1))
        (hstep v16 v34 (ldK arg3 X3 (k0_off8 i k 2#32) (k0_off8_inb i k 1)) (ldV arg4 X4 (k0_off11 i k 2#32) (k0_off11_inb i k 1)) (hstep v16 v34 (ldK arg3 X3 (k0_off8 i k 1#32) (k0_off8_inb i k 0)) (ldV arg4 X4 (k0_off11 i k 1#32) (k0_off11_inb i k 0)) h2))
        (hstep v16 v40 (ldK arg3 X3 (k0_off8 i k 2#32) (k0_off8_inb i k 1)) (ldV arg4 X4 (k0_off11 i k 2#32) (k0_off11_inb i k 1)) (hstep v16 v40 (ldK arg3 X3 (k0_off8 i k 1#32) (k0_off8_inb i k 0)) (ldV arg4 X4 (k0_off11 i k 1#32) (k0_off11_inb i k 0)) h3))
        (hstep v16 v46 (ldK arg3 X3 (k0_off9 i k 2#32) (k0_off9_inb i k 1)) (ldV arg4 X4 (k0_off12 i k 2#32) (k0_off12_inb i k 1)) (hstep v16 v46 (ldK arg3 X3 (k0_off9 i k 1#32) (k0_off9_inb i k 0)) (ldV arg4 X4 (k0_off12 i k 1#32) (k0_off12_inb i k 0)) h4)) := by
  unfold tripR_k0_t1 trip_k0_t1
  rfl

end

end Cert.Proof.Sb

end
-- ==== Proof.Spec.lean ====
/- The stick-breaking body's result as a composition of half-steps: the state after the diagonal block and the first `n` blocks
   below it, and the three column blocks the body stores. -/
module

public import proofs.«01_k».proof.Proof.Step
public import Idealize.ShloMosaic.Lib.Pointwise
public import Idealize.ShloMosaic.Lib.Pipeline.ValueKit

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem lt2048 (b : ℕ) (j : Fin 256) : 256 * (b % 8) + j.val < 2048 := by omega

theorem lt384 (p : Fin 3) (j : Fin 128) : 128 * p.val + j.val < 384 := by omega

/-- The block's queries of head pair `p`. -/
def qblk (x0 : Vec F S256x384 .bf16) (p : Fin 3) : Vec F S256x128 .bf16 := fun j =>
  x0 (ix2 (j 0) ⟨128 * p.val + (j 1).val, lt384 p (j 1)⟩)

/-- Block `b` of the keys of head pair `p`. -/
def kblk (x1 : Vec F S2048x384 .bf16) (p : Fin 3) (b : ℕ) : Vec F S256x128 .bf16 := fun j =>
  x1 (ix2 ⟨256 * (b % 8) + (j 0).val, lt2048 b (j 0)⟩ ⟨128 * p.val + (j 1).val, lt384 p (j 1)⟩)

/-- Block `b` of the transposed values of head pair `p`. -/
def vblk (x2 : Vec F S1x384x2048 .bf16) (p : Fin 3) (b : ℕ) : Vec F S1x128x256 .bf16 := fun j =>
  x2 (ix3 0 ⟨128 * p.val + (j 1).val, lt384 p (j 1)⟩ ⟨256 * (b % 8) + (j 2).val, lt2048 b (j 2)⟩)

/-- A block of queries as the body loads it. -/
abbrev ldQ (arg2 : Memref sig .tc .vmem S256x384 .bf16) (X2 : BufTy.Contents (Elt F) arg2.view.ty) (off : Fin 2 → ℕ) (h : ∀ a, off a + S256x128.size a ≤ S256x384.size a) : Vec F S256x128 .bf16 :=
  arg2.view.readAt (Elt F) (Rect.unit (s := S256x384) off S256x128.size h).toLoadRect X2

omit [FloatOps F] in
theorem ldQ_eq (arg2 : Memref sig .tc .vmem S256x384 .bf16) (harg2 : arg2.IsWhole) (x0 : Vec F S256x384 .bf16) (p : Fin 3) (off : Fin 2 → ℕ) (h) (e : off = ![0, 128 * p.val]) :
    ldQ arg2 (harg2.unread x0) off h = qblk x0 p := by
  subst e
  funext j
  rw [ldQ, View.readAt_eq_ld, Memref.IsWhole.read_unread]
  refine View.ld_unit_apply_of _ _ _ _ _ _ fun a => ?_
  fin_cases a <;> simp [ix2]

omit [FloatOps F] in
theorem ldK_eq (arg3 : Memref sig .tc .vmem S2048x384 .bf16) (harg3 : arg3.IsWhole) (x1 : Vec F S2048x384 .bf16) (p : Fin 3) (b : ℕ) (off : Fin 2 → ℕ) (h) (e : off = ![256 * (b % 8), 128 * p.val]) :
    ldK arg3 (harg3.unread x1) off h = kblk x1 p b := by
  subst e
  funext j
  rw [ldK, View.readAt_eq_ld, Memref.IsWhole.read_unread]
  refine View.ld_unit_apply_of _ _ _ _ _ _ fun a => ?_
  fin_cases a <;> simp [ix2]

omit [FloatOps F] in
theorem ldV_eq (arg4 : Memref sig .tc .vmem S1x384x2048 .bf16) (harg4 : arg4.IsWhole) (x2 : Vec F S1x384x2048 .bf16) (p : Fin 3) (b : ℕ) (off : Fin 3 → ℕ) (h) (e : off = ![0, 128 * p.val, 256 * (b % 8)]) :
    ldV arg4 (harg4.unread x2) off h = vblk x2 p b := by
  subst e
  funext j
  rw [ldV, View.readAt_eq_ld, Memref.IsWhole.read_unread]
  refine View.ld_unit_apply_of _ _ _ _ _ _ fun a => ?_
  fin_cases a <;> simp [ix3]

/-- A head's state after its diagonal block: `q` the block's queries, `kd` its own keys, `kn` those of the block before. -/
def hinit (q : FVec F S256x128 .bf16) (kd kn : Vec F S256x128 .bf16) : HS F :=
  ⟨k0_pay4 q kn, k0_pay209 k0_pay187 k0_pay194 (k0_pay4 q kd),
    k0_pay210 k0_pay187 k0_pay188 k0_pay194 (k0_pay4 q kd), k0_pay195⟩

/-- A head's state `n` half-steps after the state `h`, in query block `i`. -/
def hs (x1 : Vec F S2048x384 .bf16) (x2 : Vec F S1x384x2048 .bf16) (p : Fin 3) (q : FVec F S256x128 .bf16) (i : ℕ) (h : HS F) : ℕ → HS F
  | 0 => h
  | n + 1 => hstep k0_pay188 q (kblk x1 p (i - (n + 2))) (vblk x2 p (i - n)) (hs x1 x2 p q i h n)

theorem trips1 : ∀ i : grid0.Coords, (k0_t1_loop i).trips = (i 1).val / 2 := by decide +kernel

theorem trips2 : ∀ i : grid0.Coords, (k0_t2_loop i).trips = 0 := by decide +kernel

theorem cond_iff : ∀ i : grid0.Coords, k0_cond1 i = 1#1 ↔ (i 1).val % 2 = 1 := by decide +kernel

theorem off4_eq : ∀ i : grid0.Coords, k0_off4 i = ![256 * (((i 1).val - 1) % 8), 128 * (0 : Fin 3).val] := by decide +kernel

theorem off5_eq : ∀ i : grid0.Coords, k0_off5 i = ![256 * (((i 1).val - 1) % 8), 128 * (1 : Fin 3).val] := by decide +kernel

theorem off6_eq : ∀ i : grid0.Coords, k0_off6 i = ![256 * (((i 1).val - 1) % 8), 128 * (2 : Fin 3).val] := by decide +kernel

theorem off1_eq : ∀ i : grid0.Coords, k0_off1 i = ![256 * ((i 1).val % 8), 128 * (0 : Fin 3).val] := by decide +kernel

theorem off2_eq : ∀ i : grid0.Coords, k0_off2 i = ![256 * ((i 1).val % 8), 128 * (1 : Fin 3).val] := by decide +kernel

theorem off3_eq : ∀ i : grid0.Coords, k0_off3 i = ![256 * ((i 1).val % 8), 128 * (2 : Fin 3).val] := by decide +kernel

theorem off7_eq : ∀ (i : grid0.Coords) (k : Fin (k0_t1_loop i).trips) (r : Fin 2), k0_off7 i k (BitVec.ofNat 32 (1 + r.val)) = ![256 * (((i 1).val - (2 * k.val + r.val + 2)) % 8), 128 * (0 : Fin 3).val] := by decide +kernel

theorem off8_eq : ∀ (i : grid0.Coords) (k : Fin (k0_t1_loop i).trips) (r : Fin 2), k0_off8 i k (BitVec.ofNat 32 (1 + r.val)) = ![256 * (((i 1).val - (2 * k.val + r.val + 2)) % 8), 128 * (1 : Fin 3).val] := by decide +kernel

theorem off9_eq : ∀ (i : grid0.Coords) (k : Fin (k0_t1_loop i).trips) (r : Fin 2), k0_off9 i k (BitVec.ofNat 32 (1 + r.val)) = ![256 * (((i 1).val - (2 * k.val + r.val + 2)) % 8), 128 * (2 : Fin 3).val] := by decide +kernel

theorem off10_eq : ∀ (i : grid0.Coords) (k : Fin (k0_t1_loop i).trips) (r : Fin 2), k0_off10 i k (BitVec.ofNat 32 (1 + r.val)) = ![0, 128 * (0 : Fin 3).val, 256 * (((i 1).val - (2 * k.val + r.val)) % 8)] := by decide +kernel

theorem off11_eq : ∀ (i : grid0.Coords) (k : Fin (k0_t1_loop i).trips) (r : Fin 2), k0_off11 i k (BitVec.ofNat 32 (1 + r.val)) = ![0, 128 * (1 : Fin 3).val, 256 * (((i 1).val - (2 * k.val + r.val)) % 8)] := by decide +kernel

theorem off12_eq : ∀ (i : grid0.Coords) (k : Fin (k0_t1_loop i).trips) (r : Fin 2), k0_off12 i k (BitVec.ofNat 32 (1 + r.val)) = ![0, 128 * (2 : Fin 3).val, 256 * (((i 1).val - (2 * k.val + r.val)) % 8)] := by decide +kernel

/-- What the loop carries. -/
abbrev Carry (F : FTy → Type) := FVec F S256x256 .f32 × FVec F S256x256 .f32 × FVec F S256x256 .f32 × FVec F S256x256 .f32 × FVec F S256x256 .f32 × FVec F S1x256 .f32 × FVec F S1x256 .f32 × FVec F S1x256 .f32 × FVec F S1x256 .f32 × FVec F S1x256 .f32 × FVec F S256x256 .bf16 × FVec F S256x256 .bf16 × FVec F S256x256 .bf16 × FVec F S256x256 .bf16 × FVec F S256x256 .bf16 × FVec F S128x256 .f32 × FVec F S128x256 .f32 × FVec F S128x256 .f32 × FVec F S128x256 .f32 × FVec F S128x256 .f32

/-- Head 0 of the loop's carried value. -/
abbrev hd0 (T : FVec F S256x256 .f32 × FVec F S256x256 .f32 × FVec F S256x256 .f32 × FVec F S256x256 .f32 × FVec F S256x256 .f32 × FVec F S1x256 .f32 × FVec F S1x256 .f32 × FVec F S1x256 .f32 × FVec F S1x256 .f32 × FVec F S1x256 .f32 × FVec F S256x256 .bf16 × FVec F S256x256 .bf16 × FVec F S256x256 .bf16 × FVec F S256x256 .bf16 × FVec F S256x256 .bf16 × FVec F S128x256 .f32 × FVec F S128x256 .f32 × FVec F S128x256 .f32 × FVec F S128x256 .f32 × FVec F S128x256 .f32) : HS F :=
  ⟨T.1, T.2.2.2.2.2.1, T.2.2.2.2.2.2.2.2.2.2.1, T.2.2.2.2.2.2.2.2.2.2.2.2.2.2.2.1⟩

/-- Head 1 of the loop's carried value. -/
abbrev hd1 (T : FVec F S256x256 .f32 × FVec F S256x256 .f32 × FVec F S256x256 .f32 × FVec F S256x256 .f32 × FVec F S256x256 .f32 × FVec F S1x256 .f32 × FVec F S1x256 .f32 × FVec F S1x256 .f32 × FVec F S1x256 .f32 × FVec F S1x256 .f32 × FVec F S256x256 .bf16 × FVec F S256x256 .bf16 × FVec F S256x256 .bf16 × FVec F S256x256 .bf16 × FVec F S256x256 .bf16 × FVec F S128x256 .f32 × FVec F S128x256 .f32 × FVec F S128x256 .f32 × FVec F S128x256 .f32 × FVec F S128x256 .f32) : HS F :=
  ⟨T.2.1, T.2.2.2.2.2.2.1, T.2.2.2.2.2.2.2.2.2.2.2.1, T.2.2.2.2.2.2.2.2.2.2.2.2.2.2.2.2.1⟩

/-- Head 2 of the loop's carried value. -/
abbrev hd2 (T : FVec F S256x256 .f32 × FVec F S256x256 .f32 × FVec F S256x256 .f32 × FVec F S256x256 .f32 × FVec F S256x256 .f32 × FVec F S1x256 .f32 × FVec F S1x256 .f32 × FVec F S1x256 .f32 × FVec F S1x256 .f32 × FVec F S1x256 .f32 × FVec F S256x256 .bf16 × FVec F S256x256 .bf16 × FVec F S256x256 .bf16 × FVec F S256x256 .bf16 × FVec F S256x256 .bf16 × FVec F S128x256 .f32 × FVec F S128x256 .f32 × FVec F S128x256 .f32 × FVec F S128x256 .f32 × FVec F S128x256 .f32) : HS F :=
  ⟨T.2.2.1, T.2.2.2.2.2.2.2.1, T.2.2.2.2.2.2.2.2.2.2.2.2.1, T.2.2.2.2.2.2.2.2.2.2.2.2.2.2.2.2.2.1⟩

/-- Head 3 of the loop's carried value. -/
abbrev hd3 (T : FVec F S256x256 .f32 × FVec F S256x256 .f32 × FVec F S256x256 .f32 × FVec F S256x256 .f32 × FVec F S256x256 .f32 × FVec F S1x256 .f32 × FVec F S1x256 .f32 × FVec F S1x256 .f32 × FVec F S1x256 .f32 × FVec F S1x256 .f32 × FVec F S256x256 .bf16 × FVec F S256x256 .bf16 × FVec F S256x256 .bf16 × FVec F S256x256 .bf16 × FVec F S256x256 .bf16 × FVec F S128x256 .f32 × FVec F S128x256 .f32 × FVec F S128x256 .f32 × FVec F S128x256 .f32 × FVec F S128x256 .f32) : HS F :=
  ⟨T.2.2.2.1, T.2.2.2.2.2.2.2.2.1, T.2.2.2.2.2.2.2.2.2.2.2.2.2.1, T.2.2.2.2.2.2.2.2.2.2.2.2.2.2.2.2.2.2.1⟩

/-- Head 4 of the loop's carried value. -/
abbrev hd4 (T : FVec F S256x256 .f32 × FVec F S256x256 .f32 × FVec F S256x256 .f32 × FVec F S256x256 .f32 × FVec F S256x256 .f32 × FVec F S1x256 .f32 × FVec F S1x256 .f32 × FVec F S1x256 .f32 × FVec F S1x256 .f32 × FVec F S1x256 .f32 × FVec F S256x256 .bf16 × FVec F S256x256 .bf16 × FVec F S256x256 .bf16 × FVec F S256x256 .bf16 × FVec F S256x256 .bf16 × FVec F S128x256 .f32 × FVec F S128x256 .f32 × FVec F S128x256 .f32 × FVec F S128x256 .f32 × FVec F S128x256 .f32) : HS F :=
  ⟨T.2.2.2.2.1, T.2.2.2.2.2.2.2.2.2.1, T.2.2.2.2.2.2.2.2.2.2.2.2.2.2.1, T.2.2.2.2.2.2.2.2.2.2.2.2.2.2.2.2.2.2.2⟩

/-- The product of the last block's weights with its values, accumulated: a head's whole output, transposed. -/
def fin (l : Vec F S1x128x256 .bf16) (h : HS F) : FVec F S128x256 .f32 := k0_pay10 h.p h.ac l

/-- The three column blocks the body stores, from the heads' last states and the first block's values. -/
def pieces (l0 l1 l2 : Vec F S1x128x256 .bf16) (h0 h1 h2 h3 h4 : HS F) : List (View.Piece (Elt F) S256x384 .bf16) :=
  [⟨Rect.unit ![0, 256] S256x128.size inb_S256x384_S256x128_0_256, k0_pay1 k0_pay186 (fin l2 h4) k0_pay195⟩,
    ⟨Rect.unit ![0, 128] S256x128.size inb_S256x384_S256x128_0_128, k0_pay1 k0_pay186 (fin l1 h2) (fin l1 h3)⟩,
    ⟨Rect.unit ![0, 0] S256x128.size inb_S256x384_S256x128_0_0, k0_pay1 k0_pay186 (fin l0 h0) (fin l0 h1)⟩]

/-- The half-step the conditional takes at an odd block: no further scores. -/
def half (l : Vec F S1x128x256 .bf16) (h : HS F) : HS F := ⟨h.s, h.tl, k0_pay25 k0_pay188 h.s h.tl, k0_pay10 h.p h.ac l⟩

section
variable (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (arg1 : BitVec 32)
variable (v10 : IVec S256x256 1) (v22 : FVec F S256x128 .bf16) (v28 : FVec F S256x128 .bf16) (v34 : FVec F S256x128 .bf16) (v40 : FVec F S256x128 .bf16) (v46 : FVec F S256x128 .bf16) (v47 : FVec F S1x256 .f32) (v48 : FVec F S128x256 .f32) (v78 : FVec F S256x256 .f32) (v86 : FVec F S256x256 .f32) (v94 : FVec F S256x256 .f32) (v102 : FVec F S256x256 .f32) (v110 : FVec F S256x256 .f32) (v118 : FVec F S256x256 .f32) (v159 : FVec F S1x256 .f32) (v160 : FVec F S256x256 .bf16) (v201 : FVec F S1x256 .f32) (v202 : FVec F S256x256 .bf16) (v243 : FVec F S1x256 .f32) (v244 : FVec F S256x256 .bf16) (v285 : FVec F S1x256 .f32) (v286 : FVec F S256x256 .bf16) (v299 : FVec F S256x256 .bf16) (v302 : FVec F S256x256 .bf16) (v305 : FVec F S1x256 .f32) (v308 : FVec F S1x256 .f32) (v314 : FVec F S128x256 .f32) (v350 : BitVec 32)

/-- The loop's state after `k` trips. -/
theorem st1_eq (x1 : Vec F S2048x384 .bf16) (x2 : Vec F S1x384x2048 .bf16) (h0 h1 h2 h3 h4 : HS F) (k : ℕ) (hk : k ≤ (k0_t1_loop i).trips) :
    st_k0_t1 (F := F) Variants.none c none i arg2 harg2 arg3 harg3 arg4 harg4 arg5 harg5 arg1 v10 k0_pay188 v22 v28 v34 v40 v46 v47 v48 v78 v86 v94 v102 v110 v118 v159 v160 v201 v202 v243 v244 v285 v286 v299 v302 v305 v308 v314 (harg3.unread x1) (harg4.unread x2) (pack h0 h1 h2 h3 h4) k
      = (pack (hs x1 x2 0 v22 (i 1).val h0 (2 * k)) (hs x1 x2 0 v28 (i 1).val h1 (2 * k)) (hs x1 x2 1 v34 (i 1).val h2 (2 * k)) (hs x1 x2 1 v40 (i 1).val h3 (2 * k)) (hs x1 x2 2 v46 (i 1).val h4 (2 * k))) := by
  induction k with
  | zero => rfl
  | succ k ih =>
    have hk' : k < (k0_t1_loop i).trips := hk
    have e := st_k0_t1_succ (F := F) Variants.none c none i arg2 harg2 arg3 harg3 arg4 harg4 arg5 harg5 arg1 v10 k0_pay188 v22 v28 v34 v40 v46 v47 v48 v78 v86 v94 v102 v110 v118 v159 v160 v201 v202 v243 v244 v285 v286 v299 v302 v305 v308 v314 (harg3.unread x1) (harg4.unread x2)
        (pack h0 h1 h2 h3 h4) ⟨k, hk'⟩
    rw [e, ih hk'.le, trip1]
    refine pack_inj ?_ ?_ ?_ ?_ ?_
    · rw [ldK_eq arg3 harg3 x1 0 ((i 1).val - (2 * k + 2)) (k0_off7 i ⟨k, hk'⟩ 1#32) _ (off7_eq i ⟨k, hk'⟩ 0), ldK_eq arg3 harg3 x1 0 ((i 1).val - (2 * k + 1 + 2)) (k0_off7 i ⟨k, hk'⟩ 2#32) _ (off7_eq i ⟨k, hk'⟩ 1),
        ldV_eq arg4 harg4 x2 0 ((i 1).val - 2 * k) (k0_off10 i ⟨k, hk'⟩ 1#32) _ (off10_eq i ⟨k, hk'⟩ 0), ldV_eq arg4 harg4 x2 0 ((i 1).val - (2 * k + 1)) (k0_off10 i ⟨k, hk'⟩ 2#32) _ (off10_eq i ⟨k, hk'⟩ 1)]
      rfl
    · rw [ldK_eq arg3 harg3 x1 0 ((i 1).val - (2 * k + 2)) (k0_off7 i ⟨k, hk'⟩ 1#32) _ (off7_eq i ⟨k, hk'⟩ 0), ldK_eq arg3 harg3 x1 0 ((i 1).val - (2 * k + 1 + 2)) (k0_off7 i ⟨k, hk'⟩ 2#32) _ (off7_eq i ⟨k, hk'⟩ 1),
        ldV_eq arg4 harg4 x2 0 ((i 1).val - 2 * k) (k0_off10 i ⟨k, hk'⟩ 1#32) _ (off10_eq i ⟨k, hk'⟩ 0), ldV_eq arg4 harg4 x2 0 ((i 1).val - (2 * k + 1)) (k0_off10 i ⟨k, hk'⟩ 2#32) _ (off10_eq i ⟨k, hk'⟩ 1)]
      rfl
    · rw [ldK_eq arg3 harg3 x1 1 ((i 1).val - (2 * k + 2)) (k0_off8 i ⟨k, hk'⟩ 1#32) _ (off8_eq i ⟨k, hk'⟩ 0), ldK_eq arg3 harg3 x1 1 ((i 1).val - (2 * k + 1 + 2)) (k0_off8 i ⟨k, hk'⟩ 2#32) _ (off8_eq i ⟨k, hk'⟩ 1),
        ldV_eq arg4 harg4 x2 1 ((i 1).val - 2 * k) (k0_off11 i ⟨k, hk'⟩ 1#32) _ (off11_eq i ⟨k, hk'⟩ 0), ldV_eq arg4 harg4 x2 1 ((i 1).val - (2 * k + 1)) (k0_off11 i ⟨k, hk'⟩ 2#32) _ (off11_eq i ⟨k, hk'⟩ 1)]
      rfl
    · rw [ldK_eq arg3 harg3 x1 1 ((i 1).val - (2 * k + 2)) (k0_off8 i ⟨k, hk'⟩ 1#32) _ (off8_eq i ⟨k, hk'⟩ 0), ldK_eq arg3 harg3 x1 1 ((i 1).val - (2 * k + 1 + 2)) (k0_off8 i ⟨k, hk'⟩ 2#32) _ (off8_eq i ⟨k, hk'⟩ 1),
        ldV_eq arg4 harg4 x2 1 ((i 1).val - 2 * k) (k0_off11 i ⟨k, hk'⟩ 1#32) _ (off11_eq i ⟨k, hk'⟩ 0), ldV_eq arg4 harg4 x2 1 ((i 1).val - (2 * k + 1)) (k0_off11 i ⟨k, hk'⟩ 2#32) _ (off11_eq i ⟨k, hk'⟩ 1)]
      rfl
    · rw [ldK_eq arg3 harg3 x1 2 ((i 1).val - (2 * k + 2)) (k0_off9 i ⟨k, hk'⟩ 1#32) _ (off9_eq i ⟨k, hk'⟩ 0), ldK_eq arg3 harg3 x1 2 ((i 1).val - (2 * k + 1 + 2)) (k0_off9 i ⟨k, hk'⟩ 2#32) _ (off9_eq i ⟨k, hk'⟩ 1),
        ldV_eq arg4 harg4 x2 2 ((i 1).val - 2 * k) (k0_off12 i ⟨k, hk'⟩ 1#32) _ (off12_eq i ⟨k, hk'⟩ 0), ldV_eq arg4 harg4 x2 2 ((i 1).val - (2 * k + 1)) (k0_off12 i ⟨k, hk'⟩ 2#32) _ (off12_eq i ⟨k, hk'⟩ 1)]
      rfl

/-- The remainder loop makes no trip. -/
theorem st2_eq (X3 : BufTy.Contents (Elt F) arg3.view.ty) (X4 : BufTy.Contents (Elt F) arg4.view.ty) (T : FVec F S256x256 .f32 × FVec F S256x256 .f32 × FVec F S256x256 .f32 × FVec F S256x256 .f32 × FVec F S256x256 .f32 × FVec F S1x256 .f32 × FVec F S1x256 .f32 × FVec F S1x256 .f32 × FVec F S1x256 .f32 × FVec F S1x256 .f32 × FVec F S256x256 .bf16 × FVec F S256x256 .bf16 × FVec F S256x256 .bf16 × FVec F S256x256 .bf16 × FVec F S256x256 .bf16 × FVec F S128x256 .f32 × FVec F S128x256 .f32 × FVec F S128x256 .f32 × FVec F S128x256 .f32 × FVec F S128x256 .f32) :
    st_k0_t2 (F := F) Variants.none c none i arg2 harg2 arg3 harg3 arg4 harg4 arg5 harg5 arg1 v10 k0_pay188 v22 v28 v34 v40 v46 v47 v48 v78 v86 v94 v102 v110 v118 v159 v160 v201 v202 v243 v244 v285 v286 v299 v302 v305 v308 v314 v350 X3 X4 T (Scf.trips (k0_t2_loop i).lb (k0_t2_loop i).ub (k0_t2_loop i).st) = T := by
  rw [show Scf.trips (k0_t2_loop i).lb (k0_t2_loop i).ub (k0_t2_loop i).st = 0 from trips2 i]; rfl
end

end Cert.Proof.Sb

end
-- ==== Proof.RunEq.lean ====
/- The run's find, read as the composition of half-steps. -/
module

public import proofs.«01_k».proof.Proof.Spec
public import Idealize.ShloMosaic.Lib.Pointwise
public import Idealize.ShloMosaic.Lib.Pipeline.ValueKit

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
theorem runOdd_init (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    ((runOdd.sl.r_10 c i arg2 harg2 arg3 harg3 x0 x1), (runOdd.sl.r_11 c i arg2 harg2 arg3 harg3 x0 x1), (runOdd.sl.r_12 c i arg2 harg2 arg3 harg3 x0 x1), (runOdd.sl.r_13 c i arg2 harg2 arg3 harg3 x0 x1), (runOdd.sl.r_15 c i arg2 harg2 arg3 harg3 x0 x1), (runOdd.sl.r_16 c i arg2 harg2 arg3 harg3 x0 x1), (runOdd.sl.r_20 c i arg2 harg2 arg3 harg3 x0 x1), (runOdd.sl.r_24 c i arg2 harg2 arg3 harg3 x0 x1), (runOdd.sl.r_30 c i arg2 harg2 arg3 harg3 x0 x1), k0_pay237 k0_pay194 (runOdd.sl.r_34 c i arg2 harg2 arg3 harg3 x0 x1) (runOdd.sl.r_35 c i arg2 harg2 arg3 harg3 x0 x1), (runOdd.sl.r_17 c i arg2 harg2 arg3 harg3 x0 x1), (runOdd.sl.r_21 c i arg2 harg2 arg3 harg3 x0 x1), (runOdd.sl.r_25 c i arg2 harg2 arg3 harg3 x0 x1), (runOdd.sl.r_31 c i arg2 harg2 arg3 harg3 x0 x1), k0_pay238 k0_pay187 k0_pay188 k0_pay194 (runOdd.sl.r_9 c i arg2 harg2 arg3 harg3 x0 x1) (runOdd.sl.r_32 c i arg2 harg2 arg3 harg3 x0 x1) (runOdd.sl.r_33 c i arg2 harg2 arg3 harg3 x0 x1) (runOdd.sl.r_36 c i arg2 harg2 arg3 harg3 x0 x1), k0_pay195, k0_pay195, k0_pay195, k0_pay195, k0_pay195)
      = pack (hinit (runOdd.sl.r c arg2 harg2 x0) (ldK arg3 (harg3.unread x1) (k0_off1 i) (k0_off1_inb i)) (ldK arg3 (harg3.unread x1) (k0_off4 i) (k0_off4_inb i)))
          (hinit (runOdd.sl.r_1 c arg2 harg2 x0) (ldK arg3 (harg3.unread x1) (k0_off1 i) (k0_off1_inb i)) (ldK arg3 (harg3.unread x1) (k0_off4 i) (k0_off4_inb i)))
          (hinit (runOdd.sl.r_2 c arg2 harg2 x0) (ldK arg3 (harg3.unread x1) (k0_off2 i) (k0_off2_inb i)) (ldK arg3 (harg3.unread x1) (k0_off5 i) (k0_off5_inb i)))
          (hinit (runOdd.sl.r_3 c arg2 harg2 x0) (ldK arg3 (harg3.unread x1) (k0_off2 i) (k0_off2_inb i)) (ldK arg3 (harg3.unread x1) (k0_off5 i) (k0_off5_inb i)))
          (hinit (runOdd.sl.r_4 c arg2 harg2 x0) (ldK arg3 (harg3.unread x1) (k0_off3 i) (k0_off3_inb i)) (ldK arg3 (harg3.unread x1) (k0_off6 i) (k0_off6_inb i))) := by
  refine Prod.ext rfl (Prod.ext rfl (Prod.ext rfl (Prod.ext rfl (Prod.ext rfl (Prod.ext rfl (Prod.ext rfl (Prod.ext rfl (Prod.ext rfl (Prod.ext rfl (Prod.ext rfl (Prod.ext rfl (Prod.ext rfl (Prod.ext rfl (Prod.ext rfl rfl))))))))))))))

set_option maxHeartbeats 1000000 in
theorem runOdd_t1 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    st_k0_t1 (F := F) Variants.none c none i arg2 harg2 arg3 harg3 arg4 harg4 arg5 harg5 (BitVec.ofNat 32 (i 1).val) k0_pay187 k0_pay188 (runOdd.sl.r c arg2 harg2 x0) (runOdd.sl.r_1 c arg2 harg2 x0) (runOdd.sl.r_2 c arg2 harg2 x0) (runOdd.sl.r_3 c arg2 harg2 x0) (runOdd.sl.r_4 c arg2 harg2 x0) k0_pay194 k0_pay195 (runOdd.sl.r_9 c i arg2 harg2 arg3 harg3 x0 x1) (runOdd.sl.r_10 c i arg2 harg2 arg3 harg3 x0 x1) (runOdd.sl.r_11 c i arg2 harg2 arg3 harg3 x0 x1) (runOdd.sl.r_12 c i arg2 harg2 arg3 harg3 x0 x1) (runOdd.sl.r_13 c i arg2 harg2 arg3 harg3 x0 x1) (runOdd.sl.r_15 c i arg2 harg2 arg3 harg3 x0 x1) (runOdd.sl.r_16 c i arg2 harg2 arg3 harg3 x0 x1) (runOdd.sl.r_17 c i arg2 harg2 arg3 harg3 x0 x1) (runOdd.sl.r_20 c i arg2 harg2 arg3 harg3 x0 x1) (runOdd.sl.r_21 c i arg2 harg2 arg3 harg3 x0 x1) (runOdd.sl.r_24 c i arg2 harg2 arg3 harg3 x0 x1) (runOdd.sl.r_25 c i arg2 harg2 arg3 harg3 x0 x1) (runOdd.sl.r_30 c i arg2 harg2 arg3 harg3 x0 x1) (runOdd.sl.r_31 c i arg2 harg2 arg3 harg3 x0 x1) (runOdd.sl.r_32 c i arg2 harg2 arg3 harg3 x0 x1) (runOdd.sl.r_33 c i arg2 harg2 arg3 harg3 x0 x1) (runOdd.sl.r_34 c i arg2 harg2 arg3 harg3 x0 x1) (runOdd.sl.r_35 c i arg2 harg2 arg3 harg3 x0 x1) (runOdd.sl.r_36 c i arg2 harg2 arg3 harg3 x0 x1) (harg3.unread x1) (harg4.unread x2)
          ((runOdd.sl.r_10 c i arg2 harg2 arg3 harg3 x0 x1), (runOdd.sl.r_11 c i arg2 harg2 arg3 harg3 x0 x1), (runOdd.sl.r_12 c i arg2 harg2 arg3 harg3 x0 x1), (runOdd.sl.r_13 c i arg2 harg2 arg3 harg3 x0 x1), (runOdd.sl.r_15 c i arg2 harg2 arg3 harg3 x0 x1), (runOdd.sl.r_16 c i arg2 harg2 arg3 harg3 x0 x1), (runOdd.sl.r_20 c i arg2 harg2 arg3 harg3 x0 x1), (runOdd.sl.r_24 c i arg2 harg2 arg3 harg3 x0 x1), (runOdd.sl.r_30 c i arg2 harg2 arg3 harg3 x0 x1), k0_pay237 k0_pay194 (runOdd.sl.r_34 c i arg2 harg2 arg3 harg3 x0 x1) (runOdd.sl.r_35 c i arg2 harg2 arg3 harg3 x0 x1), (runOdd.sl.r_17 c i arg2 harg2 arg3 harg3 x0 x1), (runOdd.sl.r_21 c i arg2 harg2 arg3 harg3 x0 x1), (runOdd.sl.r_25 c i arg2 harg2 arg3 harg3 x0 x1), (runOdd.sl.r_31 c i arg2 harg2 arg3 harg3 x0 x1), k0_pay238 k0_pay187 k0_pay188 k0_pay194 (runOdd.sl.r_9 c i arg2 harg2 arg3 harg3 x0 x1) (runOdd.sl.r_32 c i arg2 harg2 arg3 harg3 x0 x1) (runOdd.sl.r_33 c i arg2 harg2 arg3 harg3 x0 x1) (runOdd.sl.r_36 c i arg2 harg2 arg3 harg3 x0 x1), k0_pay195, k0_pay195, k0_pay195, k0_pay195, k0_pay195) (Scf.trips (k0_t1_loop i).lb (k0_t1_loop i).ub (k0_t1_loop i).st)
      = pack (hs x1 x2 0 (runOdd.sl.r c arg2 harg2 x0) (i 1).val (hinit (runOdd.sl.r c arg2 harg2 x0) (ldK arg3 (harg3.unread x1) (k0_off1 i) (k0_off1_inb i)) (ldK arg3 (harg3.unread x1) (k0_off4 i) (k0_off4_inb i))) (2 * (k0_t1_loop i).trips))
          (hs x1 x2 0 (runOdd.sl.r_1 c arg2 harg2 x0) (i 1).val (hinit (runOdd.sl.r_1 c arg2 harg2 x0) (ldK arg3 (harg3.unread x1) (k0_off1 i) (k0_off1_inb i)) (ldK arg3 (harg3.unread x1) (k0_off4 i) (k0_off4_inb i))) (2 * (k0_t1_loop i).trips))
          (hs x1 x2 1 (runOdd.sl.r_2 c arg2 harg2 x0) (i 1).val (hinit (runOdd.sl.r_2 c arg2 harg2 x0) (ldK arg3 (harg3.unread x1) (k0_off2 i) (k0_off2_inb i)) (ldK arg3 (harg3.unread x1) (k0_off5 i) (k0_off5_inb i))) (2 * (k0_t1_loop i).trips))
          (hs x1 x2 1 (runOdd.sl.r_3 c arg2 harg2 x0) (i 1).val (hinit (runOdd.sl.r_3 c arg2 harg2 x0) (ldK arg3 (harg3.unread x1) (k0_off2 i) (k0_off2_inb i)) (ldK arg3 (harg3.unread x1) (k0_off5 i) (k0_off5_inb i))) (2 * (k0_t1_loop i).trips))
          (hs x1 x2 2 (runOdd.sl.r_4 c arg2 harg2 x0) (i 1).val (hinit (runOdd.sl.r_4 c arg2 harg2 x0) (ldK arg3 (harg3.unread x1) (k0_off3 i) (k0_off3_inb i)) (ldK arg3 (harg3.unread x1) (k0_off6 i) (k0_off6_inb i))) (2 * (k0_t1_loop i).trips)) :=
  (congrArg (fun T : Carry F => st_k0_t1 (F := F) Variants.none c none i arg2 harg2 arg3 harg3 arg4 harg4 arg5 harg5 (BitVec.ofNat 32 (i 1).val) k0_pay187 k0_pay188 (runOdd.sl.r c arg2 harg2 x0) (runOdd.sl.r_1 c arg2 harg2 x0) (runOdd.sl.r_2 c arg2 harg2 x0) (runOdd.sl.r_3 c arg2 harg2 x0) (runOdd.sl.r_4 c arg2 harg2 x0) k0_pay194 k0_pay195 (runOdd.sl.r_9 c i arg2 harg2 arg3 harg3 x0 x1) (runOdd.sl.r_10 c i arg2 harg2 arg3 harg3 x0 x1) (runOdd.sl.r_11 c i arg2 harg2 arg3 harg3 x0 x1) (runOdd.sl.r_12 c i arg2 harg2 arg3 harg3 x0 x1) (runOdd.sl.r_13 c i arg2 harg2 arg3 harg3 x0 x1) (runOdd.sl.r_15 c i arg2 harg2 arg3 harg3 x0 x1) (runOdd.sl.r_16 c i arg2 harg2 arg3 harg3 x0 x1) (runOdd.sl.r_17 c i arg2 harg2 arg3 harg3 x0 x1) (runOdd.sl.r_20 c i arg2 harg2 arg3 harg3 x0 x1) (runOdd.sl.r_21 c i arg2 harg2 arg3 harg3 x0 x1) (runOdd.sl.r_24 c i arg2 harg2 arg3 harg3 x0 x1) (runOdd.sl.r_25 c i arg2 harg2 arg3 harg3 x0 x1) (runOdd.sl.r_30 c i arg2 harg2 arg3 harg3 x0 x1) (runOdd.sl.r_31 c i arg2 harg2 arg3 harg3 x0 x1) (runOdd.sl.r_32 c i arg2 harg2 arg3 harg3 x0 x1) (runOdd.sl.r_33 c i arg2 harg2 arg3 harg3 x0 x1) (runOdd.sl.r_34 c i arg2 harg2 arg3 harg3 x0 x1) (runOdd.sl.r_35 c i arg2 harg2 arg3 harg3 x0 x1) (runOdd.sl.r_36 c i arg2 harg2 arg3 harg3 x0 x1) (harg3.unread x1) (harg4.unread x2) T (Scf.trips (k0_t1_loop i).lb (k0_t1_loop i).ub (k0_t1_loop i).st)) (runOdd_init (F := F) c i arg2 harg2 arg3 harg3 arg4 harg4 arg5 harg5 x0 x1 x2)).trans (st1_eq (F := F) (x1 := x1) (x2 := x2) (hk := le_rfl) ..)

theorem runOdd_r37 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_37 c i arg2 harg2 arg3 harg3 arg4 harg4 arg5 harg5 x0 x1 x2 = (hs x1 x2 0 (runOdd.sl.r c arg2 harg2 x0) (i 1).val (hinit (runOdd.sl.r c arg2 harg2 x0) (ldK arg3 (harg3.unread x1) (k0_off1 i) (k0_off1_inb i)) (ldK arg3 (harg3.unread x1) (k0_off4 i) (k0_off4_inb i))) (2 * (k0_t1_loop i).trips)).s := by
  unfold runOdd.sl.r_37
  rw [st2_eq]
  dsimp only
  rw [runOdd_t1]

theorem runOdd_r38 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_38 c i arg2 harg2 arg3 harg3 arg4 harg4 arg5 harg5 x0 x1 x2 = (hs x1 x2 0 (runOdd.sl.r_1 c arg2 harg2 x0) (i 1).val (hinit (runOdd.sl.r_1 c arg2 harg2 x0) (ldK arg3 (harg3.unread x1) (k0_off1 i) (k0_off1_inb i)) (ldK arg3 (harg3.unread x1) (k0_off4 i) (k0_off4_inb i))) (2 * (k0_t1_loop i).trips)).s := by
  unfold runOdd.sl.r_38
  rw [st2_eq]
  dsimp only
  rw [runOdd_t1]

theorem runOdd_r39 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_39 c i arg2 harg2 arg3 harg3 arg4 harg4 arg5 harg5 x0 x1 x2 = (hs x1 x2 1 (runOdd.sl.r_2 c arg2 harg2 x0) (i 1).val (hinit (runOdd.sl.r_2 c arg2 harg2 x0) (ldK arg3 (harg3.unread x1) (k0_off2 i) (k0_off2_inb i)) (ldK arg3 (harg3.unread x1) (k0_off5 i) (k0_off5_inb i))) (2 * (k0_t1_loop i).trips)).s := by
  unfold runOdd.sl.r_39
  rw [st2_eq]
  dsimp only
  rw [runOdd_t1]

theorem runOdd_r40 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_40 c i arg2 harg2 arg3 harg3 arg4 harg4 arg5 harg5 x0 x1 x2 = (hs x1 x2 1 (runOdd.sl.r_3 c arg2 harg2 x0) (i 1).val (hinit (runOdd.sl.r_3 c arg2 harg2 x0) (ldK arg3 (harg3.unread x1) (k0_off2 i) (k0_off2_inb i)) (ldK arg3 (harg3.unread x1) (k0_off5 i) (k0_off5_inb i))) (2 * (k0_t1_loop i).trips)).s := by
  unfold runOdd.sl.r_40
  rw [st2_eq]
  dsimp only
  rw [runOdd_t1]

theorem runOdd_r41 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_41 c i arg2 harg2 arg3 harg3 arg4 harg4 arg5 harg5 x0 x1 x2 = (hs x1 x2 2 (runOdd.sl.r_4 c arg2 harg2 x0) (i 1).val (hinit (runOdd.sl.r_4 c arg2 harg2 x0) (ldK arg3 (harg3.unread x1) (k0_off3 i) (k0_off3_inb i)) (ldK arg3 (harg3.unread x1) (k0_off6 i) (k0_off6_inb i))) (2 * (k0_t1_loop i).trips)).s := by
  unfold runOdd.sl.r_41
  rw [st2_eq]
  dsimp only
  rw [runOdd_t1]

theorem runOdd_r42 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_42 c i arg2 harg2 arg3 harg3 arg4 harg4 arg5 harg5 x0 x1 x2 = (hs x1 x2 0 (runOdd.sl.r c arg2 harg2 x0) (i 1).val (hinit (runOdd.sl.r c arg2 harg2 x0) (ldK arg3 (harg3.unread x1) (k0_off1 i) (k0_off1_inb i)) (ldK arg3 (harg3.unread x1) (k0_off4 i) (k0_off4_inb i))) (2 * (k0_t1_loop i).trips)).tl := by
  unfold runOdd.sl.r_42
  rw [st2_eq]
  dsimp only
  rw [runOdd_t1]

theorem runOdd_r43 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_43 c i arg2 harg2 arg3 harg3 arg4 harg4 arg5 harg5 x0 x1 x2 = (hs x1 x2 0 (runOdd.sl.r_1 c arg2 harg2 x0) (i 1).val (hinit (runOdd.sl.r_1 c arg2 harg2 x0) (ldK arg3 (harg3.unread x1) (k0_off1 i) (k0_off1_inb i)) (ldK arg3 (harg3.unread x1) (k0_off4 i) (k0_off4_inb i))) (2 * (k0_t1_loop i).trips)).tl := by
  unfold runOdd.sl.r_43
  rw [st2_eq]
  dsimp only
  rw [runOdd_t1]

theorem runOdd_r44 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_44 c i arg2 harg2 arg3 harg3 arg4 harg4 arg5 harg5 x0 x1 x2 = (hs x1 x2 1 (runOdd.sl.r_2 c arg2 harg2 x0) (i 1).val (hinit (runOdd.sl.r_2 c arg2 harg2 x0) (ldK arg3 (harg3.unread x1) (k0_off2 i) (k0_off2_inb i)) (ldK arg3 (harg3.unread x1) (k0_off5 i) (k0_off5_inb i))) (2 * (k0_t1_loop i).trips)).tl := by
  unfold runOdd.sl.r_44
  rw [st2_eq]
  dsimp only
  rw [runOdd_t1]

theorem runOdd_r45 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_45 c i arg2 harg2 arg3 harg3 arg4 harg4 arg5 harg5 x0 x1 x2 = (hs x1 x2 1 (runOdd.sl.r_3 c arg2 harg2 x0) (i 1).val (hinit (runOdd.sl.r_3 c arg2 harg2 x0) (ldK arg3 (harg3.unread x1) (k0_off2 i) (k0_off2_inb i)) (ldK arg3 (harg3.unread x1) (k0_off5 i) (k0_off5_inb i))) (2 * (k0_t1_loop i).trips)).tl := by
  unfold runOdd.sl.r_45
  rw [st2_eq]
  dsimp only
  rw [runOdd_t1]

theorem runOdd_r46 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_46 c i arg2 harg2 arg3 harg3 arg4 harg4 arg5 harg5 x0 x1 x2 = (hs x1 x2 2 (runOdd.sl.r_4 c arg2 harg2 x0) (i 1).val (hinit (runOdd.sl.r_4 c arg2 harg2 x0) (ldK arg3 (harg3.unread x1) (k0_off3 i) (k0_off3_inb i)) (ldK arg3 (harg3.unread x1) (k0_off6 i) (k0_off6_inb i))) (2 * (k0_t1_loop i).trips)).tl := by
  unfold runOdd.sl.r_46
  rw [st2_eq]
  dsimp only
  rw [runOdd_t1]

theorem runOdd_r47 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_47 c i arg2 harg2 arg3 harg3 arg4 harg4 arg5 harg5 x0 x1 x2 = (hs x1 x2 0 (runOdd.sl.r c arg2 harg2 x0) (i 1).val (hinit (runOdd.sl.r c arg2 harg2 x0) (ldK arg3 (harg3.unread x1) (k0_off1 i) (k0_off1_inb i)) (ldK arg3 (harg3.unread x1) (k0_off4 i) (k0_off4_inb i))) (2 * (k0_t1_loop i).trips)).p := by
  unfold runOdd.sl.r_47
  rw [st2_eq]
  dsimp only
  rw [runOdd_t1]

theorem runOdd_r48 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_48 c i arg2 harg2 arg3 harg3 arg4 harg4 arg5 harg5 x0 x1 x2 = (hs x1 x2 0 (runOdd.sl.r_1 c arg2 harg2 x0) (i 1).val (hinit (runOdd.sl.r_1 c arg2 harg2 x0) (ldK arg3 (harg3.unread x1) (k0_off1 i) (k0_off1_inb i)) (ldK arg3 (harg3.unread x1) (k0_off4 i) (k0_off4_inb i))) (2 * (k0_t1_loop i).trips)).p := by
  unfold runOdd.sl.r_48
  rw [st2_eq]
  dsimp only
  rw [runOdd_t1]

theorem runOdd_r49 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_49 c i arg2 harg2 arg3 harg3 arg4 harg4 arg5 harg5 x0 x1 x2 = (hs x1 x2 1 (runOdd.sl.r_2 c arg2 harg2 x0) (i 1).val (hinit (runOdd.sl.r_2 c arg2 harg2 x0) (ldK arg3 (harg3.unread x1) (k0_off2 i) (k0_off2_inb i)) (ldK arg3 (harg3.unread x1) (k0_off5 i) (k0_off5_inb i))) (2 * (k0_t1_loop i).trips)).p := by
  unfold runOdd.sl.r_49
  rw [st2_eq]
  dsimp only
  rw [runOdd_t1]

theorem runOdd_r50 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_50 c i arg2 harg2 arg3 harg3 arg4 harg4 arg5 harg5 x0 x1 x2 = (hs x1 x2 1 (runOdd.sl.r_3 c arg2 harg2 x0) (i 1).val (hinit (runOdd.sl.r_3 c arg2 harg2 x0) (ldK arg3 (harg3.unread x1) (k0_off2 i) (k0_off2_inb i)) (ldK arg3 (harg3.unread x1) (k0_off5 i) (k0_off5_inb i))) (2 * (k0_t1_loop i).trips)).p := by
  unfold runOdd.sl.r_50
  rw [st2_eq]
  dsimp only
  rw [runOdd_t1]

theorem runOdd_r51 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_51 c i arg2 harg2 arg3 harg3 arg4 harg4 arg5 harg5 x0 x1 x2 = (hs x1 x2 2 (runOdd.sl.r_4 c arg2 harg2 x0) (i 1).val (hinit (runOdd.sl.r_4 c arg2 harg2 x0) (ldK arg3 (harg3.unread x1) (k0_off3 i) (k0_off3_inb i)) (ldK arg3 (harg3.unread x1) (k0_off6 i) (k0_off6_inb i))) (2 * (k0_t1_loop i).trips)).p := by
  unfold runOdd.sl.r_51
  rw [st2_eq]
  dsimp only
  rw [runOdd_t1]

theorem runOdd_r52 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_52 c i arg2 harg2 arg3 harg3 arg4 harg4 arg5 harg5 x0 x1 x2 = (hs x1 x2 0 (runOdd.sl.r c arg2 harg2 x0) (i 1).val (hinit (runOdd.sl.r c arg2 harg2 x0) (ldK arg3 (harg3.unread x1) (k0_off1 i) (k0_off1_inb i)) (ldK arg3 (harg3.unread x1) (k0_off4 i) (k0_off4_inb i))) (2 * (k0_t1_loop i).trips)).ac := by
  unfold runOdd.sl.r_52
  rw [st2_eq]
  dsimp only
  rw [runOdd_t1]

theorem runOdd_r53 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_53 c i arg2 harg2 arg3 harg3 arg4 harg4 arg5 harg5 x0 x1 x2 = (hs x1 x2 0 (runOdd.sl.r_1 c arg2 harg2 x0) (i 1).val (hinit (runOdd.sl.r_1 c arg2 harg2 x0) (ldK arg3 (harg3.unread x1) (k0_off1 i) (k0_off1_inb i)) (ldK arg3 (harg3.unread x1) (k0_off4 i) (k0_off4_inb i))) (2 * (k0_t1_loop i).trips)).ac := by
  unfold runOdd.sl.r_53
  rw [st2_eq]
  dsimp only
  rw [runOdd_t1]

theorem runOdd_r54 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_54 c i arg2 harg2 arg3 harg3 arg4 harg4 arg5 harg5 x0 x1 x2 = (hs x1 x2 1 (runOdd.sl.r_2 c arg2 harg2 x0) (i 1).val (hinit (runOdd.sl.r_2 c arg2 harg2 x0) (ldK arg3 (harg3.unread x1) (k0_off2 i) (k0_off2_inb i)) (ldK arg3 (harg3.unread x1) (k0_off5 i) (k0_off5_inb i))) (2 * (k0_t1_loop i).trips)).ac := by
  unfold runOdd.sl.r_54
  rw [st2_eq]
  dsimp only
  rw [runOdd_t1]

theorem runOdd_r55 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_55 c i arg2 harg2 arg3 harg3 arg4 harg4 arg5 harg5 x0 x1 x2 = (hs x1 x2 1 (runOdd.sl.r_3 c arg2 harg2 x0) (i 1).val (hinit (runOdd.sl.r_3 c arg2 harg2 x0) (ldK arg3 (harg3.unread x1) (k0_off2 i) (k0_off2_inb i)) (ldK arg3 (harg3.unread x1) (k0_off5 i) (k0_off5_inb i))) (2 * (k0_t1_loop i).trips)).ac := by
  unfold runOdd.sl.r_55
  rw [st2_eq]
  dsimp only
  rw [runOdd_t1]

theorem runOdd_r56 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runOdd.sl.r_56 c i arg2 harg2 arg3 harg3 arg4 harg4 arg5 harg5 x0 x1 x2 = (hs x1 x2 2 (runOdd.sl.r_4 c arg2 harg2 x0) (i 1).val (hinit (runOdd.sl.r_4 c arg2 harg2 x0) (ldK arg3 (harg3.unread x1) (k0_off3 i) (k0_off3_inb i)) (ldK arg3 (harg3.unread x1) (k0_off6 i) (k0_off6_inb i))) (2 * (k0_t1_loop i).trips)).ac := by
  unfold runOdd.sl.r_56
  rw [st2_eq]
  dsimp only
  rw [runOdd_t1]

set_option maxHeartbeats 1000000 in
theorem runEven_init (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    ((runEven.sl.r_10 c i arg2 harg2 arg3 harg3 x0 x1), (runEven.sl.r_11 c i arg2 harg2 arg3 harg3 x0 x1), (runEven.sl.r_12 c i arg2 harg2 arg3 harg3 x0 x1), (runEven.sl.r_13 c i arg2 harg2 arg3 harg3 x0 x1), (runEven.sl.r_15 c i arg2 harg2 arg3 harg3 x0 x1), (runEven.sl.r_16 c i arg2 harg2 arg3 harg3 x0 x1), (runEven.sl.r_20 c i arg2 harg2 arg3 harg3 x0 x1), (runEven.sl.r_24 c i arg2 harg2 arg3 harg3 x0 x1), (runEven.sl.r_30 c i arg2 harg2 arg3 harg3 x0 x1), k0_pay237 k0_pay194 (runEven.sl.r_34 c i arg2 harg2 arg3 harg3 x0 x1) (runEven.sl.r_35 c i arg2 harg2 arg3 harg3 x0 x1), (runEven.sl.r_17 c i arg2 harg2 arg3 harg3 x0 x1), (runEven.sl.r_21 c i arg2 harg2 arg3 harg3 x0 x1), (runEven.sl.r_25 c i arg2 harg2 arg3 harg3 x0 x1), (runEven.sl.r_31 c i arg2 harg2 arg3 harg3 x0 x1), k0_pay238 k0_pay187 k0_pay188 k0_pay194 (runEven.sl.r_9 c i arg2 harg2 arg3 harg3 x0 x1) (runEven.sl.r_32 c i arg2 harg2 arg3 harg3 x0 x1) (runEven.sl.r_33 c i arg2 harg2 arg3 harg3 x0 x1) (runEven.sl.r_36 c i arg2 harg2 arg3 harg3 x0 x1), k0_pay195, k0_pay195, k0_pay195, k0_pay195, k0_pay195)
      = pack (hinit (runEven.sl.r c arg2 harg2 x0) (ldK arg3 (harg3.unread x1) (k0_off1 i) (k0_off1_inb i)) (ldK arg3 (harg3.unread x1) (k0_off4 i) (k0_off4_inb i)))
          (hinit (runEven.sl.r_1 c arg2 harg2 x0) (ldK arg3 (harg3.unread x1) (k0_off1 i) (k0_off1_inb i)) (ldK arg3 (harg3.unread x1) (k0_off4 i) (k0_off4_inb i)))
          (hinit (runEven.sl.r_2 c arg2 harg2 x0) (ldK arg3 (harg3.unread x1) (k0_off2 i) (k0_off2_inb i)) (ldK arg3 (harg3.unread x1) (k0_off5 i) (k0_off5_inb i)))
          (hinit (runEven.sl.r_3 c arg2 harg2 x0) (ldK arg3 (harg3.unread x1) (k0_off2 i) (k0_off2_inb i)) (ldK arg3 (harg3.unread x1) (k0_off5 i) (k0_off5_inb i)))
          (hinit (runEven.sl.r_4 c arg2 harg2 x0) (ldK arg3 (harg3.unread x1) (k0_off3 i) (k0_off3_inb i)) (ldK arg3 (harg3.unread x1) (k0_off6 i) (k0_off6_inb i))) := by
  refine Prod.ext rfl (Prod.ext rfl (Prod.ext rfl (Prod.ext rfl (Prod.ext rfl (Prod.ext rfl (Prod.ext rfl (Prod.ext rfl (Prod.ext rfl (Prod.ext rfl (Prod.ext rfl (Prod.ext rfl (Prod.ext rfl (Prod.ext rfl (Prod.ext rfl rfl))))))))))))))

set_option maxHeartbeats 1000000 in
theorem runEven_t1 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    st_k0_t1 (F := F) Variants.none c none i arg2 harg2 arg3 harg3 arg4 harg4 arg5 harg5 (BitVec.ofNat 32 (i 1).val) k0_pay187 k0_pay188 (runEven.sl.r c arg2 harg2 x0) (runEven.sl.r_1 c arg2 harg2 x0) (runEven.sl.r_2 c arg2 harg2 x0) (runEven.sl.r_3 c arg2 harg2 x0) (runEven.sl.r_4 c arg2 harg2 x0) k0_pay194 k0_pay195 (runEven.sl.r_9 c i arg2 harg2 arg3 harg3 x0 x1) (runEven.sl.r_10 c i arg2 harg2 arg3 harg3 x0 x1) (runEven.sl.r_11 c i arg2 harg2 arg3 harg3 x0 x1) (runEven.sl.r_12 c i arg2 harg2 arg3 harg3 x0 x1) (runEven.sl.r_13 c i arg2 harg2 arg3 harg3 x0 x1) (runEven.sl.r_15 c i arg2 harg2 arg3 harg3 x0 x1) (runEven.sl.r_16 c i arg2 harg2 arg3 harg3 x0 x1) (runEven.sl.r_17 c i arg2 harg2 arg3 harg3 x0 x1) (runEven.sl.r_20 c i arg2 harg2 arg3 harg3 x0 x1) (runEven.sl.r_21 c i arg2 harg2 arg3 harg3 x0 x1) (runEven.sl.r_24 c i arg2 harg2 arg3 harg3 x0 x1) (runEven.sl.r_25 c i arg2 harg2 arg3 harg3 x0 x1) (runEven.sl.r_30 c i arg2 harg2 arg3 harg3 x0 x1) (runEven.sl.r_31 c i arg2 harg2 arg3 harg3 x0 x1) (runEven.sl.r_32 c i arg2 harg2 arg3 harg3 x0 x1) (runEven.sl.r_33 c i arg2 harg2 arg3 harg3 x0 x1) (runEven.sl.r_34 c i arg2 harg2 arg3 harg3 x0 x1) (runEven.sl.r_35 c i arg2 harg2 arg3 harg3 x0 x1) (runEven.sl.r_36 c i arg2 harg2 arg3 harg3 x0 x1) (harg3.unread x1) (harg4.unread x2)
          ((runEven.sl.r_10 c i arg2 harg2 arg3 harg3 x0 x1), (runEven.sl.r_11 c i arg2 harg2 arg3 harg3 x0 x1), (runEven.sl.r_12 c i arg2 harg2 arg3 harg3 x0 x1), (runEven.sl.r_13 c i arg2 harg2 arg3 harg3 x0 x1), (runEven.sl.r_15 c i arg2 harg2 arg3 harg3 x0 x1), (runEven.sl.r_16 c i arg2 harg2 arg3 harg3 x0 x1), (runEven.sl.r_20 c i arg2 harg2 arg3 harg3 x0 x1), (runEven.sl.r_24 c i arg2 harg2 arg3 harg3 x0 x1), (runEven.sl.r_30 c i arg2 harg2 arg3 harg3 x0 x1), k0_pay237 k0_pay194 (runEven.sl.r_34 c i arg2 harg2 arg3 harg3 x0 x1) (runEven.sl.r_35 c i arg2 harg2 arg3 harg3 x0 x1), (runEven.sl.r_17 c i arg2 harg2 arg3 harg3 x0 x1), (runEven.sl.r_21 c i arg2 harg2 arg3 harg3 x0 x1), (runEven.sl.r_25 c i arg2 harg2 arg3 harg3 x0 x1), (runEven.sl.r_31 c i arg2 harg2 arg3 harg3 x0 x1), k0_pay238 k0_pay187 k0_pay188 k0_pay194 (runEven.sl.r_9 c i arg2 harg2 arg3 harg3 x0 x1) (runEven.sl.r_32 c i arg2 harg2 arg3 harg3 x0 x1) (runEven.sl.r_33 c i arg2 harg2 arg3 harg3 x0 x1) (runEven.sl.r_36 c i arg2 harg2 arg3 harg3 x0 x1), k0_pay195, k0_pay195, k0_pay195, k0_pay195, k0_pay195) (Scf.trips (k0_t1_loop i).lb (k0_t1_loop i).ub (k0_t1_loop i).st)
      = pack (hs x1 x2 0 (runEven.sl.r c arg2 harg2 x0) (i 1).val (hinit (runEven.sl.r c arg2 harg2 x0) (ldK arg3 (harg3.unread x1) (k0_off1 i) (k0_off1_inb i)) (ldK arg3 (harg3.unread x1) (k0_off4 i) (k0_off4_inb i))) (2 * (k0_t1_loop i).trips))
          (hs x1 x2 0 (runEven.sl.r_1 c arg2 harg2 x0) (i 1).val (hinit (runEven.sl.r_1 c arg2 harg2 x0) (ldK arg3 (harg3.unread x1) (k0_off1 i) (k0_off1_inb i)) (ldK arg3 (harg3.unread x1) (k0_off4 i) (k0_off4_inb i))) (2 * (k0_t1_loop i).trips))
          (hs x1 x2 1 (runEven.sl.r_2 c arg2 harg2 x0) (i 1).val (hinit (runEven.sl.r_2 c arg2 harg2 x0) (ldK arg3 (harg3.unread x1) (k0_off2 i) (k0_off2_inb i)) (ldK arg3 (harg3.unread x1) (k0_off5 i) (k0_off5_inb i))) (2 * (k0_t1_loop i).trips))
          (hs x1 x2 1 (runEven.sl.r_3 c arg2 harg2 x0) (i 1).val (hinit (runEven.sl.r_3 c arg2 harg2 x0) (ldK arg3 (harg3.unread x1) (k0_off2 i) (k0_off2_inb i)) (ldK arg3 (harg3.unread x1) (k0_off5 i) (k0_off5_inb i))) (2 * (k0_t1_loop i).trips))
          (hs x1 x2 2 (runEven.sl.r_4 c arg2 harg2 x0) (i 1).val (hinit (runEven.sl.r_4 c arg2 harg2 x0) (ldK arg3 (harg3.unread x1) (k0_off3 i) (k0_off3_inb i)) (ldK arg3 (harg3.unread x1) (k0_off6 i) (k0_off6_inb i))) (2 * (k0_t1_loop i).trips)) :=
  (congrArg (fun T : Carry F => st_k0_t1 (F := F) Variants.none c none i arg2 harg2 arg3 harg3 arg4 harg4 arg5 harg5 (BitVec.ofNat 32 (i 1).val) k0_pay187 k0_pay188 (runEven.sl.r c arg2 harg2 x0) (runEven.sl.r_1 c arg2 harg2 x0) (runEven.sl.r_2 c arg2 harg2 x0) (runEven.sl.r_3 c arg2 harg2 x0) (runEven.sl.r_4 c arg2 harg2 x0) k0_pay194 k0_pay195 (runEven.sl.r_9 c i arg2 harg2 arg3 harg3 x0 x1) (runEven.sl.r_10 c i arg2 harg2 arg3 harg3 x0 x1) (runEven.sl.r_11 c i arg2 harg2 arg3 harg3 x0 x1) (runEven.sl.r_12 c i arg2 harg2 arg3 harg3 x0 x1) (runEven.sl.r_13 c i arg2 harg2 arg3 harg3 x0 x1) (runEven.sl.r_15 c i arg2 harg2 arg3 harg3 x0 x1) (runEven.sl.r_16 c i arg2 harg2 arg3 harg3 x0 x1) (runEven.sl.r_17 c i arg2 harg2 arg3 harg3 x0 x1) (runEven.sl.r_20 c i arg2 harg2 arg3 harg3 x0 x1) (runEven.sl.r_21 c i arg2 harg2 arg3 harg3 x0 x1) (runEven.sl.r_24 c i arg2 harg2 arg3 harg3 x0 x1) (runEven.sl.r_25 c i arg2 harg2 arg3 harg3 x0 x1) (runEven.sl.r_30 c i arg2 harg2 arg3 harg3 x0 x1) (runEven.sl.r_31 c i arg2 harg2 arg3 harg3 x0 x1) (runEven.sl.r_32 c i arg2 harg2 arg3 harg3 x0 x1) (runEven.sl.r_33 c i arg2 harg2 arg3 harg3 x0 x1) (runEven.sl.r_34 c i arg2 harg2 arg3 harg3 x0 x1) (runEven.sl.r_35 c i arg2 harg2 arg3 harg3 x0 x1) (runEven.sl.r_36 c i arg2 harg2 arg3 harg3 x0 x1) (harg3.unread x1) (harg4.unread x2) T (Scf.trips (k0_t1_loop i).lb (k0_t1_loop i).ub (k0_t1_loop i).st)) (runEven_init (F := F) c i arg2 harg2 arg3 harg3 arg4 harg4 arg5 harg5 x0 x1 x2)).trans (st1_eq (F := F) (x1 := x1) (x2 := x2) (hk := le_rfl) ..)

theorem runEven_r37 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_37 c i arg2 harg2 arg3 harg3 arg4 harg4 arg5 harg5 x0 x1 x2 = (hs x1 x2 0 (runEven.sl.r c arg2 harg2 x0) (i 1).val (hinit (runEven.sl.r c arg2 harg2 x0) (ldK arg3 (harg3.unread x1) (k0_off1 i) (k0_off1_inb i)) (ldK arg3 (harg3.unread x1) (k0_off4 i) (k0_off4_inb i))) (2 * (k0_t1_loop i).trips)).s := by
  unfold runEven.sl.r_37
  rw [st2_eq]
  dsimp only
  rw [runEven_t1]

theorem runEven_r38 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_38 c i arg2 harg2 arg3 harg3 arg4 harg4 arg5 harg5 x0 x1 x2 = (hs x1 x2 0 (runEven.sl.r_1 c arg2 harg2 x0) (i 1).val (hinit (runEven.sl.r_1 c arg2 harg2 x0) (ldK arg3 (harg3.unread x1) (k0_off1 i) (k0_off1_inb i)) (ldK arg3 (harg3.unread x1) (k0_off4 i) (k0_off4_inb i))) (2 * (k0_t1_loop i).trips)).s := by
  unfold runEven.sl.r_38
  rw [st2_eq]
  dsimp only
  rw [runEven_t1]

theorem runEven_r39 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_39 c i arg2 harg2 arg3 harg3 arg4 harg4 arg5 harg5 x0 x1 x2 = (hs x1 x2 1 (runEven.sl.r_2 c arg2 harg2 x0) (i 1).val (hinit (runEven.sl.r_2 c arg2 harg2 x0) (ldK arg3 (harg3.unread x1) (k0_off2 i) (k0_off2_inb i)) (ldK arg3 (harg3.unread x1) (k0_off5 i) (k0_off5_inb i))) (2 * (k0_t1_loop i).trips)).s := by
  unfold runEven.sl.r_39
  rw [st2_eq]
  dsimp only
  rw [runEven_t1]

theorem runEven_r40 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_40 c i arg2 harg2 arg3 harg3 arg4 harg4 arg5 harg5 x0 x1 x2 = (hs x1 x2 1 (runEven.sl.r_3 c arg2 harg2 x0) (i 1).val (hinit (runEven.sl.r_3 c arg2 harg2 x0) (ldK arg3 (harg3.unread x1) (k0_off2 i) (k0_off2_inb i)) (ldK arg3 (harg3.unread x1) (k0_off5 i) (k0_off5_inb i))) (2 * (k0_t1_loop i).trips)).s := by
  unfold runEven.sl.r_40
  rw [st2_eq]
  dsimp only
  rw [runEven_t1]

theorem runEven_r41 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_41 c i arg2 harg2 arg3 harg3 arg4 harg4 arg5 harg5 x0 x1 x2 = (hs x1 x2 2 (runEven.sl.r_4 c arg2 harg2 x0) (i 1).val (hinit (runEven.sl.r_4 c arg2 harg2 x0) (ldK arg3 (harg3.unread x1) (k0_off3 i) (k0_off3_inb i)) (ldK arg3 (harg3.unread x1) (k0_off6 i) (k0_off6_inb i))) (2 * (k0_t1_loop i).trips)).s := by
  unfold runEven.sl.r_41
  rw [st2_eq]
  dsimp only
  rw [runEven_t1]

theorem runEven_r42 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_42 c i arg2 harg2 arg3 harg3 arg4 harg4 arg5 harg5 x0 x1 x2 = (hs x1 x2 0 (runEven.sl.r c arg2 harg2 x0) (i 1).val (hinit (runEven.sl.r c arg2 harg2 x0) (ldK arg3 (harg3.unread x1) (k0_off1 i) (k0_off1_inb i)) (ldK arg3 (harg3.unread x1) (k0_off4 i) (k0_off4_inb i))) (2 * (k0_t1_loop i).trips)).tl := by
  unfold runEven.sl.r_42
  rw [st2_eq]
  dsimp only
  rw [runEven_t1]

theorem runEven_r43 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_43 c i arg2 harg2 arg3 harg3 arg4 harg4 arg5 harg5 x0 x1 x2 = (hs x1 x2 0 (runEven.sl.r_1 c arg2 harg2 x0) (i 1).val (hinit (runEven.sl.r_1 c arg2 harg2 x0) (ldK arg3 (harg3.unread x1) (k0_off1 i) (k0_off1_inb i)) (ldK arg3 (harg3.unread x1) (k0_off4 i) (k0_off4_inb i))) (2 * (k0_t1_loop i).trips)).tl := by
  unfold runEven.sl.r_43
  rw [st2_eq]
  dsimp only
  rw [runEven_t1]

theorem runEven_r44 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_44 c i arg2 harg2 arg3 harg3 arg4 harg4 arg5 harg5 x0 x1 x2 = (hs x1 x2 1 (runEven.sl.r_2 c arg2 harg2 x0) (i 1).val (hinit (runEven.sl.r_2 c arg2 harg2 x0) (ldK arg3 (harg3.unread x1) (k0_off2 i) (k0_off2_inb i)) (ldK arg3 (harg3.unread x1) (k0_off5 i) (k0_off5_inb i))) (2 * (k0_t1_loop i).trips)).tl := by
  unfold runEven.sl.r_44
  rw [st2_eq]
  dsimp only
  rw [runEven_t1]

theorem runEven_r45 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_45 c i arg2 harg2 arg3 harg3 arg4 harg4 arg5 harg5 x0 x1 x2 = (hs x1 x2 1 (runEven.sl.r_3 c arg2 harg2 x0) (i 1).val (hinit (runEven.sl.r_3 c arg2 harg2 x0) (ldK arg3 (harg3.unread x1) (k0_off2 i) (k0_off2_inb i)) (ldK arg3 (harg3.unread x1) (k0_off5 i) (k0_off5_inb i))) (2 * (k0_t1_loop i).trips)).tl := by
  unfold runEven.sl.r_45
  rw [st2_eq]
  dsimp only
  rw [runEven_t1]

theorem runEven_r46 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_46 c i arg2 harg2 arg3 harg3 arg4 harg4 arg5 harg5 x0 x1 x2 = (hs x1 x2 2 (runEven.sl.r_4 c arg2 harg2 x0) (i 1).val (hinit (runEven.sl.r_4 c arg2 harg2 x0) (ldK arg3 (harg3.unread x1) (k0_off3 i) (k0_off3_inb i)) (ldK arg3 (harg3.unread x1) (k0_off6 i) (k0_off6_inb i))) (2 * (k0_t1_loop i).trips)).tl := by
  unfold runEven.sl.r_46
  rw [st2_eq]
  dsimp only
  rw [runEven_t1]

theorem runEven_r47 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_47 c i arg2 harg2 arg3 harg3 arg4 harg4 arg5 harg5 x0 x1 x2 = (hs x1 x2 0 (runEven.sl.r c arg2 harg2 x0) (i 1).val (hinit (runEven.sl.r c arg2 harg2 x0) (ldK arg3 (harg3.unread x1) (k0_off1 i) (k0_off1_inb i)) (ldK arg3 (harg3.unread x1) (k0_off4 i) (k0_off4_inb i))) (2 * (k0_t1_loop i).trips)).p := by
  unfold runEven.sl.r_47
  rw [st2_eq]
  dsimp only
  rw [runEven_t1]

theorem runEven_r48 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_48 c i arg2 harg2 arg3 harg3 arg4 harg4 arg5 harg5 x0 x1 x2 = (hs x1 x2 0 (runEven.sl.r_1 c arg2 harg2 x0) (i 1).val (hinit (runEven.sl.r_1 c arg2 harg2 x0) (ldK arg3 (harg3.unread x1) (k0_off1 i) (k0_off1_inb i)) (ldK arg3 (harg3.unread x1) (k0_off4 i) (k0_off4_inb i))) (2 * (k0_t1_loop i).trips)).p := by
  unfold runEven.sl.r_48
  rw [st2_eq]
  dsimp only
  rw [runEven_t1]

theorem runEven_r49 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_49 c i arg2 harg2 arg3 harg3 arg4 harg4 arg5 harg5 x0 x1 x2 = (hs x1 x2 1 (runEven.sl.r_2 c arg2 harg2 x0) (i 1).val (hinit (runEven.sl.r_2 c arg2 harg2 x0) (ldK arg3 (harg3.unread x1) (k0_off2 i) (k0_off2_inb i)) (ldK arg3 (harg3.unread x1) (k0_off5 i) (k0_off5_inb i))) (2 * (k0_t1_loop i).trips)).p := by
  unfold runEven.sl.r_49
  rw [st2_eq]
  dsimp only
  rw [runEven_t1]

theorem runEven_r50 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_50 c i arg2 harg2 arg3 harg3 arg4 harg4 arg5 harg5 x0 x1 x2 = (hs x1 x2 1 (runEven.sl.r_3 c arg2 harg2 x0) (i 1).val (hinit (runEven.sl.r_3 c arg2 harg2 x0) (ldK arg3 (harg3.unread x1) (k0_off2 i) (k0_off2_inb i)) (ldK arg3 (harg3.unread x1) (k0_off5 i) (k0_off5_inb i))) (2 * (k0_t1_loop i).trips)).p := by
  unfold runEven.sl.r_50
  rw [st2_eq]
  dsimp only
  rw [runEven_t1]

theorem runEven_r51 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_51 c i arg2 harg2 arg3 harg3 arg4 harg4 arg5 harg5 x0 x1 x2 = (hs x1 x2 2 (runEven.sl.r_4 c arg2 harg2 x0) (i 1).val (hinit (runEven.sl.r_4 c arg2 harg2 x0) (ldK arg3 (harg3.unread x1) (k0_off3 i) (k0_off3_inb i)) (ldK arg3 (harg3.unread x1) (k0_off6 i) (k0_off6_inb i))) (2 * (k0_t1_loop i).trips)).p := by
  unfold runEven.sl.r_51
  rw [st2_eq]
  dsimp only
  rw [runEven_t1]

theorem runEven_r52 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_52 c i arg2 harg2 arg3 harg3 arg4 harg4 arg5 harg5 x0 x1 x2 = (hs x1 x2 0 (runEven.sl.r c arg2 harg2 x0) (i 1).val (hinit (runEven.sl.r c arg2 harg2 x0) (ldK arg3 (harg3.unread x1) (k0_off1 i) (k0_off1_inb i)) (ldK arg3 (harg3.unread x1) (k0_off4 i) (k0_off4_inb i))) (2 * (k0_t1_loop i).trips)).ac := by
  unfold runEven.sl.r_52
  rw [st2_eq]
  dsimp only
  rw [runEven_t1]

theorem runEven_r53 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_53 c i arg2 harg2 arg3 harg3 arg4 harg4 arg5 harg5 x0 x1 x2 = (hs x1 x2 0 (runEven.sl.r_1 c arg2 harg2 x0) (i 1).val (hinit (runEven.sl.r_1 c arg2 harg2 x0) (ldK arg3 (harg3.unread x1) (k0_off1 i) (k0_off1_inb i)) (ldK arg3 (harg3.unread x1) (k0_off4 i) (k0_off4_inb i))) (2 * (k0_t1_loop i).trips)).ac := by
  unfold runEven.sl.r_53
  rw [st2_eq]
  dsimp only
  rw [runEven_t1]

theorem runEven_r54 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_54 c i arg2 harg2 arg3 harg3 arg4 harg4 arg5 harg5 x0 x1 x2 = (hs x1 x2 1 (runEven.sl.r_2 c arg2 harg2 x0) (i 1).val (hinit (runEven.sl.r_2 c arg2 harg2 x0) (ldK arg3 (harg3.unread x1) (k0_off2 i) (k0_off2_inb i)) (ldK arg3 (harg3.unread x1) (k0_off5 i) (k0_off5_inb i))) (2 * (k0_t1_loop i).trips)).ac := by
  unfold runEven.sl.r_54
  rw [st2_eq]
  dsimp only
  rw [runEven_t1]

theorem runEven_r55 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_55 c i arg2 harg2 arg3 harg3 arg4 harg4 arg5 harg5 x0 x1 x2 = (hs x1 x2 1 (runEven.sl.r_3 c arg2 harg2 x0) (i 1).val (hinit (runEven.sl.r_3 c arg2 harg2 x0) (ldK arg3 (harg3.unread x1) (k0_off2 i) (k0_off2_inb i)) (ldK arg3 (harg3.unread x1) (k0_off5 i) (k0_off5_inb i))) (2 * (k0_t1_loop i).trips)).ac := by
  unfold runEven.sl.r_55
  rw [st2_eq]
  dsimp only
  rw [runEven_t1]

theorem runEven_r56 (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (x0 : Vec F S256x384 .bf16) (x1 : Vec F S2048x384 .bf16) (x2 : Vec F S1x384x2048 .bf16) :
    runEven.sl.r_56 c i arg2 harg2 arg3 harg3 arg4 harg4 arg5 harg5 x0 x1 x2 = (hs x1 x2 2 (runEven.sl.r_4 c arg2 harg2 x0) (i 1).val (hinit (runEven.sl.r_4 c arg2 harg2 x0) (ldK arg3 (harg3.unread x1) (k0_off3 i) (k0_off3_inb i)) (ldK arg3 (harg3.unread x1) (k0_off6 i) (k0_off6_inb i))) (2 * (k0_t1_loop i).trips)).ac := by
  unfold runEven.sl.r_56
  rw [st2_eq]
  dsimp only
  rw [runEven_t1]

/-- The masked queries of head 0. -/
abbrev qh0 (x0 : Vec F S256x384 .bf16) : FVec F S256x128 .bf16 := k0_pay189 (qblk x0 0)
/-- The masked queries of head 1. -/
abbrev qh1 (x0 : Vec F S256x384 .bf16) : FVec F S256x128 .bf16 := k0_pay190 (qblk x0 0)
/-- The masked queries of head 2. -/
abbrev qh2 (x0 : Vec F S256x384 .bf16) : FVec F S256x128 .bf16 := k0_pay191 (qblk x0 1)
/-- The masked queries of head 3. -/
abbrev qh3 (x0 : Vec F S256x384 .bf16) : FVec F S256x128 .bf16 := k0_pay192 (qblk x0 1)
/-- The masked queries of head 4. -/
abbrev qh4 (x0 : Vec F S256x384 .bf16) : FVec F S256x128 .bf16 := k0_pay193 k0_pay184 (qblk x0 2)

/-- A head's last state in query block `i`: after the diagonal block and every block below it. -/
def hfin (x1 : Vec F S2048x384 .bf16) (x2 : Vec F S1x384x2048 .bf16) (p : Fin 3) (q : FVec F S256x128 .bf16) (i : ℕ) : HS F :=
  hs x1 x2 p q i (hinit q (kblk x1 p i) (kblk x1 p (i - 1))) i

/-- What the body stores at query block `i`. -/
def outPieces (x0 : Vec F S256x384 .bf16) (x1 : Vec F S2048x384 .bf16) (x2 : Vec F S1x384x2048 .bf16) (i : ℕ) : List (View.Piece (Elt F) S256x384 .bf16) :=
  pieces (vblk x2 0 0) (vblk x2 1 0) (vblk x2 2 0) (hfin x1 x2 0 (qh0 x0) i) (hfin x1 x2 0 (qh1 x0) i) (hfin x1 x2 1 (qh2 x0) i)
    (hfin x1 x2 1 (qh3 x0) i) (hfin x1 x2 2 (qh4 x0) i)

set_option maxHeartbeats 1000000 in
theorem runOdd_eq (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (hc : k0_cond1 i = 1#1) (x0 : Vec F S256x384 .bf16) (x1 : Vec F S2048x384 .bf16) (x2 : Vec F S1x384x2048 .bf16) :
    (runOdd c i hc arg2 harg2 arg3 harg3 arg4 harg4 arg5 harg5 x0 x1 x2).1 = outPieces x0 x1 x2 (i 1).val := by
  have e : (runOdd c i hc arg2 harg2 arg3 harg3 arg4 harg4 arg5 harg5 x0 x1 x2).1
      = pieces (ldV arg4 (harg4.unread x2) ![0, 0, 0] inb_S1x384x2048_S1x128x256_0_0_0) (ldV arg4 (harg4.unread x2) ![0, 128, 0] inb_S1x384x2048_S1x128x256_0_128_0) (ldV arg4 (harg4.unread x2) ![0, 256, 0] inb_S1x384x2048_S1x128x256_0_256_0)
          (half (ldV arg4 (harg4.unread x2) (k0_off19 i) (k0_off19_inb i hc)) ⟨runOdd.sl.r_37 c i arg2 harg2 arg3 harg3 arg4 harg4 arg5 harg5 x0 x1 x2, runOdd.sl.r_42 c i arg2 harg2 arg3 harg3 arg4 harg4 arg5 harg5 x0 x1 x2, runOdd.sl.r_47 c i arg2 harg2 arg3 harg3 arg4 harg4 arg5 harg5 x0 x1 x2, runOdd.sl.r_52 c i arg2 harg2 arg3 harg3 arg4 harg4 arg5 harg5 x0 x1 x2⟩)
          (half (ldV arg4 (harg4.unread x2) (k0_off19 i) (k0_off19_inb i hc)) ⟨runOdd.sl.r_38 c i arg2 harg2 arg3 harg3 arg4 harg4 arg5 harg5 x0 x1 x2, runOdd.sl.r_43 c i arg2 harg2 arg3 harg3 arg4 harg4 arg5 harg5 x0 x1 x2, runOdd.sl.r_48 c i arg2 harg2 arg3 harg3 arg4 harg4 arg5 harg5 x0 x1 x2, runOdd.sl.r_53 c i arg2 harg2 arg3 harg3 arg4 harg4 arg5 harg5 x0 x1 x2⟩)
          (half (ldV arg4 (harg4.unread x2) (k0_off20 i) (k0_off20_inb i hc)) ⟨runOdd.sl.r_39 c i arg2 harg2 arg3 harg3 arg4 harg4 arg5 harg5 x0 x1 x2, runOdd.sl.r_44 c i arg2 harg2 arg3 harg3 arg4 harg4 arg5 harg5 x0 x1 x2, runOdd.sl.r_49 c i arg2 harg2 arg3 harg3 arg4 harg4 arg5 harg5 x0 x1 x2, runOdd.sl.r_54 c i arg2 harg2 arg3 harg3 arg4 harg4 arg5 harg5 x0 x1 x2⟩)
          (half (ldV arg4 (harg4.unread x2) (k0_off20 i) (k0_off20_inb i hc)) ⟨runOdd.sl.r_40 c i arg2 harg2 arg3 harg3 arg4 harg4 arg5 harg5 x0 x1 x2, runOdd.sl.r_45 c i arg2 harg2 arg3 harg3 arg4 harg4 arg5 harg5 x0 x1 x2, runOdd.sl.r_50 c i arg2 harg2 arg3 harg3 arg4 harg4 arg5 harg5 x0 x1 x2, runOdd.sl.r_55 c i arg2 harg2 arg3 harg3 arg4 harg4 arg5 harg5 x0 x1 x2⟩)
          (half (ldV arg4 (harg4.unread x2) (k0_off21 i) (k0_off21_inb i hc)) ⟨runOdd.sl.r_41 c i arg2 harg2 arg3 harg3 arg4 harg4 arg5 harg5 x0 x1 x2, runOdd.sl.r_46 c i arg2 harg2 arg3 harg3 arg4 harg4 arg5 harg5 x0 x1 x2, runOdd.sl.r_51 c i arg2 harg2 arg3 harg3 arg4 harg4 arg5 harg5 x0 x1 x2, runOdd.sl.r_56 c i arg2 harg2 arg3 harg3 arg4 harg4 arg5 harg5 x0 x1 x2⟩) := rfl
  rw [e, runOdd_r37, runOdd_r38, runOdd_r39, runOdd_r40, runOdd_r41, runOdd_r42, runOdd_r43, runOdd_r44, runOdd_r45, runOdd_r46, runOdd_r47, runOdd_r48, runOdd_r49, runOdd_r50, runOdd_r51, runOdd_r52, runOdd_r53, runOdd_r54, runOdd_r55, runOdd_r56]
  have q0 : runOdd.sl.r c arg2 harg2 x0 = qh0 x0 := congrArg k0_pay189 (ldQ_eq arg2 harg2 x0 0 _ inb_S256x384_S256x128_0_0 rfl)
  have q1 : runOdd.sl.r_1 c arg2 harg2 x0 = qh1 x0 := congrArg k0_pay190 (ldQ_eq arg2 harg2 x0 0 _ inb_S256x384_S256x128_0_0 rfl)
  have q2 : runOdd.sl.r_2 c arg2 harg2 x0 = qh2 x0 := congrArg k0_pay191 (ldQ_eq arg2 harg2 x0 1 _ inb_S256x384_S256x128_0_128 rfl)
  have q3 : runOdd.sl.r_3 c arg2 harg2 x0 = qh3 x0 := congrArg k0_pay192 (ldQ_eq arg2 harg2 x0 1 _ inb_S256x384_S256x128_0_128 rfl)
  have q4 : runOdd.sl.r_4 c arg2 harg2 x0 = qh4 x0 := congrArg (k0_pay193 k0_pay184) (ldQ_eq arg2 harg2 x0 2 _ inb_S256x384_S256x128_0_256 rfl)
  rw [q0, q1, q2, q3, q4]
  rw [trips1]
  rw [ldV_eq arg4 harg4 x2 0 0 ![0, 0, 0] _ rfl, ldV_eq arg4 harg4 x2 1 0 ![0, 128, 0] _ rfl, ldV_eq arg4 harg4 x2 2 0 ![0, 256, 0] _ rfl]
  rw [ldK_eq arg3 harg3 x1 0 _ _ _ (off1_eq i), ldK_eq arg3 harg3 x1 1 _ _ _ (off2_eq i), ldK_eq arg3 harg3 x1 2 _ _ _ (off3_eq i),
    ldK_eq arg3 harg3 x1 0 _ _ _ (off4_eq i), ldK_eq arg3 harg3 x1 1 _ _ _ (off5_eq i), ldK_eq arg3 harg3 x1 2 _ _ _ (off6_eq i)]
  have hp := (cond_iff i).1 hc
  rw [ldV_eq arg4 harg4 x2 0 1 _ _ (k0_off19_eq i), ldV_eq arg4 harg4 x2 1 1 _ _ (k0_off20_eq i), ldV_eq arg4 harg4 x2 2 1 _ _ (k0_off21_eq i)]
  clear q0 q1 q2 q3 q4 e
  generalize (i 1).val = I at hp ⊢
  obtain ⟨m, rfl⟩ : ∃ m, I = 2 * m + 1 := ⟨I / 2, by omega⟩
  rw [show 2 * ((2 * m + 1) / 2) = 2 * m by omega]
  unfold outPieces hfin
  simp only [hs]
  rw [show 2 * m + 1 - 2 * m = 1 by omega]
  rfl

set_option maxHeartbeats 1000000 in
theorem runEven_eq (c : Dev nD) (i : grid0.Coords) (arg2 : Memref sig .tc .vmem S256x384 .bf16) (harg2 : arg2.IsWhole) (arg3 : Memref sig .tc .vmem S2048x384 .bf16) (harg3 : arg3.IsWhole) (arg4 : Memref sig .tc .vmem S1x384x2048 .bf16) (harg4 : arg4.IsWhole) (arg5 : Memref sig .tc .vmem S256x384 .bf16) (harg5 : arg5.IsWhole) (hc : ¬ k0_cond1 i = 1#1) (x0 : Vec F S256x384 .bf16) (x1 : Vec F S2048x384 .bf16) (x2 : Vec F S1x384x2048 .bf16) :
    (runEven c i hc arg2 harg2 arg3 harg3 arg4 harg4 arg5 harg5 x0 x1 x2).1 = outPieces x0 x1 x2 (i 1).val := by
  have e : (runEven c i hc arg2 harg2 arg3 harg3 arg4 harg4 arg5 harg5 x0 x1 x2).1
      = pieces (ldV arg4 (harg4.unread x2) ![0, 0, 0] inb_S1x384x2048_S1x128x256_0_0_0) (ldV arg4 (harg4.unread x2) ![0, 128, 0] inb_S1x384x2048_S1x128x256_0_128_0) (ldV arg4 (harg4.unread x2) ![0, 256, 0] inb_S1x384x2048_S1x128x256_0_256_0)
          ⟨runEven.sl.r_37 c i arg2 harg2 arg3 harg3 arg4 harg4 arg5 harg5 x0 x1 x2, runEven.sl.r_42 c i arg2 harg2 arg3 harg3 arg4 harg4 arg5 harg5 x0 x1 x2, runEven.sl.r_47 c i arg2 harg2 arg3 harg3 arg4 harg4 arg5 harg5 x0 x1 x2, runEven.sl.r_52 c i arg2 harg2 arg3 harg3 arg4 harg4 arg5 harg5 x0 x1 x2⟩
          ⟨runEven.sl.r_38 c i arg2 harg2 arg3 harg3 arg4 harg4 arg5 harg5 x0 x1 x2, runEven.sl.r_43 c i arg2 harg2 arg3 harg3 arg4 harg4 arg5 harg5 x0 x1 x2, runEven.sl.r_48 c i arg2 harg2 arg3 harg3 arg4 harg4 arg5 harg5 x0 x1 x2, runEven.sl.r_53 c i arg2 harg2 arg3 harg3 arg4 harg4 arg5 harg5 x0 x1 x2⟩
          ⟨runEven.sl.r_39 c i arg2 harg2 arg3 harg3 arg4 harg4 arg5 harg5 x0 x1 x2, runEven.sl.r_44 c i arg2 harg2 arg3 harg3 arg4 harg4 arg5 harg5 x0 x1 x2, runEven.sl.r_49 c i arg2 harg2 arg3 harg3 arg4 harg4 arg5 harg5 x0 x1 x2, runEven.sl.r_54 c i arg2 harg2 arg3 harg3 arg4 harg4 arg5 harg5 x0 x1 x2⟩
          ⟨runEven.sl.r_40 c i arg2 harg2 arg3 harg3 arg4 harg4 arg5 harg5 x0 x1 x2, runEven.sl.r_45 c i arg2 harg2 arg3 harg3 arg4 harg4 arg5 harg5 x0 x1 x2, runEven.sl.r_50 c i arg2 harg2 arg3 harg3 arg4 harg4 arg5 harg5 x0 x1 x2, runEven.sl.r_55 c i arg2 harg2 arg3 harg3 arg4 harg4 arg5 harg5 x0 x1 x2⟩
          ⟨runEven.sl.r_41 c i arg2 harg2 arg3 harg3 arg4 harg4 arg5 harg5 x0 x1 x2, runEven.sl.r_46 c i arg2 harg2 arg3 harg3 arg4 harg4 arg5 harg5 x0 x1 x2, runEven.sl.r_51 c i arg2 harg2 arg3 harg3 arg4 harg4 arg5 harg5 x0 x1 x2, runEven.sl.r_56 c i arg2 harg2 arg3 harg3 arg4 harg4 arg5 harg5 x0 x1 x2⟩ := rfl
  rw [e, runEven_r37, runEven_r38, runEven_r39, runEven_r40, runEven_r41, runEven_r42, runEven_r43, runEven_r44, runEven_r45, runEven_r46, runEven_r47, runEven_r48, runEven_r49, runEven_r50, runEven_r51, runEven_r52, runEven_r53, runEven_r54, runEven_r55, runEven_r56]
  have q0 : runEven.sl.r c arg2 harg2 x0 = qh0 x0 := congrArg k0_pay189 (ldQ_eq arg2 harg2 x0 0 _ inb_S256x384_S256x128_0_0 rfl)
  have q1 : runEven.sl.r_1 c arg2 harg2 x0 = qh1 x0 := congrArg k0_pay190 (ldQ_eq arg2 harg2 x0 0 _ inb_S256x384_S256x128_0_0 rfl)
  have q2 : runEven.sl.r_2 c arg2 harg2 x0 = qh2 x0 := congrArg k0_pay191 (ldQ_eq arg2 harg2 x0 1 _ inb_S256x384_S256x128_0_128 rfl)
  have q3 : runEven.sl.r_3 c arg2 harg2 x0 = qh3 x0 := congrArg k0_pay192 (ldQ_eq arg2 harg2 x0 1 _ inb_S256x384_S256x128_0_128 rfl)
  have q4 : runEven.sl.r_4 c arg2 harg2 x0 = qh4 x0 := congrArg (k0_pay193 k0_pay184) (ldQ_eq arg2 harg2 x0 2 _ inb_S256x384_S256x128_0_256 rfl)
  rw [q0, q1, q2, q3, q4]
  rw [trips1]
  rw [ldV_eq arg4 harg4 x2 0 0 ![0, 0, 0] _ rfl, ldV_eq arg4 harg4 x2 1 0 ![0, 128, 0] _ rfl, ldV_eq arg4 harg4 x2 2 0 ![0, 256, 0] _ rfl]
  rw [ldK_eq arg3 harg3 x1 0 _ _ _ (off1_eq i), ldK_eq arg3 harg3 x1 1 _ _ _ (off2_eq i), ldK_eq arg3 harg3 x1 2 _ _ _ (off3_eq i),
    ldK_eq arg3 harg3 x1 0 _ _ _ (off4_eq i), ldK_eq arg3 harg3 x1 1 _ _ _ (off5_eq i), ldK_eq arg3 harg3 x1 2 _ _ _ (off6_eq i)]
  have hp := (not_congr (cond_iff i)).1 hc
  rw [show 2 * ((i 1).val / 2) = (i 1).val by omega]
  rfl

end Cert.Proof.Sb

end
-- ==== Proof.Pay.lean ====
/- The stick-breaking body's payloads over the extended reals, read at an index. -/
module

public import proofs.«01_k».proof.Proof.Scalar
public import proofs.«01_k».proof.Proof.RunEq
public import Idealize.ShloMosaic.Lib.WordCmp

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem pay4_at (q : FVec Ideal S256x128 .bf16) (kb : Vec Ideal S256x128 .bf16) (s t : Fin 256) :
    k0_pay4 q kb (ix2 s t) = ∑ d : Fin 128, kb (ix2 s d) * q (ix2 t d) := by
  pointwise [k0_pay4]

theorem pay22_at (z : FVec Ideal S256x256 .f32) (s t : Fin 256) : k0_pay22 z (ix2 s t) = lm (z (ix2 s t)) := by
  pointwise [k0_pay22, lm]

theorem sel_decide {α : Type} (p : Prop) [Decidable p] (a b : α) : Scalar.select (BitVec.ofBool (decide p)) a b = if p then a else b := by
  by_cases h : p <;> simp [h, Scalar.select]

theorem pay207_at (z : FVec Ideal S256x256 .f32) (s t : Fin 256) :
    k0_pay207 k0_pay187 z (ix2 s t) = if s.val < t.val then lm (z (ix2 s t)) else 0 := by
  pointwise [k0_pay207, k0_pay187, lm]
  rw [WordCmp.cmpi_slt_ofNat (by omega) (by omega)]
  exact sel_decide _ _ _

theorem pay188_at (r : Fin 128) (k : Fin 256) :
    k0_pay188 (F := Ideal) (ix2 r k) = if r.val ≤ k.val % 128 then 1 else 0 := by
  have key : ∀ p : Prop, [Decidable p] → (FloatOps.sitofp FTy.f32 (BitVec.setWidth 32 (BitVec.ofBool (decide p))) : Ideal .f32) = if p then 1 else 0 := by
    intro p _
    by_cases h : p <;> simp [h, FloatOps.sitofp]
  pointwise [k0_pay188]
  by_cases h : k.val < 128
  · rw [dif_pos h, WordCmp.cmpi_sge_ofNat (by omega) (by omega), key, Nat.mod_eq_of_lt h]
  · rw [dif_neg h, WordCmp.cmpi_sge_ofNat (by omega) (by omega), key, show k.val % 128 = k.val - 128 by omega]

/-- One triangular product over a half block split into its rounding and the remainder. -/
theorem tri_half (l : Fin 128 → EReal) (hl : ∀ x, l x ≤ 0) (r : Fin 128) :
    (∑ x : Fin 128, k0_pay188 (F := Ideal) (ix2 r ⟨x.val, by omega⟩) * l x) + ∑ x : Fin 128, k0_pay188 (F := Ideal) (ix2 r ⟨128 + x.val, by omega⟩) * (l x - l x)
      = ∑ x : Fin 128, if r.val ≤ x.val then l x else 0 := by
  rw [← Finset.sum_add_distrib]
  refine Finset.sum_congr rfl fun x _ => ?_
  rw [pay188_at, pay188_at]
  dsimp only
  rw [Nat.mod_eq_of_lt (show x.val < 128 by omega), show (128 + x.val) % 128 = x.val by omega]
  by_cases h : r.val ≤ x.val
  · simp only [if_pos h, one_mul]; exact add_rem _ (hl x)
  · simp only [if_neg h, zero_mul, add_zero]

theorem halves (l : Fin 256 → EReal) : ∑ x : Fin 256, l x = (∑ x : Fin 128, l ⟨x.val, by omega⟩) + ∑ x : Fin 128, l ⟨128 + x.val, by omega⟩ :=
  Fin.sum_univ_two_halves 128 128 rfl l

/-- The running sum of a block, as the body computes it by halves. -/
theorem tri_run (l : Fin 256 → EReal) (hl : ∀ x, l x ≤ 0) (s : Fin 256) :
    (if h : s.val < 128 then
        ((∑ x : Fin 128, k0_pay188 (F := Ideal) (ix2 ⟨s.val, h⟩ ⟨x.val, by omega⟩) * l ⟨x.val, by omega⟩)
          + ∑ x : Fin 128, k0_pay188 (F := Ideal) (ix2 ⟨s.val, h⟩ ⟨128 + x.val, by omega⟩) * (l ⟨x.val, by omega⟩ - l ⟨x.val, by omega⟩))
          + ∑ x : Fin 128, l ⟨128 + x.val, by omega⟩
      else (∑ x : Fin 128, k0_pay188 (F := Ideal) (ix2 ⟨s.val - 128, by omega⟩ ⟨x.val, by omega⟩) * l ⟨128 + x.val, by omega⟩)
          + ∑ x : Fin 128, k0_pay188 (F := Ideal) (ix2 ⟨s.val - 128, by omega⟩ ⟨128 + x.val, by omega⟩) * (l ⟨128 + x.val, by omega⟩ - l ⟨128 + x.val, by omega⟩))
      = ∑ r : Fin 256, if s.val ≤ r.val then l r else 0 := by
  rw [halves]
  split
  · next h =>
    rw [tri_half (fun x => l ⟨x.val, by omega⟩) (fun x => hl _) ⟨s.val, h⟩]
    congr 1
    exact Finset.sum_congr rfl fun x _ => (if_pos (by dsimp only; omega)).symm
  · next h =>
    rw [tri_half (fun x => l ⟨128 + x.val, by omega⟩) (fun x => hl _) ⟨s.val - 128, by omega⟩]
    rw [Finset.sum_eq_zero (f := fun x : Fin 128 => if s.val ≤ (⟨x.val, by omega⟩ : Fin 256).val then l ⟨x.val, by omega⟩ else 0)
      (fun x _ => if_neg (by dsimp only; omega)), zero_add]
    refine Finset.sum_congr rfl fun x _ => ?_
    dsimp only
    by_cases hx : s.val - 128 ≤ x.val
    · rw [if_pos hx, if_pos (by omega)]
    · rw [if_neg hx, if_neg (by omega)]

theorem pay24_at (z : FVec Ideal S256x256 .f32) (tl : FVec Ideal S1x256 .f32) (t : Fin 256) :
    k0_pay24 z tl (ix2 0 t) = tl (ix2 0 t) + ∑ s : Fin 256, lm (z (ix2 s t)) := by
  rw [halves]
  pointwise [k0_pay24, k0_pay23, pay22_at]

theorem pay209_at (z : FVec Ideal S256x256 .f32) (t : Fin 256) :
    k0_pay209 k0_pay187 k0_pay194 z (ix2 0 t) = ∑ s : Fin 256, if s.val < t.val then lm (z (ix2 s t)) else 0 := by
  rw [halves]
  pointwise [k0_pay209, k0_pay208, pay207_at, k0_pay194]

theorem pay25_at (z : FVec Ideal S256x256 .f32) (tl : FVec Ideal S1x256 .f32) (s t : Fin 256) :
    k0_pay25 k0_pay188 z tl (ix2 s t) = Ideal.exp (z (ix2 s t) + (∑ r : Fin 256, if s.val ≤ r.val then lm (z (ix2 r t)) else 0) + tl (ix2 0 t)) := by
  rw [← tri_run (fun r => lm (z (ix2 r t))) (fun r => lm_le _) s]
  pointwise [k0_pay25, k0_pay23, pay22_at]

theorem pay210_at (z : FVec Ideal S256x256 .f32) (s t : Fin 256) :
    k0_pay210 k0_pay187 k0_pay188 k0_pay194 z (ix2 s t)
      = if s.val < t.val then Ideal.exp (z (ix2 s t) + ∑ r : Fin 256, if s.val ≤ r.val then (if r.val < t.val then lm (z (ix2 r t)) else 0) else 0) else 0 := by
  have hm : k0_pay187 (ix2 s t) = BitVec.ofBool (decide (s.val < t.val)) := by
    pointwise [k0_pay187]
    rw [WordCmp.cmpi_slt_ofNat (by omega) (by omega)]
  have hL : ∀ r : Fin 256, k0_pay207 k0_pay187 z (ix2 r t) = if r.val < t.val then lm (z (ix2 r t)) else 0 := fun r => pay207_at z r t
  simp only [← hL]
  have hl : ∀ r : Fin 256, k0_pay207 k0_pay187 z (ix2 r t) ≤ 0 := by
    intro r
    rw [hL]
    split
    exacts [lm_le _, le_rfl]
  rw [← tri_run (fun r => k0_pay207 k0_pay187 z (ix2 r t)) hl s]
  unfold k0_pay210 k0_pay208
  generalize k0_pay207 k0_pay187 z = L
  pointwise [k0_pay194, hm]

theorem pay10_at (p : FVec Ideal S256x256 .bf16) (ac : FVec Ideal S128x256 .f32) (v : Vec Ideal S1x128x256 .bf16) (r : Fin 128) (t : Fin 256) :
    k0_pay10 p ac v (ix2 r t) = ac (ix2 r t) + ∑ s : Fin 256, v (ix3 0 r s) * p (ix2 s t) := by
  pointwise [k0_pay10]

theorem pay195_at (r : Fin 128) (t : Fin 256) : k0_pay195 (F := Ideal) (ix2 r t) = 0 := by
  pointwise [k0_pay195]

theorem pay1_at (a b : FVec Ideal S128x256 .f32) (t : Fin 256) (r : Fin 128) :
    k0_pay1 k0_pay186 a b (ix2 t r) = if r.val < 64 then a (ix2 r t) else b (ix2 r t) := by
  pointwise [k0_pay1, k0_pay186]
  rw [WordCmp.cmpi_slt_ofNat (by omega) (by omega)]
  exact sel_decide _ _ _

theorem pay189_at (x : Vec Ideal S256x128 .bf16) (t : Fin 256) (d : Fin 128) :
    k0_pay189 x (ix2 t d) = if d.val < 64 then x (ix2 t d) else 0 := by
  pointwise [k0_pay189, k0_pay184]
  rw [WordCmp.cmpi_slt_ofNat (by omega) (by omega)]
  exact sel_decide _ _ _

theorem pay190_at (x : Vec Ideal S256x128 .bf16) (t : Fin 256) (d : Fin 128) :
    k0_pay190 x (ix2 t d) = if 64 ≤ d.val then x (ix2 t d) else 0 := by
  pointwise [k0_pay190, k0_pay185]
  rw [WordCmp.cmpi_sge_ofNat (by omega) (by omega)]
  exact sel_decide _ _ _

theorem pay191_at (x : Vec Ideal S256x128 .bf16) (t : Fin 256) (d : Fin 128) :
    k0_pay191 x (ix2 t d) = if d.val < 64 then x (ix2 t d) else 0 := by
  pointwise [k0_pay191, k0_pay184]
  rw [WordCmp.cmpi_slt_ofNat (by omega) (by omega)]
  exact sel_decide _ _ _

theorem pay192_at (x : Vec Ideal S256x128 .bf16) (t : Fin 256) (d : Fin 128) :
    k0_pay192 x (ix2 t d) = if 64 ≤ d.val then x (ix2 t d) else 0 := by
  pointwise [k0_pay192, k0_pay185]
  rw [WordCmp.cmpi_sge_ofNat (by omega) (by omega)]
  exact sel_decide _ _ _

theorem pay193_at (x : Vec Ideal S256x128 .bf16) (t : Fin 256) (d : Fin 128) :
    k0_pay193 k0_pay184 x (ix2 t d) = if d.val < 64 then x (ix2 t d) else 0 := by
  pointwise [k0_pay193, k0_pay184]
  rw [WordCmp.cmpi_slt_ofNat (by omega) (by omega)]
  exact sel_decide _ _ _

end Cert.Proof.Sb
end
-- ==== Proof.Inv.lean ====
/- What a head's state holds after its diagonal block and the first `n` blocks below it: the scores of the next block, the sum of the
   logarithms over the keys seen, the weights of the last block, and the weighted values of the blocks before it. -/
module

public import proofs.«01_k».proof.Proof.Scalar
public import proofs.«01_k».proof.Proof.Pay

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section
variable (x1 : Vec Ideal S2048x384 .bf16) (x2 : Vec Ideal S1x384x2048 .bf16) (p : Fin 3) (q : FVec Ideal S256x128 .bf16) (i : ℕ) (t : Fin 256)

/-- The score of key `n` with query `t` of the block. -/
def Zk (n : ℕ) : EReal := ∑ d : Fin 128, x1 (ix2 ⟨n % 2048, by omega⟩ ⟨128 * p.val + d.val, lt384 p d⟩) * q (ix2 t d)

/-- Entry `r` of key `n`'s values. -/
def Vk (r : Fin 128) (n : ℕ) : EReal := x2 (ix3 0 ⟨128 * p.val + r.val, lt384 p r⟩ ⟨n % 2048, by omega⟩)

theorem score_at (b : ℕ) (hb : b < 8) (s : Fin 256) : k0_pay4 q (kblk x1 p b) (ix2 s t) = Zk x1 p q t (256 * b + s.val) := by
  rw [pay4_at, Zk]
  refine Finset.sum_congr rfl fun d _ => ?_
  congr 1
  show x1 _ = x1 _
  congr 1
  refine (ix2_inj ..).2 ⟨Fin.ext ?_, rfl⟩
  show 256 * (b % 8) + s.val = (256 * b + s.val) % 2048
  omega

theorem value_at (b : ℕ) (hb : b < 8) (r : Fin 128) (s : Fin 256) : vblk x2 p b (ix3 0 r s) = Vk x2 p r (256 * b + s.val) := by
  show x2 _ = x2 _
  congr 1
  refine (ix3_inj ..).2 ⟨rfl, rfl, Fin.ext ?_⟩
  show 256 * (b % 8) + s.val = (256 * b + s.val) % 2048
  omega

/-- The state after `n` half-steps of query block `i`, at query `t`. -/
structure Inv (n : ℕ) (h : HS Ideal) : Prop where
  hz : n + 1 ≤ i → ∀ s : Fin 256, h.s (ix2 s t) = Zk x1 p q t (256 * (i - (n + 1)) + s.val)
  ht : h.tl (ix2 0 t) = tq (Zk x1 p q t) (256 * i + t.val) (256 * (i - n))
  hp : ∀ s : Fin 256, h.p (ix2 s t) = aq (Zk x1 p q t) (256 * i + t.val) (256 * (i - n) + s.val)
  ha : ∀ r : Fin 128, h.ac (ix2 r t) = ∑ k ∈ Finset.Ico (256 * (i - n) + 256) 2048, Vk x2 p r k * aq (Zk x1 p q t) (256 * i + t.val) k

theorem inv_zero (hi : i < 8) : Inv x1 x2 p q i t 0 (hinit q (kblk x1 p i) (kblk x1 p (i - 1))) where
  hz := fun h s => score_at x1 p q t (i - 1) (by omega) s
  ht := by
    show k0_pay209 k0_pay187 k0_pay194 _ (ix2 0 t) = _
    rw [pay209_at, tq_split _ _ _ (by omega), tq_zero _ _ _ (by omega), add_zero]
    refine Finset.sum_congr rfl fun s _ => ?_
    rw [score_at x1 p q t i hi s, lq]
    by_cases h : s.val < t.val
    · rw [if_pos h, if_pos (by omega)]; rfl
    · rw [if_neg h, if_neg (by omega)]
  hp := fun s => by
    show k0_pay210 k0_pay187 k0_pay188 k0_pay194 _ (ix2 s t) = _
    rw [pay210_at, aq]
    by_cases h : s.val < t.val
    · rw [if_pos h, if_pos (by omega), score_at x1 p q t i hi s, tq_inner _ _ _ _ (by omega), tq_zero _ _ (256 * (i - 0) + 256) (by omega), add_zero]
      congr 2
      refine Finset.sum_congr rfl fun r _ => ?_
      by_cases hs : s.val ≤ r.val
      · rw [if_pos hs, if_pos hs, score_at x1 p q t i hi r, lq]
        by_cases h' : r.val < t.val
        · rw [if_pos h', if_pos (by omega)]; rfl
        · rw [if_neg h', if_neg (by omega)]
      · rw [if_neg hs, if_neg hs]
    · rw [if_neg h, if_neg (by omega)]
  ha := fun r => by
    show k0_pay195 (F := Ideal) (ix2 r t) = _
    rw [pay195_at, Finset.sum_eq_zero]
    intro k hk
    have := Finset.mem_Ico.1 hk
    rw [aq, if_neg (by omega), mul_zero]

/-- A sum over the keys from `a` on, by its first block. -/
theorem block_sum (f : ℕ → EReal) (a : ℕ) (h : a + 256 ≤ 2048) :
    ∑ k ∈ Finset.Ico a 2048, f k = (∑ k ∈ Finset.Ico (a + 256) 2048, f k) + ∑ s : Fin 256, f (a + s.val) := by
  rw [← Finset.sum_Ico_consecutive _ (show a ≤ a + 256 by omega) h, add_comm]
  congr 1
  rw [Finset.sum_Ico_eq_sum_range, show a + 256 - a = 256 by omega, Fin.sum_univ_eq_sum_range (fun x => f (a + x)) 256]

theorem inv_succ (hi : i < 8) (n : ℕ) (hn : n + 1 ≤ i) (h : HS Ideal) (H : Inv x1 x2 p q i t n h) :
    Inv x1 x2 p q i t (n + 1) (hstep k0_pay188 q (kblk x1 p (i - (n + 2))) (vblk x2 p (i - n)) h) where
  hz := fun h s => by
    have e : i - (n + 1 + 1) = i - (n + 2) := by omega
    rw [e]
    exact score_at x1 p q t (i - (n + 2)) (by omega) s
  ht := by
    show k0_pay24 h.s h.tl (ix2 0 t) = _
    rw [pay24_at, H.ht, tq_split _ _ (256 * (i - (n + 1))) (by omega), show 256 * (i - (n + 1)) + 256 = 256 * (i - n) by omega, add_comm]
    congr 1
    refine Finset.sum_congr rfl fun s _ => ?_
    rw [H.hz hn s, lq, if_pos (by omega)]
  hp := fun s => by
    show k0_pay25 k0_pay188 h.s h.tl (ix2 s t) = _
    rw [pay25_at, H.ht, H.hz hn s, aq, if_pos (by omega), tq_inner _ _ _ _ (by omega), show 256 * (i - (n + 1)) + 256 = 256 * (i - n) by omega, add_assoc]
    congr 3
    refine Finset.sum_congr rfl fun r _ => ?_
    by_cases hs : s.val ≤ r.val
    · rw [if_pos hs, if_pos hs, H.hz hn r, lq, if_pos (by omega)]
    · rw [if_neg hs, if_neg hs]
  ha := fun r => by
    show k0_pay10 h.p h.ac _ (ix2 r t) = _
    rw [pay10_at, H.ha r, show 256 * (i - (n + 1)) + 256 = 256 * (i - n) by omega, block_sum _ (256 * (i - n)) (by omega)]
    congr 1
    refine Finset.sum_congr rfl fun s _ => ?_
    rw [value_at x2 p (i - n) (by omega), H.hp s]

theorem inv_hs (hi : i < 8) : ∀ n, n ≤ i → Inv x1 x2 p q i t n (hs x1 x2 p q i (hinit q (kblk x1 p i) (kblk x1 p (i - 1))) n)
  | 0, _ => inv_zero x1 x2 p q i t hi
  | n + 1, h => inv_succ x1 x2 p q i t hi n h _ (inv_hs hi n (by omega))

/-- A head's whole output at query `t`: the values of all keys by their weights. -/
theorem fin_at (hi : i < 8) (r : Fin 128) :
    fin (vblk x2 p 0) (hfin x1 x2 p q i) (ix2 r t) = ∑ k ∈ Finset.range 2048, Vk x2 p r k * aq (Zk x1 p q t) (256 * i + t.val) k := by
  have H : Inv x1 x2 p q i t i (hfin x1 x2 p q i) := inv_hs x1 x2 p q i t hi i le_rfl
  show k0_pay10 _ _ _ (ix2 r t) = _
  rw [pay10_at, H.ha r, Finset.range_eq_Ico, block_sum _ 0 (by omega), Nat.sub_self, Nat.mul_zero]
  congr 1
  refine Finset.sum_congr rfl fun s _ => ?_
  rw [value_at x2 p 0 (by omega), H.hp s, Nat.sub_self]

end

end Cert.Proof.Sb
end
-- ==== Proof.Frames.lean ====
/- The stick-breaking program's run, at any float instance: its proof data, its body at a generic point, and its frame. -/
module

public import proofs.«01_k».proof.Proof.RunEq
public import proofs.«01_k».proof.Proof.Gen.KernelIdeal.Points
public import proofs.«01_k».proof.Proof.Gen.KernelIdeal.Launch
public import proofs.«01_k».proof.Proof.Gen.KernelIdeal.Frame

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three column blocks fill the output block. -/
theorem covers (l0 l1 l2 : Vec F S1x128x256 .bf16) (h0 h1 h2 h3 h4 : HS F) :
    ∀ y : S256x384.Idx, ∃ p ∈ pieces l0 l1 l2 h0 h1 h2 h3 h4, y ∈ p.1.set :=
  View.cover_of_tiled _ ![256, 128] rfl

/-- The output block the body leaves at query block `i`. -/
def outBlk (x0 : Vec F S256x384 .bf16) (x1 : Vec F S2048x384 .bf16) (x2 : Vec F S1x384x2048 .bf16) (i : ℕ) : Vec F S256x384 .bf16 :=
  View.canon (outPieces x0 x1 x2 i)

/-- The proof data: inputs keep their blocks, the output block is `outBlk` of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t) (grid0.coords t 1).val
  Φ _ := Pipeline.ΦA spec0 c
  q w := Pipeline.shareOf spec0 w
  owed _ := 0

theorem A_at (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]

theorem after_1 (c : Dev nD) (t : Fin cfg0.N) : (dats m 0 c).after 1 t = iblk m c 1 t := by dsimp only [dats]

theorem after_2 (c : Dev nD) (t : Fin cfg0.N) : (dats m 0 c).after 2 t = iblk m c 2 t := by dsimp only [dats]

theorem after_3 (c : Dev nD) (t : Fin cfg0.N) :
    (dats m 0 c).after 3 t = outBlk (iblk m c 0 t) (iblk m c 1 t) (iblk m c 2 t) (grid0.coords t 1).val := by dsimp only [dats]

theorem before_0 (c : Dev nD) (t : Fin cfg0.N) (d) : (dats m 0 c).before 0 t d = iblk m c 0 t :=
  before0_0_of m (dats m 0 c) (A_at m c 0) (after_0 m c) t d

theorem before_1 (c : Dev nD) (t : Fin cfg0.N) (d) : (dats m 0 c).before 1 t d = iblk m c 1 t :=
  before0_1_of m (dats m 0 c) (A_at m c 1) (after_1 m c) t d

theorem before_2 (c : Dev nD) (t : Fin cfg0.N) (d) : (dats m 0 c).before 2 t d = iblk m c 2 t :=
  before0_2_of m (dats m 0 c) (A_at m c 2) (after_2 m c) t d

/-- What the body starts from at point `t`. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- What it leaves there. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

/-- The body's triple at a point, whichever branch its conditional takes. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  by_cases hc : k0_cond1 (grid0.coords t) = 1#1
  · iintro ⟨HΦ, Ho, ⟨%d0, H0⟩, ⟨%d1, H1⟩, ⟨%d2, H2⟩, ⟨%d3, H3⟩⟩
    iapply ((runOdd c (grid0.coords t) hc _ _ _ _ _ _ _ _ (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    rw [runOdd_eq]
    exact View.read_writes_eq_canon _ _ _ (covers _ _ _ _ _ _ _ _)
  · iintro ⟨HΦ, Ho, ⟨%d0, H0⟩, ⟨%d1, H1⟩, ⟨%d2, H2⟩, ⟨%d3, H3⟩⟩
    iapply ((runEven c (grid0.coords t) hc _ _ _ _ _ _ _ _ (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro
    rw [runEven_eq]
    exact View.read_writes_eq_canon _ _ _ (covers _ _ _ _ _ _ _ _)

theorem row_at (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact triple_restated (body_at m c t) rfl .rfl fun _ => .rfl

set_option backward.isDefEq.respectTransparency.types false in
/-- The program's run: its output at what the pipeline computes from the proof data, every counter back at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_at m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- The frame, at any float instance. -/
theorem frame_sb : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_at m) (run_main m ρ)) ((θ_run defs _ _).mono (fun _ h => h.2) (run_quiet m ρ))

end Cert.Proof.Sb

end
-- ==== Proof.OutBlk.lean ====
/- What the stick-breaking body leaves in its output block, read at a head's entry. -/
module

public import proofs.«01_k».proof.Proof.Scalar
public import proofs.«01_k».proof.Proof.Inv
public import proofs.«01_k».proof.Proof.Frames

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The score of key `n` with query `t` of the block, in head `h`. -/
def Zh (x0 : Vec Ideal S256x384 .bf16) (x1 : Vec Ideal S2048x384 .bf16) (h : Fin 6) (t : Fin 256) (n : ℕ) : EReal :=
  ∑ d : Fin 64, x1 (ix2 ⟨n % 2048, by omega⟩ ⟨64 * h.val + d.val, by omega⟩) * x0 (ix2 t ⟨64 * h.val + d.val, by omega⟩)

theorem Zk_lo (x0 : Vec Ideal S256x384 .bf16) (x1 : Vec Ideal S2048x384 .bf16) (p : Fin 3) (t : Fin 256) (q : FVec Ideal S256x128 .bf16)
    (hq : ∀ d : Fin 128, q (ix2 t d) = if d.val < 64 then qblk x0 p (ix2 t d) else 0) (h : Fin 6) (hh : h.val = 2 * p.val) : Zk x1 p q t = Zh x0 x1 h t := by
  funext n
  unfold Zk Zh
  rw [Fin.sum_univ_two_halves 64 64 rfl]
  rw [Finset.sum_eq_zero (s := Finset.univ) (f := fun x : Fin 64 => x1 (ix2 ⟨n % 2048, by omega⟩ ⟨128 * p.val + (⟨64 + x.val, by omega⟩ : Fin 128).val, by dsimp only; omega⟩) * q (ix2 t ⟨64 + x.val, by omega⟩))
    (fun x _ => by rw [hq, if_neg (by dsimp only; omega), mul_zero]), add_zero]
  refine Finset.sum_congr rfl fun d _ => ?_
  rw [hq, if_pos d.isLt]
  show x1 _ * x0 _ = x1 _ * x0 _
  congr 2
  · exact (ix2_inj ..).2 ⟨rfl, Fin.ext (by dsimp only; omega)⟩
  · refine (ix2_inj ..).2 ⟨rfl, Fin.ext ?_⟩
    show 128 * p.val + d.val = 64 * h.val + d.val
    omega

theorem Zk_hi (x0 : Vec Ideal S256x384 .bf16) (x1 : Vec Ideal S2048x384 .bf16) (p : Fin 3) (t : Fin 256) (q : FVec Ideal S256x128 .bf16)
    (hq : ∀ d : Fin 128, q (ix2 t d) = if 64 ≤ d.val then qblk x0 p (ix2 t d) else 0) (h : Fin 6) (hh : h.val = 2 * p.val + 1) : Zk x1 p q t = Zh x0 x1 h t := by
  funext n
  unfold Zk Zh
  rw [Fin.sum_univ_two_halves 64 64 rfl]
  rw [Finset.sum_eq_zero (s := Finset.univ) (f := fun x : Fin 64 => x1 (ix2 ⟨n % 2048, by omega⟩ ⟨128 * p.val + (⟨x.val, by omega⟩ : Fin 128).val, by dsimp only; omega⟩) * q (ix2 t ⟨x.val, by omega⟩))
    (fun x _ => by rw [hq, if_neg (by dsimp only; omega), mul_zero]), zero_add]
  refine Finset.sum_congr rfl fun d _ => ?_
  rw [hq, if_pos (by dsimp only; omega)]
  show x1 _ * x0 _ = x1 _ * x0 _
  congr 2
  · exact (ix2_inj ..).2 ⟨rfl, Fin.ext (by dsimp only; omega)⟩
  · refine (ix2_inj ..).2 ⟨rfl, Fin.ext ?_⟩
    show 128 * p.val + (64 + d.val) = 64 * h.val + d.val
    omega

/-- What one entry of the output block holds: column `c` is entry `c % 64` of head `c / 64`. -/
def outEntry (x0 : Vec Ideal S256x384 .bf16) (x1 : Vec Ideal S2048x384 .bf16) (x2 : Vec Ideal S1x384x2048 .bf16) (i : ℕ) (t : Fin 256) (c : Fin 384) : EReal :=
  if c.val < 320 then ∑ k ∈ Finset.range 2048, x2 (ix3 0 c ⟨k % 2048, by omega⟩) * aq (Zh x0 x1 ⟨c.val / 64, by omega⟩ t) (256 * i + t.val) k else 0

theorem piece_at (x0 : Vec Ideal S256x384 .bf16) (x1 : Vec Ideal S2048x384 .bf16) (x2 : Vec Ideal S1x384x2048 .bf16) (i : ℕ) (hi : i < 8) (t : Fin 256)
    (r : Fin 128) (p : Fin 3) (q : FVec Ideal S256x128 .bf16) (h : Fin 6) (hZ : Zk x1 p q t = Zh x0 x1 h t) (c : Fin 384) (hc : c.val = 128 * p.val + r.val)
    (hh : h.val = c.val / 64) (hlt : c.val < 320) :
    fin (vblk x2 p 0) (hfin x1 x2 p q i) (ix2 r t) = outEntry x0 x1 x2 i t c := by
  rw [fin_at _ _ _ _ _ _ hi, outEntry, if_pos hlt, hZ]
  rw [show h = ⟨c.val / 64, by omega⟩ from Fin.ext hh]
  have e : (⟨128 * p.val + r.val, lt384 p r⟩ : Fin 384) = c := Fin.ext hc.symm
  simp only [Vk, e]

set_option maxHeartbeats 1000000 in
theorem outBlk_at (x0 : Vec Ideal S256x384 .bf16) (x1 : Vec Ideal S2048x384 .bf16) (x2 : Vec Ideal S1x384x2048 .bf16) (i : ℕ) (hi : i < 8) (y : S256x384.Idx) :
    outBlk x0 x1 x2 i y = outEntry x0 x1 x2 i (y 0) (y 1) := by
  unfold outBlk outPieces pieces
  have hq0 := fun t d => pay189_at (qblk x0 0) t d
  have hq1 := fun t d => pay190_at (qblk x0 0) t d
  have hq2 := fun t d => pay191_at (qblk x0 1) t d
  have hq3 := fun t d => pay192_at (qblk x0 1) t d
  have hq4 := fun t d => pay193_at (qblk x0 2) t d
  have e0 : ∀ t, Zk x1 0 (qh0 x0) t = Zh x0 x1 0 t := fun t => Zk_lo x0 x1 0 t _ (hq0 t) 0 rfl
  have e1 : ∀ t, Zk x1 0 (qh1 x0) t = Zh x0 x1 1 t := fun t => Zk_hi x0 x1 0 t _ (hq1 t) 1 rfl
  have e2 : ∀ t, Zk x1 1 (qh2 x0) t = Zh x0 x1 2 t := fun t => Zk_lo x0 x1 1 t _ (hq2 t) 2 rfl
  have e3 : ∀ t, Zk x1 1 (qh3 x0) t = Zh x0 x1 3 t := fun t => Zk_hi x0 x1 1 t _ (hq3 t) 3 rfl
  have e4 : ∀ t, Zk x1 2 (qh4 x0) t = Zh x0 x1 4 t := fun t => Zk_lo x0 x1 2 t _ (hq4 t) 4 rfl
  canon_tiles x h
  · obtain ⟨a, r, rfl⟩ : ∃ (a : Fin 256) (r : Fin 128), x = ix2 a r := ⟨x 0, x 1, eq_ix2 x⟩
    rw [show y 0 = a from Fin.ext h0]
    have h1' : (y 1).val = 256 + r.val := h1
    rw [pay1_at]
    split
    · exact piece_at x0 x1 x2 i hi a r 2 _ 4 (e4 a) (y 1) h1' (by show 4 = _; omega) (by omega)
    · rw [pay195_at]; exact (if_neg (by omega)).symm
  · obtain ⟨a, r, rfl⟩ : ∃ (a : Fin 256) (r : Fin 128), x = ix2 a r := ⟨x 0, x 1, eq_ix2 x⟩
    rw [show y 0 = a from Fin.ext h0]
    have h1' : (y 1).val = 128 + r.val := h1
    rw [pay1_at]
    split
    · exact piece_at x0 x1 x2 i hi a r 1 _ 2 (e2 a) (y 1) h1' (by show 2 = _; omega) (by omega)
    · exact piece_at x0 x1 x2 i hi a r 1 _ 3 (e3 a) (y 1) h1' (by show 3 = _; omega) (by omega)
  · obtain ⟨a, r, rfl⟩ : ∃ (a : Fin 256) (r : Fin 128), x = ix2 a r := ⟨x 0, x 1, eq_ix2 x⟩
    rw [show y 0 = a from Fin.ext h0]
    have h1' : (y 1).val = 128 * (0 : Fin 3).val + r.val := h1.trans (by show r.val = 128 * 0 + r.val; omega)
    have h1'' : (y 1).val = r.val := h1
    rw [pay1_at]
    split
    · exact piece_at x0 x1 x2 i hi a r 0 _ 0 (e0 a) (y 1) h1' (by show 0 = _; omega) (by omega)
    · exact piece_at x0 x1 x2 i hi a r 0 _ 1 (e1 a) (y 1) h1' (by show 1 = _; omega) (by omega)

end Cert.Proof.Sb
end
-- ==== Proof.RefSb.lean ====
/- The stick-breaking reference read at an index: its weights are `aq` of its scores. -/
module

public import proofs.«01_k».proof.Proof.Scalar
public import proofs.«01_k».proof.Proof.Gen.ReferenceIdeal.Run
public import Idealize.ShloMosaic.Lib.Pointwise
public import Idealize.ShloMosaic.Lib.WordCmp
public import Idealize.ShloMosaic.Lib.Pipeline.ValueKit

@[expose] public section

set_option maxRecDepth 16384

noncomputable section

namespace Cert.Proof.SbRef

open Cert.ReferenceIdeal Cert.ReferenceIdeal.Gen Idealize.ShloMosaic Idealize.ShloMosaic.TcCoe Idealize.SL.Sem Cert.Proof.Sb

/-- The scores. -/
def zR (Q K : FVec Ideal S16x2048x5x64 .f32) : FVec Ideal S16x5x2048x2048 .f32 :=
  mulf (Host.dotGeneral dot_S16x2048x5x64_S16x2048x5x64_S16x5x2048x2048_3_3_1_1_02_02 none Q K) (broadcastInDim S16x5x2048x2048 ![] bcast_S_S16x5x2048x2048 (constant S_ .f32 0x3E000000#32))

/-- Zero at every entry. -/
def zeroR : FVec Ideal S16x5x2048x2048 .f32 := broadcastInDim S16x5x2048x2048 ![] bcast_S_S16x5x2048x2048 (constant S_ .f32 0x00000000#32)

/-- The logarithm of the sigmoid. -/
def lsR (x : FVec Ideal S16x5x2048x2048 .f32) : FVec Ideal S16x5x2048x2048 .f32 :=
  Host.negf (select (cmpf .une (subf (Host.negf x) zeroR) (subf (Host.negf x) zeroR)) (addf (Host.negf x) zeroR)
    (addf (maximumf (Host.negf x) zeroR) (Host.log1p (Host.exp (Host.negf (Host.absf (subf (Host.negf x) zeroR)))))))

/-- The strictly causal mask. -/
def maskR : IVec S16x5x2048x2048 1 :=
  broadcastInDim S16x5x2048x2048 ![2, 3] bcast_S2048x2048_S16x5x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The masked logarithms of one minus the probability. -/
def l1R (z : FVec Ideal S16x5x2048x2048 .f32) : FVec Ideal S16x5x2048x2048 .f32 :=
  select maskR (lsR (Host.negf z)) (broadcastInDim S16x5x2048x2048 ![] bcast_S_S16x5x2048x2048 (id (constant S_ .f32 0x00000000#32)))

/-- Their sum from each key on. -/
def cumR (l : FVec Ideal S16x5x2048x2048 .f32) : FVec Ideal S16x5x2048x2048 .f32 :=
  Host.reduceWindowAdd ![1, 1, 1, 2048] ![1, 1, 1, 1] ![0, 0, 0, 0] ![0, 0, 0, 2047] l (broadcastInDim S_ ![] bcast_S_S_ (constant S_ .f32 0x00000000#32)) reduceWindows_S16x5x2048x2048_S16x5x2048x2048_w1s1p0_0_w1s1p0_0_w1s1p0_0_w2048s1p0_2047 h_S_

/-- The weights. -/
def aR (z : FVec Ideal S16x5x2048x2048 .f32) : FVec Ideal S16x5x2048x2048 .f32 :=
  select maskR (Host.exp (addf (lsR z) (subf (cumR (l1R z)) (l1R z)))) (broadcastInDim S16x5x2048x2048 ![] bcast_S_S16x5x2048x2048 (id (constant S_ .f32 0x00000000#32)))

/-- The reference's result over its arguments. -/
def refSb (Q K V : FVec Ideal S16x2048x5x64 .f32) : FVec Ideal S32768x384 .bf16 :=
  truncf .bf16 (pad S32768x384 ![0, 0] ![0, 64] ![0, 0] (shapeCast _ (transpose S16x2048x5x64 [0, 3, 1, 2] (Host.dotGeneral dot_S16x2048x5x64_S16x5x2048x2048_S16x5x64x2048_1_3_3_2_02_01 none V (aR (zR Q K))) transposes_S16x5x64x2048_S16x2048x5x64_0_3_1_2) shapeCasts_S16x2048x5x64_S32768x320) (sitofp .f32 (constantI S_ 32 0#32)) pads_S32768x320_S32768x384_000_0640 h_S_) bitsLt_bf16_f32

theorem res_eq (m : (ℓ : Loc nD τ sig) → Buf (Elt Ideal) ℓ) (c : Dev nD) : Cert.ReferenceIdeal.Value.res_main_v22 m c
    = refSb (m ((c.tc : Thread nD τ).loc main_arg0)) (m ((c.tc : Thread nD τ).loc main_arg1)) (m ((c.tc : Thread nD τ).loc main_arg2)) := by
  unfold Cert.ReferenceIdeal.Value.res_main_v22
  rfl

theorem zeroR_at (j : S16x5x2048x2048.Idx) : zeroR j = 0 := by
  pointwise [zeroR]

theorem lsR_at (x : FVec Ideal S16x5x2048x2048 .f32) (j : S16x5x2048x2048.Idx) : lsR x j = lsg (x j) := by
  pointwise [lsR, zeroR_at, lsg]
  rw [if_neg (not_not.2 rfl)]
  rfl

theorem maskR_at (b : Fin 16) (h : Fin 5) (t s : Fin 2048) : maskR (ix4 b h t s) = BitVec.ofBool (decide (s.val < t.val)) := by
  pointwise [maskR]
  rw [WordCmp.cmpi_slt_ofNat (by omega) (by omega)]

theorem sel_decide {α : Type} (p : Prop) [Decidable p] (a b : α) : Scalar.select (BitVec.ofBool (decide p)) a b = if p then a else b := by
  by_cases h : p <;> simp [h, Scalar.select]

theorem l1R_at (z : FVec Ideal S16x5x2048x2048 .f32) (b : Fin 16) (h : Fin 5) (t s : Fin 2048) :
    l1R z (ix4 b h t s) = if s.val < t.val then lm (z (ix4 b h t s)) else 0 := by
  rw [← lsg_neg]
  pointwise [l1R, lsR_at, maskR_at]
  dsimp only [id]
  pointwise

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window of the whole last axis padded high sums the entries from the window's first on. -/
theorem cumR_at (l : FVec Ideal S16x5x2048x2048 .f32) (b : Fin 16) (h : Fin 5) (t s : Fin 2048) :
    cumR l (ix4 b h t s) = ∑ k ∈ Finset.Ico s.val 2048, l (ix4 b h t ⟨k % 2048, by omega⟩) := by
  have hv : (broadcastInDim S_ ![] bcast_S_S_ (constant (F := Ideal) S_ .f32 0x00000000#32)) (Shape.Idx.first h_S_) = (0 : EReal) := by
    pointwise
  unfold cumR Host.reduceWindowAdd
  rw [Ideal.hostReduceWindowAdd_def, hv]
  unfold Ideal.hostReduceWindowAdd Host.reduceWindow
  dsimp only
  rw [foldl_sum, zero_add, ← Fin.sum_univ_def]
  let G : (⟨4, ![1, 1, 1, 2048]⟩ : Shape).Idx → EReal := fun w =>
    if hw : s.val + (w 3).val < 2048 then l (ix4 b h t ⟨s.val + (w 3).val, hw⟩) else 0
  refine (Finset.sum_congr (g := fun n => G ((⟨4, ![1, 1, 1, 2048]⟩ : Shape).rowMajor.symm n)) rfl fun n _ => ?_).trans ?_
  · let w := (⟨4, ![1, 1, 1, 2048]⟩ : Shape).rowMajor.symm n
    have w0 : (w 0).val = 0 := by have : (w 0).val < 1 := (w 0).isLt; omega
    have w1 : (w 1).val = 0 := by have : (w 1).val < 1 := (w 1).isLt; omega
    have w2 : (w 2).val = 0 := by have : (w 2).val < 1 := (w 2).isLt; omega
    show _ = if hw : s.val + (w 3).val < 2048 then l (ix4 b h t ⟨s.val + (w 3).val, hw⟩) else 0
    split
    · next hin =>
      have h3 := (hin 3).2
      have h3' : s.val * 1 + (w 3).val - 0 < 2048 := h3
      rw [dif_pos (show s.val + (w 3).val < 2048 by omega)]
      congr 1
      funext a
      apply Fin.ext
      match a with
      | ⟨0, _⟩ => show b.val * 1 + (w 0).val - 0 = b.val; omega
      | ⟨1, _⟩ => show h.val * 1 + (w 1).val - 0 = h.val; omega
      | ⟨2, _⟩ => show t.val * 1 + (w 2).val - 0 = t.val; omega
      | ⟨3, _⟩ => show s.val * 1 + (w 3).val - 0 = s.val + (w 3).val; omega
    · next hin =>
      rw [dif_neg]
      intro h3
      refine hin fun a => ?_
      match a with
      | ⟨0, _⟩ => exact ⟨Nat.zero_le _, by show b.val * 1 + (w 0).val - 0 < 16; omega⟩
      | ⟨1, _⟩ => exact ⟨Nat.zero_le _, by show h.val * 1 + (w 1).val - 0 < 5; omega⟩
      | ⟨2, _⟩ => exact ⟨Nat.zero_le _, by show t.val * 1 + (w 2).val - 0 < 2048; omega⟩
      | ⟨3, _⟩ => exact ⟨Nat.zero_le _, by show s.val * 1 + (w 3).val - 0 < 2048; omega⟩
  · rw [Equiv.sum_comp (⟨4, ![1, 1, 1, 2048]⟩ : Shape).rowMajor.symm G, sum_idx4]
    simp only [Fin.sum_univ_one, Finset.univ_unique, Finset.sum_singleton]
    show (∑ k : Fin 2048, if hw : s.val + k.val < 2048 then l (ix4 b h t ⟨s.val + k.val, hw⟩) else 0) = _
    have e : ∀ k : Fin 2048, (if hw : s.val + k.val < 2048 then l (ix4 b h t ⟨s.val + k.val, hw⟩) else 0)
        = (fun k : ℕ => if s.val + k < 2048 then l (ix4 b h t ⟨(s.val + k) % 2048, by omega⟩) else 0) k.val := by
      intro k
      dsimp only
      split
      · next hk => simp only [Nat.mod_eq_of_lt hk]
      · rfl
    rw [Finset.sum_congr rfl fun k _ => e k, Fin.sum_univ_eq_sum_range (fun k : ℕ => if s.val + k < 2048 then l (ix4 b h t ⟨(s.val + k) % 2048, by omega⟩) else 0) 2048,
      Finset.sum_Ico_eq_sum_range, ← Finset.sum_filter]
    refine Finset.sum_congr ?_ fun k _ => rfl
    ext k
    simp only [Finset.mem_filter, Finset.mem_range]
    omega

theorem aR_at (z : FVec Ideal S16x5x2048x2048 .f32) (b : Fin 16) (h : Fin 5) (t s : Fin 2048) :
    aR z (ix4 b h t s) = aq (fun n => z (ix4 b h t ⟨n % 2048, by omega⟩)) t.val s.val := by
  have hl : ∀ k, k < 2048 → l1R z (ix4 b h t ⟨k % 2048, by omega⟩) = lq (fun n => z (ix4 b h t ⟨n % 2048, by omega⟩)) t.val k := by
    intro k hk
    rw [l1R_at, lq]
    simp only [Nat.mod_eq_of_lt hk]
  have hs : (⟨s.val % 2048, by omega⟩ : Fin 2048) = s := Fin.ext (Nat.mod_eq_of_lt s.isLt)
  have hc : cumR (l1R z) (ix4 b h t s) = tq (fun n => z (ix4 b h t ⟨n % 2048, by omega⟩)) t.val s.val := by
    rw [cumR_at, tq]
    exact Finset.sum_congr rfl fun k hk => hl k (Finset.mem_Ico.1 hk).2
  have h1 : l1R z (ix4 b h t s) = lq (fun n => z (ix4 b h t ⟨n % 2048, by omega⟩)) t.val s.val := by
    rw [← hl s.val s.isLt, hs]
  rw [aq_ref _ _ _ s.isLt, ← hc, ← h1, hs]
  pointwise [aR, lsR_at, maskR_at]
  dsimp only [id]
  pointwise

/-- The reference's result at an entry. -/
theorem refSb_at (Q K V : FVec Ideal S16x2048x5x64 .f32) (r : Fin 32768) (c : Fin 384) :
    refSb Q K V (ix2 r c) = if h : c.val < 320 then ∑ s : Fin 2048, V (ix4 ⟨r.val / 2048, by omega⟩ s ⟨c.val / 64, by omega⟩ ⟨c.val % 64, by omega⟩)
      * aR (zR Q K) (ix4 ⟨r.val / 2048, by omega⟩ ⟨c.val / 64, by omega⟩ ⟨r.val % 2048, by omega⟩ s) else 0 := by
  have h0 : (FloatOps.sitofp FTy.f32 0#32 : Ideal .f32) = 0 := by simp [FloatOps.sitofp]
  pointwise [refSb, h0]

theorem zR_at (Q K : FVec Ideal S16x2048x5x64 .f32) (b : Fin 16) (h : Fin 5) (t s : Fin 2048) :
    zR Q K (ix4 b h t s) = (∑ d : Fin 64, Q (ix4 b t h d) * K (ix4 b s h d)) * Ideal.ofBits .f32 0x3E000000#32 := by
  pointwise [zR]

end Cert.Proof.SbRef
end
-- ==== Proof.Entry.lean ====
/- The arrays the stick-breaking kernel is given, entry by entry. -/
module

public import proofs.«01_k».proof.Proof.Scalar
public import proofs.«01_k».proof.Proof.OutBlk
public import proofs.«01_k».proof.Proof.RefSb
public import Idealize.ShloMosaic.Lib.Claim

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The queries. -/
abbrev argQ (c : Dev nD) : FVec Ideal S16x2048x5x64 .f32 := m ((c : Thread nD τ).loc main_arg0)
/-- The keys. -/
abbrev argK (c : Dev nD) : FVec Ideal S16x2048x5x64 .f32 := m ((c : Thread nD τ).loc main_arg1)
/-- The values. -/
abbrev argV (c : Dev nD) : FVec Ideal S16x2048x5x64 .f32 := m ((c : Thread nD τ).loc main_arg2)

/-- The queries and keys the kernel is given, side by side, padded to 384 columns each. -/
def qkV (Q K : FVec Ideal S16x2048x5x64 .f32) : FVec Ideal S32768x768 .bf16 :=
  truncf .bf16 (concatenate S32768x768 1
    [⟨S32768x384, pad S32768x384 ![0, 0] ![0, 64] ![0, 0]
      (shapeCast S32768x320 (mulf Q (broadcastInDim S16x2048x5x64 ![] bcast_S_S16x2048x5x64 (constant (F := Ideal) S_ .f32 0x3E000000#32))) shapeCasts_S16x2048x5x64_S32768x320)
      (sitofp .f32 (constantI S_ 32 0#32)) pads_S32768x320_S32768x384_000_0640 h_S_⟩,
     ⟨S32768x384, pad S32768x384 ![0, 0] ![0, 64] ![0, 0]
      (shapeCast S32768x320 K shapeCasts_S16x2048x5x64_S32768x320)
      (sitofp .f32 (constantI S_ 32 0#32)) pads_S32768x320_S32768x384_000_0640 h_S_⟩]
    concatenates_S32768x384_S32768x384_S32768x768_d1) bitsLt_bf16_f32

/-- The values the kernel is given: padded, and transposed so that positions run along the lanes. -/
def vtV (V : FVec Ideal S16x2048x5x64 .f32) : FVec Ideal S16x384x2048 .bf16 :=
  truncf .bf16 (transpose S16x384x2048 [0, 2, 1]
    (shapeCast S16x2048x384 (pad S32768x384 ![0, 0] ![0, 64] ![0, 0]
      (shapeCast S32768x320 V shapeCasts_S16x2048x5x64_S32768x320)
      (sitofp (F := Ideal) .f32 (constantI S_ 32 0#32)) pads_S32768x320_S32768x384_000_0640 h_S_) shapeCasts_S32768x384_S16x2048x384)
    transposes_S16x2048x384_S16x384x2048_0_2_1) bitsLt_bf16_f32

set_option maxHeartbeats 4000000 in
theorem V7 (c : Dev nD) : V m c main_v7 = qkV (argQ m c) (argK m c) := by
  unfold V
  simp only [hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V12 (c : Dev nD) : V m c main_v12 = vtV (argV m c) := by
  unfold V
  simp only [hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

theorem qkV_q (Q K : FVec Ideal S16x2048x5x64 .f32) (r : Fin 32768) (c : Fin 768) (hc : c.val < 320) :
    qkV Q K (ix2 r c) = Q (ix4 ⟨r.val / 2048, by omega⟩ ⟨r.val % 2048, by omega⟩ ⟨c.val / 64, by omega⟩ ⟨c.val % 64, by omega⟩) * Ideal.ofBits .f32 0x3E000000#32 := by
  pointwise [qkV]
  rw [dif_pos (by omega), dif_pos hc]
theorem qkV_k (Q K : FVec Ideal S16x2048x5x64 .f32) (r : Fin 32768) (c : Fin 320) :
    qkV Q K (ix2 r ⟨384 + c.val, by omega⟩) = K (ix4 ⟨r.val / 2048, by omega⟩ ⟨r.val % 2048, by omega⟩ ⟨c.val / 64, by omega⟩ ⟨c.val % 64, by omega⟩) := by
  pointwise [qkV]
theorem vtV_at (V : FVec Ideal S16x2048x5x64 .f32) (b : Fin 16) (c : Fin 384) (n : Fin 2048) (hc : c.val < 320) :
    vtV V (ix3 b c n) = V (ix4 b n ⟨c.val / 64, by omega⟩ ⟨c.val % 64, by omega⟩) := by
  pointwise [vtV]
  rw [dif_pos (by omega)]

theorem idx : ∀ t : Fin cfg0.N, win0_0.index t = ![(grid0.coords t 0).val * 8 + (grid0.coords t 1).val, 0] ∧ win0_1.index t = ![(grid0.coords t 0).val, 1]
    ∧ win0_2.index t = ![(grid0.coords t 0).val, 0, 0] ∧ win0_3.index t = ![(grid0.coords t 0).val * 8 + (grid0.coords t 1).val, 0] :=
  (by decide +kernel : ∀ t : Fin grid0.N, _)

/-- The query block of a grid point. -/
abbrev bq (c : Dev nD) (t : Fin cfg0.N) : FVec Ideal S256x384 .bf16 := iblk m c 0 t
/-- The key block of a grid point. -/
abbrev bk (c : Dev nD) (t : Fin cfg0.N) : FVec Ideal S2048x384 .bf16 := iblk m c 1 t
/-- The value block of a grid point. -/
abbrev bv (c : Dev nD) (t : Fin cfg0.N) : FVec Ideal S1x384x2048 .bf16 := iblk m c 2 t

/-- The sequence of a grid point. -/
abbrev gb (t : Fin cfg0.N) : Fin 16 := ⟨(grid0.coords t 0).val, (grid0.coords t 0).isLt⟩
/-- The query block's number within its sequence. -/
abbrev gi (t : Fin cfg0.N) : Fin 8 := ⟨(grid0.coords t 1).val, (grid0.coords t 1).isLt⟩

theorem bq_at (c : Dev nD) (t : Fin cfg0.N) (a : Fin 256) (d : Fin 384) :
    bq m c t (ix2 a d) = qkV (argQ m c) (argK m c) (ix2 ⟨((gb t).val * 8 + (gi t).val) * 256 + a.val, by have := (gb t).isLt; have := (gi t).isLt; omega⟩ ⟨d.val, by omega⟩) := by
  rw [← V7]
  blk_point [bq, iblk, V, idx t]
theorem bk_at (c : Dev nD) (t : Fin cfg0.N) (a : Fin 2048) (d : Fin 384) :
    bk m c t (ix2 a d) = qkV (argQ m c) (argK m c) (ix2 ⟨(gb t).val * 2048 + a.val, by have := (gb t).isLt; omega⟩ ⟨384 + d.val, by omega⟩) := by
  rw [← V7]
  blk_point [bk, iblk, V, idx t]
theorem bv_at (c : Dev nD) (t : Fin cfg0.N) (d : Fin 384) (n : Fin 2048) :
    bv m c t (ix3 0 d n) = vtV (argV m c) (ix3 (gb t) d n) := by
  rw [← V12]
  blk_point [bv, iblk, V, idx t]

end Cert.Proof.Sb
-- ==== Proof.Final.lean ====
/- The stick-breaking kernel stores the reference's result. -/
module

public import proofs.«01_k».proof.Proof.Scalar
public import proofs.«01_k».proof.Proof.Entry
public import proofs.«01_k».proof.Proof.OutBlk
public import proofs.«01_k».proof.Proof.RefSb
public import Idealize.ShloMosaic.Lib.Claim

@[expose] public section

set_option maxRecDepth 16384

noncomputable section

namespace Cert.Proof.Sb

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The rounded query scale is the real one eighth. -/
theorem eighth : Ideal.ofBits .f32 0x3E000000#32 = (((1 : ℝ) / 8 : ℝ) : EReal) := by
  simp [Ideal.ofBits, Ideal.ieee, -EReal.coe_mul]; norm_num

/-- Two entries at coordinates of the same values are the same entry. -/
theorem at4 {n0 n1 n2 n3 : ℕ} {α : Type*} (f : (⟨4, ![n0, n1, n2, n3]⟩ : Shape).Idx → α) (a a' : Fin n0) (b b' : Fin n1) (c c' : Fin n2) (d d' : Fin n3)
    (ha : a.val = a'.val) (hb : b.val = b'.val) (hc : c.val = c'.val) (hd : d.val = d'.val) : f (ix4 a b c d) = f (ix4 a' b' c' d') := by
  rw [Fin.ext ha, Fin.ext hb, Fin.ext hc, Fin.ext hd]

theorem Zh_eq (c : Dev nD) (t : Fin cfg0.N) (h : Fin 5) (h' : Fin 6) (hh : h'.val = h.val) (a : Fin 256) (n : Nat) :
    Zh (bq m c t) (bk m c t) h' a n
      = SbRef.zR (argQ m c) (argK m c) (ix4 (gb t) h ⟨256 * (gi t).val + a.val, by have := (gi t).isLt; omega⟩ ⟨n % 2048, by omega⟩) := by
  have hb := (gb t).isLt
  have hi := (gi t).isLt
  rw [SbRef.zR_at, eighth, ← sum_mul_real _ _ _ (by norm_num)]
  unfold Zh
  refine Finset.sum_congr rfl fun d _ => ?_
  have hk := qkV_k (argQ m c) (argK m c) ⟨(gb t).val * 2048 + n % 2048, by omega⟩ ⟨64 * h'.val + d.val, by omega⟩
  have hq := qkV_q (argQ m c) (argK m c) ⟨((gb t).val * 8 + (gi t).val) * 256 + a.val, by omega⟩ ⟨64 * h'.val + d.val, by omega⟩ (by show 64 * h'.val + d.val < 320; omega)
  rw [bq_at, bk_at]
  refine (congrArg₂ (· * ·) hk hq).trans ?_
  rw [eighth, mul_comm, mul_right_comm]
  refine congrArg₂ (· * ·) (congrArg₂ (· * ·) ?_ ?_) rfl
  · exact at4 _ _ _ _ _ _ _ _ _ (by show (((gb t).val * 8 + (gi t).val) * 256 + a.val) / 2048 = (gb t).val; omega)
      (by show (((gb t).val * 8 + (gi t).val) * 256 + a.val) % 2048 = 256 * (gi t).val + a.val; omega)
      (by show (64 * h'.val + d.val) / 64 = h.val; omega) (by show (64 * h'.val + d.val) % 64 = d.val; omega)
  · exact at4 _ _ _ _ _ _ _ _ _ (by show ((gb t).val * 2048 + n % 2048) / 2048 = (gb t).val; omega)
      (by show ((gb t).val * 2048 + n % 2048) % 2048 = n % 2048; omega)
      (by show (64 * h'.val + d.val) / 64 = h.val; omega) (by show (64 * h'.val + d.val) % 64 = d.val; omega)

/-- One entry of a grid point's result is the reference's entry at the row it is stored to. -/
theorem entry_eq (c : Dev nD) (t : Fin cfg0.N) (a : Fin 256) (d : Fin 384) (r : Fin 32768) (hr : r.val = ((gb t).val * 8 + (gi t).val) * 256 + a.val) :
    outEntry (bq m c t) (bk m c t) (bv m c t) (gi t).val a d = SbRef.refSb (argQ m c) (argK m c) (argV m c) (ix2 r d) := by
  have hb := (gb t).isLt
  have hi := (gi t).isLt
  rw [SbRef.refSb_at]
  by_cases hd : d.val < 320
  · rw [dif_pos hd]
    refine (if_pos hd).trans ?_
    rw [← Fin.sum_univ_eq_sum_range]
    refine Finset.sum_congr rfl fun s _ => ?_
    rw [bv_at, vtV_at _ _ _ _ hd, SbRef.aR_at]
    refine congrArg₂ (· * ·) ?_ ?_
    · exact at4 _ _ _ _ _ _ _ _ _ (by show (gb t).val = r.val / 2048; omega) (by show s.val % 2048 = s.val; omega) rfl rfl
    · rw [show Zh (bq m c t) (bk m c t) ⟨d.val / 64, by omega⟩ a = _ from funext fun n => Zh_eq m c t ⟨d.val / 64, by omega⟩ ⟨d.val / 64, by omega⟩ rfl a n]
      have e : r.val % 2048 = 256 * (gi t).val + a.val := by omega
      have e' : r.val / 2048 = (gb t).val := by omega
      have hz : (fun n : ℕ => SbRef.zR (argQ m c) (argK m c) (ix4 (gb t) (⟨d.val / 64, by omega⟩ : Fin 5) (⟨256 * (gi t).val + a.val, by omega⟩ : Fin 2048) (⟨n % 2048, by omega⟩ : Fin 2048)))
          = fun n : ℕ => SbRef.zR (argQ m c) (argK m c) (ix4 (⟨r.val / 2048, by omega⟩ : Fin 16) (⟨d.val / 64, by omega⟩ : Fin 5) (⟨r.val % 2048, by omega⟩ : Fin 2048) (⟨n % 2048, by omega⟩ : Fin 2048)) :=
        funext fun n => at4 _ _ _ _ _ _ _ _ _ e'.symm rfl e.symm rfl
      rw [hz, ← e]
  · rw [dif_neg hd]
    exact if_neg hd

set_option maxHeartbeats 1000000 in
theorem final (c : Dev nD) : (dats m 0 c).arrAt 3 (cfgs 0).N = SbRef.refSb (argQ m c) (argK m c) (argV m c) := by
  refine (dats m 0 c).arrAt_eq_of_covers 3 _ (by decide +kernel) fun t _ y => ?_
  blk_simp
  rw [after_3, outBlk_at _ _ _ _ (grid0.coords t 1).isLt]
  refine (entry_eq m c t (y 0) (y 1) ⟨((gb t).val * 8 + (gi t).val) * 256 + (y 0).val, by have := (gb t).isLt; have := (gi t).isLt; have : (y 0).val < 256 := (y 0).isLt; omega⟩ rfl).trans ?_
  refine congrArg _ ?_
  blk_ext [idx t]

end Cert.Proof.Sb
-- ==== Proof.SbClaim.lean ====
/- The claims about the stick-breaking attention: its runs, and its value against the reference. -/
module

public import proofs.«01_k».proof.Defs
public import proofs.«01_k».proof.Proof.Final
public import proofs.«01_k».proof.Proof.Gen.Kernel
public import proofs.«01_k».proof.Proof.Gen.ReferenceIdeal.Run
public import Idealize.ShloMosaic.Lib.Claim

@[expose] public section

noncomputable section

namespace Cert.Proof.Sb

open Idealize.ShloMosaic Idealize.SL.Sem

/-- The kernel's body, read over words, is the same text in both programs. -/
theorem body_same : @Cert.Kernel.cc0_sb_attn Bits _ Cert.Kernel.Gen.facts = @Cert.KernelIdeal.cc0_sb_attn Bits _ Cert.KernelIdeal.Gen.facts := rfl

theorem table_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) =>
    dsimp only
    rw [body_same]
    rfl

theorem defs_same : Cert.Kernel.defs (F := Bits) = Cert.KernelIdeal.defs (F := Bits) :=
  congrArg (Pipeline.defs (Cert.KernelIdeal.pcfgs (F := Bits))) table_same

theorem frame_kernel : Cert.quiescent_Kernel := by
  intro m ρ _
  rw [defs_same]
  exact (θ_run Cert.KernelIdeal.defs _ _).mono (fun _ h => h) (frame_sb (F := Bits) m ρ)

theorem frame_ideal : Cert.quiescent_KernelIdeal := fun m ρ _ => frame_sb m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem value : Cert.algebraic_KernelIdeal_ReferenceIdeal := by
  pair_intro
  · run_from run_main m g
    · exact Cert.KernelIdeal.Gen.V_main_arg0 m c
    · exact Cert.KernelIdeal.Gen.V_main_arg1 m c
    · exact Cert.KernelIdeal.Gen.V_main_arg2 m c
  · run_from Cert.ReferenceIdeal.Value.run m' g'
    rw [SbRef.res_eq, (hagree c).1, (hagree c).2.1, (hagree c).2.2]
    exact (final m c).symm

end Cert.Proof.Sb
end
-- ==== Proof.FfnSpec.lean ====
/- The feed-forward block as plain arithmetic: a row's normalisation, the hidden units, and their sum in chunks. -/
module

public import Idealize.ShloMosaic.Lib.Pointwise
public import Idealize.ShloMosaic.Lib.Pipeline.ValueKit

@[expose] public section

noncomputable section

namespace Cert.Proof.Ffn

open Idealize.ShloMosaic

/-- One entry of a normalised row. -/
def normRow (x : Fin 1024 → EReal) (g : Fin 1024 → EReal) (k : Fin 1024) : EReal :=
  x k * Ideal.rsqrt (Ideal.div (∑ j : Fin 1024, x j * x j) (Ideal.ofBits .f32 0x44800000#32) + Ideal.ofBits .f32 0x358637BD#32) * g k

/-- One hidden unit's contribution: the gate's `z · σ(z)` times the linear half, times its output weight. -/
def unitOf (z u w : EReal) : EReal := z * Ideal.logistic z * u * w

/-- A chunk's product at one row and output column, from the normalised row and the chunk's weights. -/
def chunk (h : Fin 1024 → EReal) (w1 : Fin 1024 → Fin 512 → EReal) (w2 : Fin 256 → EReal) : EReal :=
  ∑ f : Fin 256, unitOf (∑ k : Fin 1024, h k * w1 k ⟨f.val, by omega⟩) (∑ k : Fin 1024, h k * w1 k ⟨256 + f.val, by omega⟩) (w2 f)

/-- The feed-forward block's output at one column, from the normalised row: all hidden units at once. -/
def ffnOut (h : Fin 1024 → EReal) (wg : Fin 1024 → Fin 5632 → EReal) (wd : Fin 2816 → EReal) : EReal :=
  ∑ f : Fin 2816, unitOf (∑ k : Fin 1024, h k * wg k ⟨f.val, by omega⟩) (∑ k : Fin 1024, h k * wg k ⟨2816 + f.val, by omega⟩) (wd f)

/-- The block's result at one entry: the row's entry plus half the feed-forward output. -/
def ffnEntry (x g : Fin 1024 → EReal) (wg : Fin 1024 → Fin 5632 → EReal) (wd : Fin 2816 → EReal) (e : Fin 1024) : EReal :=
  x e + Ideal.ofBits .f32 0x3F000000#32 * ffnOut (normRow x g) wg wd

/-- A sum over all hidden units is the sum over chunks of 256. -/
theorem sum_hidden (F : Fin 2816 → EReal) : ∑ f : Fin 2816, F f = ∑ n : Fin 11, ∑ f : Fin 256, F ⟨n.val * 256 + f.val, by omega⟩ := by
  refine ((Equiv.sum_comp (finProdFinEquiv (m := 11) (n := 256)) F).symm).trans ((Fintype.sum_prod_type _).trans ?_)
  refine Finset.sum_congr rfl fun n _ => Finset.sum_congr rfl fun f _ => congrArg F (Fin.ext ?_)
  show f.val + 256 * n.val = n.val * 256 + f.val
  omega

/-- The chunks add up to the whole when each chunk's weights are its slices of the whole weights. -/
theorem sum_chunk (h : Fin 1024 → EReal) (wg : Fin 1024 → Fin 5632 → EReal) (wd : Fin 2816 → EReal)
    (w1 : Fin 11 → Fin 1024 → Fin 512 → EReal) (w2 : Fin 11 → Fin 256 → EReal)
    (hg : ∀ (n : Fin 11) (k : Fin 1024) (f : Fin 256), w1 n k ⟨f.val, by omega⟩ = wg k ⟨n.val * 256 + f.val, by omega⟩)
    (hu : ∀ (n : Fin 11) (k : Fin 1024) (f : Fin 256), w1 n k ⟨256 + f.val, by omega⟩ = wg k ⟨2816 + (n.val * 256 + f.val), by omega⟩)
    (hd : ∀ (n : Fin 11) (f : Fin 256), w2 n f = wd ⟨n.val * 256 + f.val, by omega⟩) :
    ∑ n : Fin 11, chunk h (w1 n) (w2 n) = ffnOut h wg wd := by
  unfold ffnOut
  rw [sum_hidden]
  refine Finset.sum_congr rfl fun n _ => ?_
  unfold chunk
  refine Finset.sum_congr rfl fun f _ => ?_
  rw [hd]
  simp only [hg, hu]

/-- The three branches merged under their gates, one entry. -/
def mergeRow (G : Fin 3072 → EReal) (sa sb sc : Fin 1024 → EReal) (k : Fin 1024) : EReal :=
  G ⟨k.val, by omega⟩ * sa k + G ⟨1024 + k.val, by omega⟩ * sb k + G ⟨2048 + k.val, by omega⟩ * sc k

/-- The row after the output projection, one entry. -/
def midRow (x M : Fin 1024 → EReal) (wo : Fin 1024 → Fin 1024 → EReal) (e : Fin 1024) : EReal :=
  x e + ∑ k : Fin 1024, M k * wo k e

/-- A row after the three branches are projected up, gated, merged and projected out. -/
def mrgMid (x : Fin 1024 → EReal) (ya : Fin 384 → EReal) (yb yc : Fin 320 → EReal) (gt : Fin 3072 → EReal)
    (ua : Fin 384 → Fin 1024 → EReal) (ub uc : Fin 320 → Fin 1024 → EReal) (wo : Fin 1024 → Fin 1024 → EReal) : Fin 1024 → EReal :=
  midRow x (mergeRow (fun j => Ideal.logistic (gt j)) (fun k => ∑ j : Fin 384, ya j * ua j k) (fun k => ∑ j : Fin 320, yb j * ub j k)
    (fun k => ∑ j : Fin 320, yc j * uc j k)) wo

/-- The layer's result at one column: the feed-forward block on the merged row, and the final normalisation. -/
def mrgEntry (M g gf : Fin 1024 → EReal) (wg : Fin 1024 → Fin 5632 → EReal) (wd : Fin 2816 → Fin 1024 → EReal) (e : Fin 1024) : EReal :=
  normRow (fun e => ffnEntry M g wg (fun f => wd f e) e) gf e

/-- A sum whose last 64 terms are zero. -/
theorem sum_pad (F : Fin 384 → EReal) (h : ∀ j : Fin 384, 320 ≤ j.val → F j = 0) : ∑ j : Fin 384, F j = ∑ j : Fin 320, F ⟨j.val, by omega⟩ := by
  refine (Fin.sum_univ_add (a := 320) (b := 64) F).trans ?_
  rw [Finset.sum_eq_zero (s := Finset.univ) (f := fun i : Fin 64 => F (Fin.natAdd 320 i)) fun i _ => h _ (by show 320 ≤ 320 + i.val; omega), add_zero]
  rfl

end Cert.Proof.Ffn
end
-- ==== Proof.FfnPay.lean ====
/- The feed-forward kernel's payloads, entry by entry. -/
module

public import proofs.«01_k».proof.Proof.FfnSpec
public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic

variable (x : FVec Ideal S512x1024 .f32) (g : FVec Ideal S1x1024 .f32) (h : FVec Ideal S512x1024 .bf16)
  (w1 : FVec Ideal S1x1024x512 .bf16) (w2 : FVec Ideal S1x256x1024 .bf16) (s : FVec Ideal S512x1024 .f32) (a : Fin 512) (k e : Fin 1024)

theorem pay2_at : k0_pay2 (F := Ideal) x g (ix2 a k) = normRow (fun k => x (ix2 a k)) (fun k => g (ix2 0 k)) k := by
  unfold normRow
  pointwise [k0_pay2, k0_pay1]

theorem pay8_at : k0_pay8 (F := Ideal) h w1 w2 s (ix2 a e) = s (ix2 a e) + chunk (fun k => h (ix2 a k)) (fun k j => w1 (ix3 0 k j)) (fun f => w2 (ix3 0 f e)) := by
  unfold chunk unitOf
  pointwise [k0_pay8]

theorem pay3_at : k0_pay3 (F := Ideal) x g w1 w2 (ix2 a e) = chunk (fun k => k0_pay2 (F := Ideal) x g (ix2 a k)) (fun k j => w1 (ix3 0 k j)) (fun f => w2 (ix3 0 f e)) := by
  unfold chunk unitOf
  pointwise [k0_pay3]

theorem pay29_at : k0_pay29 (F := Ideal) (k0_pay1 x) s (ix2 a e) = x (ix2 a e) + Ideal.ofBits .f32 0x3F000000#32 * s (ix2 a e) := by
  pointwise [k0_pay29, k0_pay1]

theorem pay7_eq : k0_pay7 (F := Ideal) (k0_pay5 x g w1) (k0_pay6 x g w1) w2 s = k0_pay8 (F := Ideal) (k0_pay2 x g) w1 w2 s := rfl
theorem pay12_eq : k0_pay12 (k0_pay10 h w1) (k0_pay11 h w1) w2 s = k0_pay8 (F := Ideal) h w1 w2 s := rfl
theorem pay17_eq : k0_pay17 (k0_pay15 h w1) (k0_pay16 h w1) w2 s = k0_pay8 (F := Ideal) h w1 w2 s := rfl
theorem pay22_eq : k0_pay22 (k0_pay20 h w1) (k0_pay21 h w1) w2 s = k0_pay8 (F := Ideal) h w1 w2 s := rfl
theorem pay27_eq : k0_pay27 (k0_pay25 h w1) (k0_pay26 h w1) w2 s = k0_pay8 (F := Ideal) h w1 w2 s := rfl
theorem pay13_eq : k0_pay13 h w1 w2 s = k0_pay8 (F := Ideal) h w1 w2 s := rfl
theorem pay18_eq : k0_pay18 h w1 w2 s = k0_pay8 (F := Ideal) h w1 w2 s := rfl
theorem pay23_eq : k0_pay23 h w1 w2 s = k0_pay8 (F := Ideal) h w1 w2 s := rfl
theorem pay28_eq : k0_pay28 h w1 w2 s = k0_pay8 (F := Ideal) h w1 w2 s := rfl

variable (W1 : Vec Ideal S11x1024x512 .bf16) (W2 : Vec Ideal S11x256x1024 .bf16)

/-- Chunk `n`'s product at one row and output column, from the whole weights. -/
def chunkOf (h : Fin 1024 → EReal) (e : Fin 1024) (n : Fin 11) : EReal :=
  chunk h (fun k j => W1 (ix3 n k j)) (fun f => W2 (ix3 n f e))

/-- One entry of the block a grid point stores. -/
def blockEntry (a : Fin 512) (e : Fin 1024) : EReal :=
  x (ix2 a e) + Ideal.ofBits .f32 0x3F000000#32 * ∑ n : Fin 11, chunkOf W1 W2 (normRow (fun k => x (ix2 a k)) (fun k => g (ix2 0 k))) e n

theorem chunk_0 (h : Fin 1024 → EReal) : chunk h (fun k j => (View.ld W1 (Rect.unit ![0, 0, 0] ![1, 1024, 512] inb_S11x1024x512_S1x1024x512_0_0_0) : Vec Ideal S1x1024x512 .bf16) (ix3 0 k j))
    (fun f => (View.ld W2 (Rect.unit ![0, 0, 0] ![1, 256, 1024] inb_S11x256x1024_S1x256x1024_0_0_0) : Vec Ideal S1x256x1024 .bf16) (ix3 0 f e)) = chunkOf W1 W2 h e 0 := by
  refine congrArg₂ (chunk h) (funext fun k => funext fun j => ?_) (funext fun f => ?_)
  · pointwise
  · pointwise

theorem chunk_1 (h : Fin 1024 → EReal) : chunk h (fun k j => (View.ld W1 (Rect.unit ![1, 0, 0] ![1, 1024, 512] inb_S11x1024x512_S1x1024x512_1_0_0) : Vec Ideal S1x1024x512 .bf16) (ix3 0 k j))
    (fun f => (View.ld W2 (Rect.unit ![1, 0, 0] ![1, 256, 1024] inb_S11x256x1024_S1x256x1024_1_0_0) : Vec Ideal S1x256x1024 .bf16) (ix3 0 f e)) = chunkOf W1 W2 h e 1 := by
  refine congrArg₂ (chunk h) (funext fun k => funext fun j => ?_) (funext fun f => ?_)
  · pointwise
  · pointwise

theorem chunk_2 (h : Fin 1024 → EReal) : chunk h (fun k j => (View.ld W1 (Rect.unit ![2, 0, 0] ![1, 1024, 512] inb_S11x1024x512_S1x1024x512_2_0_0) : Vec Ideal S1x1024x512 .bf16) (ix3 0 k j))
    (fun f => (View.ld W2 (Rect.unit ![2, 0, 0] ![1, 256, 1024] inb_S11x256x1024_S1x256x1024_2_0_0) : Vec Ideal S1x256x1024 .bf16) (ix3 0 f e)) = chunkOf W1 W2 h e 2 := by
  refine congrArg₂ (chunk h) (funext fun k => funext fun j => ?_) (funext fun f => ?_)
  · pointwise
  · pointwise

theorem chunk_3 (h : Fin 1024 → EReal) : chunk h (fun k j => (View.ld W1 (Rect.unit ![3, 0, 0] ![1, 1024, 512] inb_S11x1024x512_S1x1024x512_3_0_0) : Vec Ideal S1x1024x512 .bf16) (ix3 0 k j))
    (fun f => (View.ld W2 (Rect.unit ![3, 0, 0] ![1, 256, 1024] inb_S11x256x1024_S1x256x1024_3_0_0) : Vec Ideal S1x256x1024 .bf16) (ix3 0 f e)) = chunkOf W1 W2 h e 3 := by
  refine congrArg₂ (chunk h) (funext fun k => funext fun j => ?_) (funext fun f => ?_)
  · pointwise
  · pointwise

theorem chunk_4 (h : Fin 1024 → EReal) : chunk h (fun k j => (View.ld W1 (Rect.unit ![4, 0, 0] ![1, 1024, 512] inb_S11x1024x512_S1x1024x512_4_0_0) : Vec Ideal S1x1024x512 .bf16) (ix3 0 k j))
    (fun f => (View.ld W2 (Rect.unit ![4, 0, 0] ![1, 256, 1024] inb_S11x256x1024_S1x256x1024_4_0_0) : Vec Ideal S1x256x1024 .bf16) (ix3 0 f e)) = chunkOf W1 W2 h e 4 := by
  refine congrArg₂ (chunk h) (funext fun k => funext fun j => ?_) (funext fun f => ?_)
  · pointwise
  · pointwise

theorem chunk_5 (h : Fin 1024 → EReal) : chunk h (fun k j => (View.ld W1 (Rect.unit ![5, 0, 0] ![1, 1024, 512] inb_S11x1024x512_S1x1024x512_5_0_0) : Vec Ideal S1x1024x512 .bf16) (ix3 0 k j))
    (fun f => (View.ld W2 (Rect.unit ![5, 0, 0] ![1, 256, 1024] inb_S11x256x1024_S1x256x1024_5_0_0) : Vec Ideal S1x256x1024 .bf16) (ix3 0 f e)) = chunkOf W1 W2 h e 5 := by
  refine congrArg₂ (chunk h) (funext fun k => funext fun j => ?_) (funext fun f => ?_)
  · pointwise
  · pointwise

theorem chunk_6 (h : Fin 1024 → EReal) : chunk h (fun k j => (View.ld W1 (Rect.unit ![6, 0, 0] ![1, 1024, 512] inb_S11x1024x512_S1x1024x512_6_0_0) : Vec Ideal S1x1024x512 .bf16) (ix3 0 k j))
    (fun f => (View.ld W2 (Rect.unit ![6, 0, 0] ![1, 256, 1024] inb_S11x256x1024_S1x256x1024_6_0_0) : Vec Ideal S1x256x1024 .bf16) (ix3 0 f e)) = chunkOf W1 W2 h e 6 := by
  refine congrArg₂ (chunk h) (funext fun k => funext fun j => ?_) (funext fun f => ?_)
  · pointwise
  · pointwise

theorem chunk_7 (h : Fin 1024 → EReal) : chunk h (fun k j => (View.ld W1 (Rect.unit ![7, 0, 0] ![1, 1024, 512] inb_S11x1024x512_S1x1024x512_7_0_0) : Vec Ideal S1x1024x512 .bf16) (ix3 0 k j))
    (fun f => (View.ld W2 (Rect.unit ![7, 0, 0] ![1, 256, 1024] inb_S11x256x1024_S1x256x1024_7_0_0) : Vec Ideal S1x256x1024 .bf16) (ix3 0 f e)) = chunkOf W1 W2 h e 7 := by
  refine congrArg₂ (chunk h) (funext fun k => funext fun j => ?_) (funext fun f => ?_)
  · pointwise
  · pointwise

theorem chunk_8 (h : Fin 1024 → EReal) : chunk h (fun k j => (View.ld W1 (Rect.unit ![8, 0, 0] ![1, 1024, 512] inb_S11x1024x512_S1x1024x512_8_0_0) : Vec Ideal S1x1024x512 .bf16) (ix3 0 k j))
    (fun f => (View.ld W2 (Rect.unit ![8, 0, 0] ![1, 256, 1024] inb_S11x256x1024_S1x256x1024_8_0_0) : Vec Ideal S1x256x1024 .bf16) (ix3 0 f e)) = chunkOf W1 W2 h e 8 := by
  refine congrArg₂ (chunk h) (funext fun k => funext fun j => ?_) (funext fun f => ?_)
  · pointwise
  · pointwise

theorem chunk_9 (h : Fin 1024 → EReal) : chunk h (fun k j => (View.ld W1 (Rect.unit ![9, 0, 0] ![1, 1024, 512] inb_S11x1024x512_S1x1024x512_9_0_0) : Vec Ideal S1x1024x512 .bf16) (ix3 0 k j))
    (fun f => (View.ld W2 (Rect.unit ![9, 0, 0] ![1, 256, 1024] inb_S11x256x1024_S1x256x1024_9_0_0) : Vec Ideal S1x256x1024 .bf16) (ix3 0 f e)) = chunkOf W1 W2 h e 9 := by
  refine congrArg₂ (chunk h) (funext fun k => funext fun j => ?_) (funext fun f => ?_)
  · pointwise
  · pointwise

theorem chunk_10 (h : Fin 1024 → EReal) : chunk h (fun k j => (View.ld W1 (Rect.unit ![10, 0, 0] ![1, 1024, 512] inb_S11x1024x512_S1x1024x512_10_0_0) : Vec Ideal S1x1024x512 .bf16) (ix3 0 k j))
    (fun f => (View.ld W2 (Rect.unit ![10, 0, 0] ![1, 256, 1024] inb_S11x256x1024_S1x256x1024_10_0_0) : Vec Ideal S1x256x1024 .bf16) (ix3 0 f e)) = chunkOf W1 W2 h e 10 := by
  refine congrArg₂ (chunk h) (funext fun k => funext fun j => ?_) (funext fun f => ?_)
  · pointwise
  · pointwise

variable (m : (ℓ : Loc nD τ sig) → Buf (Elt Ideal) ℓ)

set_option maxHeartbeats 4000000 in
theorem outs_at (c : Dev nD) (t : Fin cfg0.N) (a : Fin 512) (e : Fin 1024) :
    outsAt0 m c t (ix2 a e) = blockEntry (iblk m c 0 t) (iblk m c 1 t) (iblk m c 2 t) (iblk m c 3 t) a e := by
  unfold outsAt0
  frame_out
  simp only [pay7_eq, pay12_eq, pay13_eq, pay17_eq, pay18_eq, pay22_eq, pay23_eq, pay27_eq, pay28_eq]
  rw [pay29_at]
  simp only [pay8_at, pay3_at, pay2_at, chunk_0, chunk_1, chunk_2, chunk_3, chunk_4, chunk_5, chunk_6, chunk_7, chunk_8, chunk_9, chunk_10]
  unfold blockEntry
  simp only [Fin.sum_univ_castSucc, Fin.sum_univ_zero, zero_add]
  rfl

theorem outs_apply (c : Dev nD) (t : Fin cfg0.N) (y : S512x1024.Idx) :
    outsAt0 m c t y = blockEntry (iblk m c 0 t) (iblk m c 1 t) (iblk m c 2 t) (iblk m c 3 t) (y 0) (y 1) := by
  rw [eq_ix2 y]
  exact outs_at m c t (y 0) (y 1)

end Cert.Proof.Ffn
end
-- ==== Proof.FfnEntry.lean ====
/- The arrays the feed-forward kernel is given, entry by entry, and its result. -/
module

public import proofs.«01_k».proof.Proof.FfnPay
public import Idealize.ShloMosaic.Lib.Claim

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic
open Idealize.SL.Sem

variable (m : (ℓ : Loc nD τ sig) → Buf (Elt Ideal) ℓ)

/-- The hidden states. -/
abbrev argX (c : Dev nD) : FVec Ideal S16x2048x1024 .f32 := m ((c : Thread nD τ).loc main_arg0)
/-- The normalisation's weights. -/
abbrev argG (c : Dev nD) : FVec Ideal S1024 .f32 := m ((c : Thread nD τ).loc main_arg1)
/-- The gate and linear weights, side by side. -/
abbrev argWg (c : Dev nD) : FVec Ideal S1024x5632 .f32 := m ((c : Thread nD τ).loc main_arg2)
/-- The output weights. -/
abbrev argWd (c : Dev nD) : FVec Ideal S2816x1024 .f32 := m ((c : Thread nD τ).loc main_arg3)

/-- The gate and linear weights the kernel is given: chunk by chunk, the gate's 256 columns and then the linear half's. -/
def w1V (W : FVec Ideal S1024x5632 .f32) : FVec Ideal S11x1024x512 .bf16 :=
  truncf .bf16 (transpose S11x1024x512 [1, 0, 2] (concatenate S1024x11x512 2
    [⟨S1024x11x256, shapeCast S1024x11x256 (extractStridedSlice S1024x2816 ![0, 0] W slices_S1024x5632_S1024x2816_0_0) shapeCasts_S1024x2816_S1024x11x256⟩,
     ⟨S1024x11x256, shapeCast S1024x11x256 (extractStridedSlice S1024x2816 ![0, 2816] W slices_S1024x5632_S1024x2816_0_2816) shapeCasts_S1024x2816_S1024x11x256⟩]
    concatenates_S1024x11x256_S1024x11x256_S1024x11x512_d2) transposes_S1024x11x512_S11x1024x512_1_0_2) bitsLt_bf16_f32

/-- The output weights the kernel is given, chunk by chunk. -/
def w2V (W : FVec Ideal S2816x1024 .f32) : FVec Ideal S11x256x1024 .bf16 :=
  truncf .bf16 (shapeCast S11x256x1024 W shapeCasts_S2816x1024_S11x256x1024) bitsLt_bf16_f32

set_option maxHeartbeats 4000000 in
theorem V6 (c : Dev nD) : V m c main_v6 = w1V (argWg m c) := by
  unfold V
  simp only [hostOps0]
  after_results_simp <;> rfl
set_option maxHeartbeats 4000000 in
theorem V8 (c : Dev nD) : V m c main_v8 = w2V (argWd m c) := by
  unfold V
  simp only [hostOps0]
  after_results_simp <;> rfl
set_option maxHeartbeats 4000000 in
theorem V9 (c : Dev nD) : V m c main_v9 = shapeCast S32768x1024 (argX m c) shapeCasts_S16x2048x1024_S32768x1024 := by
  unfold V
  simp only [hostOps0]
  after_results_simp <;> rfl
set_option maxHeartbeats 4000000 in
theorem V10 (c : Dev nD) : V m c main_v10 = shapeCast S1x1024 (argG m c) shapeCasts_S1024_S1x1024 := by
  unfold V
  simp only [hostOps0]
  after_results_simp <;> rfl

theorem w1V_gate (W : FVec Ideal S1024x5632 .f32) (n : Fin 11) (k : Fin 1024) (f : Fin 256) :
    w1V W (ix3 n k ⟨f.val, by omega⟩) = W (ix2 k ⟨n.val * 256 + f.val, by omega⟩) := by
  pointwise [w1V]
theorem w1V_lin (W : FVec Ideal S1024x5632 .f32) (n : Fin 11) (k : Fin 1024) (f : Fin 256) :
    w1V W (ix3 n k ⟨256 + f.val, by omega⟩) = W (ix2 k ⟨2816 + (n.val * 256 + f.val), by omega⟩) := by
  pointwise [w1V]
theorem w2V_at (W : FVec Ideal S2816x1024 .f32) (n : Fin 11) (f : Fin 256) (e : Fin 1024) :
    w2V W (ix3 n f e) = W (ix2 ⟨n.val * 256 + f.val, by omega⟩ e) := by
  pointwise [w2V]

theorem idx : ∀ t : Fin cfg0.N, win0_0.index t = ![t.val, 0] ∧ win0_1.index t = ![0, 0]
    ∧ win0_2.index t = ![0, 0, 0] ∧ win0_3.index t = ![0, 0, 0] ∧ win0_5.index t = ![t.val, 0] :=
  (by decide +kernel : ∀ t : Fin grid0.N, _)

theorem tlt (t : Fin cfg0.N) : t.val < 64 := lt_of_lt_of_le t.isLt (by decide +kernel)

/-- The row a grid point's `a`th row is. -/
def rowOf (t : Fin cfg0.N) (a : Fin 512) : Fin 32768 := ⟨t.val * 512 + a.val, by have := tlt t; omega⟩

abbrev bx (c : Dev nD) (t : Fin cfg0.N) : FVec Ideal S512x1024 .f32 := iblk m c 0 t
abbrev bg (c : Dev nD) (t : Fin cfg0.N) : FVec Ideal S1x1024 .f32 := iblk m c 1 t
abbrev bw1 (c : Dev nD) (t : Fin cfg0.N) : FVec Ideal S11x1024x512 .bf16 := iblk m c 2 t
abbrev bw2 (c : Dev nD) (t : Fin cfg0.N) : FVec Ideal S11x256x1024 .bf16 := iblk m c 3 t

theorem bx_at (c : Dev nD) (t : Fin cfg0.N) (a : Fin 512) (k : Fin 1024) :
    bx m c t (ix2 a k) = shapeCast S32768x1024 (argX m c) shapeCasts_S16x2048x1024_S32768x1024 (ix2 (rowOf t a) k) := by
  rw [← V9]
  blk_point [bx, iblk, V, idx t, rowOf]
theorem bg_at (c : Dev nD) (t : Fin cfg0.N) (k : Fin 1024) :
    bg m c t (ix2 0 k) = shapeCast S1x1024 (argG m c) shapeCasts_S1024_S1x1024 (ix2 0 k) := by
  rw [← V10]
  blk_point [bg, iblk, V, idx t]
theorem bw1_at (c : Dev nD) (t : Fin cfg0.N) (n : Fin 11) (k : Fin 1024) (j : Fin 512) :
    bw1 m c t (ix3 n k j) = w1V (argWg m c) (ix3 n k j) := by
  rw [← V6]
  blk_point [bw1, iblk, V, idx t]
theorem bw2_at (c : Dev nD) (t : Fin cfg0.N) (n : Fin 11) (f : Fin 256) (e : Fin 1024) :
    bw2 m c t (ix3 n f e) = w2V (argWd m c) (ix3 n f e) := by
  rw [← V8]
  blk_point [bw2, iblk, V, idx t]

theorem xrow (X : FVec Ideal S16x2048x1024 .f32) (r : Fin 32768) (k : Fin 1024) :
    shapeCast S32768x1024 X shapeCasts_S16x2048x1024_S32768x1024 (ix2 r k) = X (ix3 ⟨r.val / 2048, by omega⟩ ⟨r.val % 2048, by omega⟩ k) := by
  pointwise
theorem grow (G : FVec Ideal S1024 .f32) (k : Fin 1024) : shapeCast S1x1024 G shapeCasts_S1024_S1x1024 (ix2 0 k) = G (ix1 k) := by
  pointwise

/-- The result, over the arguments. -/
def ffnRes (X : FVec Ideal S16x2048x1024 .f32) (G : FVec Ideal S1024 .f32) (Wg : FVec Ideal S1024x5632 .f32) (Wd : FVec Ideal S2816x1024 .f32) : FVec Ideal S32768x1024 .f32 := fun y =>
  ffnEntry (fun k => X (ix3 ⟨(y 0).val / 2048, by have : (y 0).val < 32768 := (y 0).isLt; omega⟩ ⟨(y 0).val % 2048, by omega⟩ k)) (fun k => G (ix1 k)) (fun k j => Wg (ix2 k j)) (fun f => Wd (ix2 f (y 1))) (y 1)

theorem entry_eq (c : Dev nD) (t : Fin cfg0.N) (a : Fin 512) (e : Fin 1024) :
    blockEntry (bx m c t) (bg m c t) (bw1 m c t) (bw2 m c t) a e = ffnRes (argX m c) (argG m c) (argWg m c) (argWd m c) (ix2 (rowOf t a) e) := by
  unfold blockEntry chunkOf
  rw [sum_chunk _ (fun k j => argWg m c (ix2 k j)) (fun f => argWd m c (ix2 f e)) _ _
    (fun n k f => (bw1_at m c t n k _).trans (w1V_gate _ n k f)) (fun n k f => (bw1_at m c t n k _).trans (w1V_lin _ n k f))
    (fun n f => (bw2_at m c t n f e).trans (w2V_at _ n f e))]
  simp only [bx_at, bg_at, xrow, grow]
  rfl

set_option maxHeartbeats 1000000 in
theorem final (c : Dev nD) : (dats m 0 c).arrAt 5 cfg0.N = ffnRes (argX m c) (argG m c) (argWg m c) (argWd m c) := by
  refine (dats m 0 c).arrAt_eq_of_covers 5 _ (by decide +kernel) fun t _ y => ?_
  blk_simp
  rw [after0_5]
  rw [outs_apply]
  refine (entry_eq m c t (y 0) (y 1)).trans ?_
  refine congrArg _ ?_
  blk_ext [idx t, rowOf]

end Cert.Proof.Ffn
end
-- ==== Proof.FfnRef.lean ====
/- The feed-forward reference read at an index. -/
module

public import proofs.«01_k».proof.Proof.FfnSpec
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Proof.FfnRef

open Cert.Reference2Ideal Cert.Reference2Ideal.Gen Idealize.ShloMosaic Idealize.ShloMosaic.TcCoe Idealize.SL.Sem Cert.Proof.Ffn

/-- The normalised rows. -/
def nR (X : FVec Ideal S16x2048x1024 .f32) (G : FVec Ideal S1024 .f32) : FVec Ideal S16x2048x1024 .f32 :=
  mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))

/-- The gate and linear halves, side by side. -/
def guR (h : FVec Ideal S16x2048x1024 .f32) (W : FVec Ideal S1024x5632 .f32) : FVec Ideal S16x2048x5632 .f32 :=
  Host.dotGeneral dot_S16x2048x1024_S1024x5632_S16x2048x5632_2_0_01_1_n_n none h W

/-- The hidden units. -/
def hidR (p : FVec Ideal S16x2048x5632 .f32) : FVec Ideal S16x2048x2816 .f32 :=
  mulf (mulf (extractStridedSlice S16x2048x2816 ![0, 0, 0] p slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] p slices_S16x2048x5632_S16x2048x2816_0_0_0)))))) (extractStridedSlice S16x2048x2816 ![0, 0, 2816] p slices_S16x2048x5632_S16x2048x2816_0_0_2816)

/-- The result. -/
def resR (X : FVec Ideal S16x2048x1024 .f32) (G : FVec Ideal S1024 .f32) (Wg : FVec Ideal S1024x5632 .f32) (Wd : FVec Ideal S2816x1024 .f32) : FVec Ideal S32768x1024 .f32 :=
  shapeCast S32768x1024 (addf X (mulf (broadcastInDim S16x2048x1024 ![] bcast_S_S16x2048x1024 (constant S_ .f32 0x3F000000#32)) (Host.dotGeneral dot_S16x2048x2816_S2816x1024_S16x2048x1024_2_0_01_1_n_n none (hidR (guR (nR X G) Wg)) Wd))) shapeCasts_S16x2048x1024_S32768x1024

variable (X : FVec Ideal S16x2048x1024 .f32) (G : FVec Ideal S1024 .f32) (Wg : FVec Ideal S1024x5632 .f32) (Wd : FVec Ideal S2816x1024 .f32)
  (b : Fin 16) (s : Fin 2048)

theorem nR_at (k : Fin 1024) : nR X G (ix3 b s k) = normRow (fun k => X (ix3 b s k)) (fun k => G (ix1 k)) k := by
  unfold normRow
  pointwise [nR]

theorem guR_at (h : FVec Ideal S16x2048x1024 .f32) (j : Fin 5632) : guR h Wg (ix3 b s j) = ∑ k : Fin 1024, h (ix3 b s k) * Wg (ix2 k j) := by
  pointwise [guR]

theorem hidR_at (p : FVec Ideal S16x2048x5632 .f32) (f : Fin 2816) (w : EReal) :
    hidR p (ix3 b s f) * w = unitOf (p (ix3 b s ⟨f.val, by omega⟩)) (p (ix3 b s ⟨2816 + f.val, by omega⟩)) w := by
  unfold unitOf
  pointwise [hidR]
  rfl

theorem resR_at (r : Fin 32768) (e : Fin 1024) : resR X G Wg Wd (ix2 r e)
    = ffnEntry (fun k => X (ix3 ⟨r.val / 2048, by omega⟩ ⟨r.val % 2048, by omega⟩ k)) (fun k => G (ix1 k)) (fun k j => Wg (ix2 k j)) (fun f => Wd (ix2 f e)) e := by
  unfold ffnEntry ffnOut
  pointwise [resR]
  simp only [hidR_at, guR_at, nR_at]

end Cert.Proof.FfnRef
end
-- ==== Proof.FfnClaim.lean ====
/- The claims about the feed-forward block: its runs, and its value against the reference. -/
module

public import proofs.«01_k».proof.Defs
public import proofs.«01_k».proof.Proof.FfnEntry
public import proofs.«01_k».proof.Proof.FfnRef
public import proofs.«01_k».proof.Proof.Gen.Kernel2
public import Idealize.ShloMosaic.Lib.Claim

@[expose] public section

noncomputable section

namespace Cert.Proof.Ffn

open Idealize.ShloMosaic Idealize.SL.Sem

/-- The kernel's body, read over words, is the same text in both programs. -/
theorem body_same : @Cert.Kernel2.cc0_ffn Bits _ Cert.Kernel2.Gen.facts = @Cert.Kernel2Ideal.cc0_ffn Bits _ Cert.Kernel2Ideal.Gen.facts := rfl

theorem table_same : @Cert.Kernel2.defs₀ Bits _ Cert.Kernel2.Gen.facts = @Cert.Kernel2Ideal.defs₀ Bits _ Cert.Kernel2Ideal.Gen.facts := by
  unfold Cert.Kernel2.defs₀ Cert.Kernel2Ideal.defs₀
  refine congrArg Defs.onTc ?_
  funext l a
  match l, a with
  | 0, (t, s) =>
    dsimp only
    rw [body_same]
    rfl

theorem defs_same : Cert.Kernel2.defs (F := Bits) = Cert.Kernel2Ideal.defs (F := Bits) :=
  congrArg (Pipeline.defs (Cert.Kernel2Ideal.pcfgs (F := Bits))) table_same

theorem frame_kernel : Cert.quiescent_Kernel2 := by
  intro m ρ _
  rw [defs_same]
  exact (θ_run Cert.Kernel2Ideal.defs _ _).mono (fun _ h => h) (Cert.Kernel2Ideal.Gen.frame (F := Bits) m ρ)

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem res_eq (X G Wg Wd) : FfnRef.resR X G Wg Wd = ffnRes X G Wg Wd := by
  funext y
  rw [eq_ix2 y]
  exact FfnRef.resR_at X G Wg Wd (y 0) (y 1)

theorem value : Cert.algebraic_Kernel2Ideal_Reference2Ideal := by
  pair_intro
  · run_from Cert.Kernel2Ideal.Gen.run_main m g
  · run_from Cert.Reference2Ideal.Value.run m' g'
    refine Eq.trans (b := FfnRef.resR (argX m c) (argG m c) (argWg m c) (argWd m c)) rfl ?_
    rw [res_eq]
    exact (final m c).symm

end Cert.Proof.Ffn
end
-- ==== Proof.MrgPay.lean ====
/- The merge kernel's payloads, entry by entry. -/
module

public import proofs.«01_k».proof.Proof.FfnSpec
public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Proof.Mrg

open Cert.Kernel3Ideal Cert.Kernel3Ideal.Gen
open Idealize.ShloMosaic Idealize.ShloMosaic.TcCoe Idealize.ShloMosaic.Tactic Cert.Proof.Ffn

variable (x p : FVec Ideal S512x1024 .f32) (v h : FVec Ideal S512x1024 .bf16) (o : FVec Ideal S1024x1024 .bf16) (g : FVec Ideal S1x1024 .f32)
  (w1 : FVec Ideal S1x1024x512 .bf16) (w2 : FVec Ideal S1x256x1024 .bf16) (s : FVec Ideal S512x1024 .f32) (a : Fin 512) (k e : Fin 1024)

theorem pay1_at : k0_pay1 (F := Ideal) p (k0_pay34 g) (ix2 a k) = normRow (fun k => p (ix2 a k)) (fun k => g (ix2 0 k)) k := by
  unfold normRow
  pointwise [k0_pay1, k0_pay34]

theorem pay3_at (ga gb gc : FVec Ideal S512x1024 .bf16) (ya yb yc : FVec Ideal S512x384 .bf16) (ua ub uc : FVec Ideal S384x1024 .bf16) :
    k0_pay3 (F := Ideal) ga ya ua gb yb ub gc yc uc (ix2 a k)
      = ga (ix2 a k) * (∑ j : Fin 384, ya (ix2 a j) * ua (ix2 j k)) + gb (ix2 a k) * (∑ j : Fin 384, yb (ix2 a j) * ub (ix2 j k))
        + gc (ix2 a k) * (∑ j : Fin 384, yc (ix2 a j) * uc (ix2 j k)) := by
  pointwise [k0_pay3]

theorem pay5_at : k0_pay5 (F := Ideal) (k0_pay2 x) v (k0_pay4 o) (ix2 a e) = midRow (fun e => x (ix2 a e)) (fun k => v (ix2 a k)) (fun k e => o (ix2 k e)) e := by
  unfold midRow
  pointwise [k0_pay5, k0_pay2, k0_pay4]

theorem pay6_at : k0_pay6 (F := Ideal) (k0_pay2 x) v (k0_pay4 o) g (ix2 a k)
    = normRow (midRow (fun e => x (ix2 a e)) (fun k => v (ix2 a k)) (fun k e => o (ix2 k e))) (fun k => g (ix2 0 k)) k := by
  unfold normRow
  pointwise [k0_pay6]
  simp only [pay5_at]

theorem pay12_at : k0_pay12 (F := Ideal) h w1 w2 s (ix2 a e) = s (ix2 a e) + chunk (fun k => h (ix2 a k)) (fun k j => w1 (ix3 0 k j)) (fun f => w2 (ix3 0 f e)) := by
  unfold chunk unitOf
  pointwise [k0_pay12]

theorem pay7_at : k0_pay7 (F := Ideal) (k0_pay2 x) v (k0_pay4 o) g w1 w2 (ix2 a e)
    = chunk (fun k => k0_pay6 (F := Ideal) (k0_pay2 x) v (k0_pay4 o) g (ix2 a k)) (fun k j => w1 (ix3 0 k j)) (fun f => w2 (ix3 0 f e)) := by
  unfold chunk unitOf
  pointwise [k0_pay7]

theorem pay33_at : k0_pay33 (F := Ideal) p s (ix2 a e) = p (ix2 a e) + Ideal.ofBits .f32 0x3F000000#32 * s (ix2 a e) := by
  pointwise [k0_pay33]

theorem pay11_eq : k0_pay11 (F := Ideal) (k0_pay9 (k0_pay2 x) v (k0_pay4 o) g w1) (k0_pay10 (k0_pay2 x) v (k0_pay4 o) g w1) w2 s
    = k0_pay12 (F := Ideal) (k0_pay6 (k0_pay2 x) v (k0_pay4 o) g) w1 w2 s := rfl
theorem pay16_eq : k0_pay16 (F := Ideal) (k0_pay14 h w1) (k0_pay15 h w1) w2 s = k0_pay12 (F := Ideal) h w1 w2 s := rfl
theorem pay21_eq : k0_pay21 (F := Ideal) (k0_pay19 h w1) (k0_pay20 h w1) w2 s = k0_pay12 (F := Ideal) h w1 w2 s := rfl
theorem pay26_eq : k0_pay26 (F := Ideal) (k0_pay24 h w1) (k0_pay25 h w1) w2 s = k0_pay12 (F := Ideal) h w1 w2 s := rfl
theorem pay31_eq : k0_pay31 (F := Ideal) (k0_pay29 h w1) (k0_pay30 h w1) w2 s = k0_pay12 (F := Ideal) h w1 w2 s := rfl
theorem pay17_eq : k0_pay17 (F := Ideal) h w1 w2 s = k0_pay12 (F := Ideal) h w1 w2 s := rfl
theorem pay22_eq : k0_pay22 (F := Ideal) h w1 w2 s = k0_pay12 (F := Ideal) h w1 w2 s := rfl
theorem pay27_eq : k0_pay27 (F := Ideal) h w1 w2 s = k0_pay12 (F := Ideal) h w1 w2 s := rfl
theorem pay32_eq : k0_pay32 (F := Ideal) h w1 w2 s = k0_pay12 (F := Ideal) h w1 w2 s := rfl

variable (W1 : Vec Ideal S11x1024x512 .bf16) (W2 : Vec Ideal S11x256x1024 .bf16) (G : Vec Ideal S512x3072 .bf16)

/-- Chunk `n`'s product at one row and output column, from the whole weights. -/
def chunkOf (h : Fin 1024 → EReal) (e : Fin 1024) (n : Fin 11) : EReal :=
  chunk h (fun k j => W1 (ix3 n k j)) (fun f => W2 (ix3 n f e))

theorem chunk_0 (h : Fin 1024 → EReal) : chunk h (fun k j => (View.ld W1 (Rect.unit ![0, 0, 0] ![1, 1024, 512] inb_S11x1024x512_S1x1024x512_0_0_0) : Vec Ideal S1x1024x512 .bf16) (ix3 0 k j))
    (fun f => (View.ld W2 (Rect.unit ![0, 0, 0] ![1, 256, 1024] inb_S11x256x1024_S1x256x1024_0_0_0) : Vec Ideal S1x256x1024 .bf16) (ix3 0 f e)) = chunkOf W1 W2 h e 0 := by
  refine congrArg₂ (chunk h) (funext fun k => funext fun j => ?_) (funext fun f => ?_)
  · pointwise
  · pointwise

theorem chunk_1 (h : Fin 1024 → EReal) : chunk h (fun k j => (View.ld W1 (Rect.unit ![1, 0, 0] ![1, 1024, 512] inb_S11x1024x512_S1x1024x512_1_0_0) : Vec Ideal S1x1024x512 .bf16) (ix3 0 k j))
    (fun f => (View.ld W2 (Rect.unit ![1, 0, 0] ![1, 256, 1024] inb_S11x256x1024_S1x256x1024_1_0_0) : Vec Ideal S1x256x1024 .bf16) (ix3 0 f e)) = chunkOf W1 W2 h e 1 := by
  refine congrArg₂ (chunk h) (funext fun k => funext fun j => ?_) (funext fun f => ?_)
  · pointwise
  · pointwise

theorem chunk_2 (h : Fin 1024 → EReal) : chunk h (fun k j => (View.ld W1 (Rect.unit ![2, 0, 0] ![1, 1024, 512] inb_S11x1024x512_S1x1024x512_2_0_0) : Vec Ideal S1x1024x512 .bf16) (ix3 0 k j))
    (fun f => (View.ld W2 (Rect.unit ![2, 0, 0] ![1, 256, 1024] inb_S11x256x1024_S1x256x1024_2_0_0) : Vec Ideal S1x256x1024 .bf16) (ix3 0 f e)) = chunkOf W1 W2 h e 2 := by
  refine congrArg₂ (chunk h) (funext fun k => funext fun j => ?_) (funext fun f => ?_)
  · pointwise
  · pointwise

theorem chunk_3 (h : Fin 1024 → EReal) : chunk h (fun k j => (View.ld W1 (Rect.unit ![3, 0, 0] ![1, 1024, 512] inb_S11x1024x512_S1x1024x512_3_0_0) : Vec Ideal S1x1024x512 .bf16) (ix3 0 k j))
    (fun f => (View.ld W2 (Rect.unit ![3, 0, 0] ![1, 256, 1024] inb_S11x256x1024_S1x256x1024_3_0_0) : Vec Ideal S1x256x1024 .bf16) (ix3 0 f e)) = chunkOf W1 W2 h e 3 := by
  refine congrArg₂ (chunk h) (funext fun k => funext fun j => ?_) (funext fun f => ?_)
  · pointwise
  · pointwise

theorem chunk_4 (h : Fin 1024 → EReal) : chunk h (fun k j => (View.ld W1 (Rect.unit ![4, 0, 0] ![1, 1024, 512] inb_S11x1024x512_S1x1024x512_4_0_0) : Vec Ideal S1x1024x512 .bf16) (ix3 0 k j))
    (fun f => (View.ld W2 (Rect.unit ![4, 0, 0] ![1, 256, 1024] inb_S11x256x1024_S1x256x1024_4_0_0) : Vec Ideal S1x256x1024 .bf16) (ix3 0 f e)) = chunkOf W1 W2 h e 4 := by
  refine congrArg₂ (chunk h) (funext fun k => funext fun j => ?_) (funext fun f => ?_)
  · pointwise
  · pointwise

theorem chunk_5 (h : Fin 1024 → EReal) : chunk h (fun k j => (View.ld W1 (Rect.unit ![5, 0, 0] ![1, 1024, 512] inb_S11x1024x512_S1x1024x512_5_0_0) : Vec Ideal S1x1024x512 .bf16) (ix3 0 k j))
    (fun f => (View.ld W2 (Rect.unit ![5, 0, 0] ![1, 256, 1024] inb_S11x256x1024_S1x256x1024_5_0_0) : Vec Ideal S1x256x1024 .bf16) (ix3 0 f e)) = chunkOf W1 W2 h e 5 := by
  refine congrArg₂ (chunk h) (funext fun k => funext fun j => ?_) (funext fun f => ?_)
  · pointwise
  · pointwise

theorem chunk_6 (h : Fin 1024 → EReal) : chunk h (fun k j => (View.ld W1 (Rect.unit ![6, 0, 0] ![1, 1024, 512] inb_S11x1024x512_S1x1024x512_6_0_0) : Vec Ideal S1x1024x512 .bf16) (ix3 0 k j))
    (fun f => (View.ld W2 (Rect.unit ![6, 0, 0] ![1, 256, 1024] inb_S11x256x1024_S1x256x1024_6_0_0) : Vec Ideal S1x256x1024 .bf16) (ix3 0 f e)) = chunkOf W1 W2 h e 6 := by
  refine congrArg₂ (chunk h) (funext fun k => funext fun j => ?_) (funext fun f => ?_)
  · pointwise
  · pointwise

theorem chunk_7 (h : Fin 1024 → EReal) : chunk h (fun k j => (View.ld W1 (Rect.unit ![7, 0, 0] ![1, 1024, 512] inb_S11x1024x512_S1x1024x512_7_0_0) : Vec Ideal S1x1024x512 .bf16) (ix3 0 k j))
    (fun f => (View.ld W2 (Rect.unit ![7, 0, 0] ![1, 256, 1024] inb_S11x256x1024_S1x256x1024_7_0_0) : Vec Ideal S1x256x1024 .bf16) (ix3 0 f e)) = chunkOf W1 W2 h e 7 := by
  refine congrArg₂ (chunk h) (funext fun k => funext fun j => ?_) (funext fun f => ?_)
  · pointwise
  · pointwise

theorem chunk_8 (h : Fin 1024 → EReal) : chunk h (fun k j => (View.ld W1 (Rect.unit ![8, 0, 0] ![1, 1024, 512] inb_S11x1024x512_S1x1024x512_8_0_0) : Vec Ideal S1x1024x512 .bf16) (ix3 0 k j))
    (fun f => (View.ld W2 (Rect.unit ![8, 0, 0] ![1, 256, 1024] inb_S11x256x1024_S1x256x1024_8_0_0) : Vec Ideal S1x256x1024 .bf16) (ix3 0 f e)) = chunkOf W1 W2 h e 8 := by
  refine congrArg₂ (chunk h) (funext fun k => funext fun j => ?_) (funext fun f => ?_)
  · pointwise
  · pointwise

theorem chunk_9 (h : Fin 1024 → EReal) : chunk h (fun k j => (View.ld W1 (Rect.unit ![9, 0, 0] ![1, 1024, 512] inb_S11x1024x512_S1x1024x512_9_0_0) : Vec Ideal S1x1024x512 .bf16) (ix3 0 k j))
    (fun f => (View.ld W2 (Rect.unit ![9, 0, 0] ![1, 256, 1024] inb_S11x256x1024_S1x256x1024_9_0_0) : Vec Ideal S1x256x1024 .bf16) (ix3 0 f e)) = chunkOf W1 W2 h e 9 := by
  refine congrArg₂ (chunk h) (funext fun k => funext fun j => ?_) (funext fun f => ?_)
  · pointwise
  · pointwise

theorem chunk_10 (h : Fin 1024 → EReal) : chunk h (fun k j => (View.ld W1 (Rect.unit ![10, 0, 0] ![1, 1024, 512] inb_S11x1024x512_S1x1024x512_10_0_0) : Vec Ideal S1x1024x512 .bf16) (ix3 0 k j))
    (fun f => (View.ld W2 (Rect.unit ![10, 0, 0] ![1, 256, 1024] inb_S11x256x1024_S1x256x1024_10_0_0) : Vec Ideal S1x256x1024 .bf16) (ix3 0 f e)) = chunkOf W1 W2 h e 10 := by
  refine congrArg₂ (chunk h) (funext fun k => funext fun j => ?_) (funext fun f => ?_)
  · pointwise
  · pointwise

theorem ldg_0 : (View.ld G (Rect.unit ![0, 0] ![512, 1024] inb_S512x3072_S512x1024_0_0) : Vec Ideal S512x1024 .bf16) (ix2 a k) = G (ix2 a ⟨k.val, by omega⟩) := by
  pointwise

theorem ldg_1 : (View.ld G (Rect.unit ![0, 1024] ![512, 1024] inb_S512x3072_S512x1024_0_1024) : Vec Ideal S512x1024 .bf16) (ix2 a k) = G (ix2 a ⟨1024 + k.val, by omega⟩) := by
  pointwise

theorem ldg_2 : (View.ld G (Rect.unit ![0, 2048] ![512, 1024] inb_S512x3072_S512x1024_0_2048) : Vec Ideal S512x1024 .bf16) (ix2 a k) = G (ix2 a ⟨2048 + k.val, by omega⟩) := by
  pointwise

/-- A sum of eleven terms. -/
theorem sum11 (F : Fin 11 → EReal) : ∑ n : Fin 11, F n = F 0 + F 1 + F 2 + F 3 + F 4 + F 5 + F 6 + F 7 + F 8 + F 9 + F 10 := by
  simp only [Fin.sum_univ_castSucc, Fin.sum_univ_zero, zero_add]
  rfl

/-- One merged entry, over a grid point's blocks. -/
def merged (ya yb yc : FVec Ideal S512x384 .bf16) (G : FVec Ideal S512x3072 .bf16) (ua ub uc : FVec Ideal S384x1024 .bf16) (a : Fin 512) : Fin 1024 → EReal :=
  mergeRow (fun j => G (ix2 a j)) (fun k => ∑ j : Fin 384, ya (ix2 a j) * ua (ix2 j k)) (fun k => ∑ j : Fin 384, yb (ix2 a j) * ub (ix2 j k)) (fun k => ∑ j : Fin 384, yc (ix2 a j) * uc (ix2 j k))

/-- One row after the output projection, over a grid point's blocks. -/
def mid (x : FVec Ideal S512x1024 .f32) (ya yb yc : FVec Ideal S512x384 .bf16) (G : FVec Ideal S512x3072 .bf16) (ua ub uc : FVec Ideal S384x1024 .bf16)
    (o : FVec Ideal S1024x1024 .bf16) (a : Fin 512) : Fin 1024 → EReal :=
  midRow (fun e => x (ix2 a e)) (merged ya yb yc G ua ub uc a) (fun k e => o (ix2 k e))

theorem mid_eq (x : FVec Ideal S512x1024 .f32) (ya yb yc : FVec Ideal S512x384 .bf16) (G : Vec Ideal S512x3072 .bf16) (ua ub uc : FVec Ideal S384x1024 .bf16)
    (o : FVec Ideal S1024x1024 .bf16) :
    midRow (fun e => x (ix2 a e)) (fun k =>
      (View.ld G (Rect.unit ![0, 0] ![512, 1024] inb_S512x3072_S512x1024_0_0) : FVec Ideal S512x1024 .bf16) (ix2 a k) * (∑ j : Fin 384, ya (ix2 a j) * ua (ix2 j k))
      + (View.ld G (Rect.unit ![0, 1024] ![512, 1024] inb_S512x3072_S512x1024_0_1024) : FVec Ideal S512x1024 .bf16) (ix2 a k) * (∑ j : Fin 384, yb (ix2 a j) * ub (ix2 j k))
      + (View.ld G (Rect.unit ![0, 2048] ![512, 1024] inb_S512x3072_S512x1024_0_2048) : FVec Ideal S512x1024 .bf16) (ix2 a k) * (∑ j : Fin 384, yc (ix2 a j) * uc (ix2 j k)))
      (fun k e => o (ix2 k e)) = mid x ya yb yc G ua ub uc o a := by
  unfold mid merged
  refine congrArg (fun M => midRow _ M _) (funext fun k => ?_)
  exact congrArg₂ (· + ·) (congrArg₂ (· + ·) (congrArg (· * _) (ldg_0 a k G)) (congrArg (· * _) (ldg_1 a k G))) (congrArg (· * _) (ldg_2 a k G))

/-- One entry of the block a grid point stores. -/
def blockEntry (x : FVec Ideal S512x1024 .f32) (ya yb yc : FVec Ideal S512x384 .bf16) (G : FVec Ideal S512x3072 .bf16) (ua ub uc : FVec Ideal S384x1024 .bf16)
    (o : FVec Ideal S1024x1024 .bf16) (g : FVec Ideal S1x1024 .f32) (W1 : Vec Ideal S11x1024x512 .bf16) (W2 : Vec Ideal S11x256x1024 .bf16) (gf : FVec Ideal S1x1024 .f32) (a : Fin 512) (e : Fin 1024) : EReal :=
  normRow (fun e => mid x ya yb yc G ua ub uc o a e + Ideal.ofBits .f32 0x3F000000#32 * ∑ n : Fin 11, chunkOf W1 W2 (normRow (mid x ya yb yc G ua ub uc o a) (fun k => g (ix2 0 k))) e n)
    (fun k => gf (ix2 0 k)) e

variable (m : (ℓ : Loc nD τ sig) → Buf (Elt Ideal) ℓ)

set_option maxHeartbeats 4000000 in
theorem outs_at (c : Dev nD) (t : Fin cfg0.N) (a : Fin 512) (e : Fin 1024) :
    outsAt0 m c t (ix2 a e) = blockEntry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a e := by
  unfold outsAt0
  frame_out
  generalize (iblk m c 0 t) = x0
  generalize (iblk m c 1 t) = x1
  generalize (iblk m c 2 t) = x2
  generalize (iblk m c 3 t) = x3
  generalize (iblk m c 4 t) = x4
  generalize (iblk m c 5 t) = x5
  generalize (iblk m c 6 t) = x6
  generalize (iblk m c 7 t) = x7
  generalize (iblk m c 8 t) = x8
  generalize (iblk m c 9 t) = x9
  generalize (iblk m c 10 t) = x10
  generalize (iblk m c 11 t) = x11
  generalize (iblk m c 12 t) = x12
  simp only [pay11_eq, pay16_eq, pay17_eq, pay21_eq, pay22_eq, pay26_eq, pay27_eq, pay31_eq, pay32_eq]
  rw [pay1_at]
  unfold blockEntry
  simp only [pay33_at, pay12_at, pay7_at, pay6_at, pay5_at, pay3_at, ldg_0, ldg_1, ldg_2, chunk_0, chunk_1, chunk_2, chunk_3, chunk_4, chunk_5, chunk_6, chunk_7, chunk_8, chunk_9, chunk_10]
  simp only [sum11]
  refine Eq.trans ?_ (congrArg (fun M : Fin 1024 → EReal => normRow (fun e => M e + Ideal.ofBits .f32 0x3F000000#32 * (chunkOf x10 x11 (normRow M fun k => x9 (ix2 0 k)) e 0 + chunkOf x10 x11 (normRow M fun k => x9 (ix2 0 k)) e 1 + chunkOf x10 x11 (normRow M fun k => x9 (ix2 0 k)) e 2 + chunkOf x10 x11 (normRow M fun k => x9 (ix2 0 k)) e 3 + chunkOf x10 x11 (normRow M fun k => x9 (ix2 0 k)) e 4 + chunkOf x10 x11 (normRow M fun k => x9 (ix2 0 k)) e 5 + chunkOf x10 x11 (normRow M fun k => x9 (ix2 0 k)) e 6 + chunkOf x10 x11 (normRow M fun k => x9 (ix2 0 k)) e 7 + chunkOf x10 x11 (normRow M fun k => x9 (ix2 0 k)) e 8 + chunkOf x10 x11 (normRow M fun k => x9 (ix2 0 k)) e 9 + chunkOf x10 x11 (normRow M fun k => x9 (ix2 0 k)) e 10)) (fun k => x12 (ix2 0 k)) e) (mid_eq a x0 x1 x2 x3 x4 x5 x6 x7 x8))
  rfl

theorem outs_apply (c : Dev nD) (t : Fin cfg0.N) (y : S512x1024.Idx) :
    outsAt0 m c t y = blockEntry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1) := by
  rw [eq_ix2 y]
  exact outs_at m c t (y 0) (y 1)

end Cert.Proof.Mrg
end
-- ==== Proof.MrgArr.lean ====
/- The arrays the merging kernel is given, entry by entry, and its result. -/
module

public import proofs.«01_k».proof.Proof.MrgPay
public import Idealize.ShloMosaic.Lib.Claim

@[expose] public section

set_option maxRecDepth 16384

noncomputable section

namespace Cert.Proof.Mrg

open Cert.Kernel3Ideal Cert.Kernel3Ideal.Gen
open Idealize.ShloMosaic Idealize.ShloMosaic.TcCoe Idealize.ShloMosaic.Tactic
open Idealize.SL.Sem Cert.Proof.Ffn

variable (m : (ℓ : Loc nD τ sig) → Buf (Elt Ideal) ℓ)

/-- The hidden states. -/
abbrev argX (c : Dev nD) : FVec Ideal S16x2048x1024 .f32 := m ((c : Thread nD τ).loc main_arg0)
/-- The first branch: the forgetting attention's outputs. -/
abbrev argA (c : Dev nD) : FVec Ideal S16x2048x6x64 .f32 := m ((c : Thread nD τ).loc main_arg1)
/-- The second branch: the stick-breaking attention's outputs. -/
abbrev argB (c : Dev nD) : FVec Ideal S16x2048x5x64 .f32 := m ((c : Thread nD τ).loc main_arg2)
/-- The third branch: the sparse attention's outputs. -/
abbrev argC (c : Dev nD) : FVec Ideal S16x2048x5x64 .f32 := m ((c : Thread nD τ).loc main_arg3)
/-- The gates, before their sigmoid. -/
abbrev argGt (c : Dev nD) : FVec Ideal S16x2048x3072 .f32 := m ((c : Thread nD τ).loc main_arg4)
/-- The first branch's up-projection. -/
abbrev argUa (c : Dev nD) : FVec Ideal S384x1024 .f32 := m ((c : Thread nD τ).loc main_arg5)
/-- The second branch's up-projection. -/
abbrev argUb (c : Dev nD) : FVec Ideal S320x1024 .f32 := m ((c : Thread nD τ).loc main_arg6)
/-- The third branch's up-projection. -/
abbrev argUc (c : Dev nD) : FVec Ideal S320x1024 .f32 := m ((c : Thread nD τ).loc main_arg7)
/-- The output projection. -/
abbrev argO (c : Dev nD) : FVec Ideal S1024x1024 .f32 := m ((c : Thread nD τ).loc main_arg8)
/-- The normalisation's weights. -/
abbrev argG (c : Dev nD) : FVec Ideal S1024 .f32 := m ((c : Thread nD τ).loc main_arg9)
/-- The gate and linear weights, side by side. -/
abbrev argWg (c : Dev nD) : FVec Ideal S1024x5632 .f32 := m ((c : Thread nD τ).loc main_arg10)
/-- The output weights. -/
abbrev argWd (c : Dev nD) : FVec Ideal S2816x1024 .f32 := m ((c : Thread nD τ).loc main_arg11)
/-- The final normalisation's weights. -/
abbrev argGf (c : Dev nD) : FVec Ideal S1024 .f32 := m ((c : Thread nD τ).loc main_arg12)

/-- The gate and linear weights the kernel is given: chunk by chunk, the gate's 256 columns and then the linear half's. -/
def w1V (W : FVec Ideal S1024x5632 .f32) : FVec Ideal S11x1024x512 .bf16 :=
  truncf .bf16 (transpose S11x1024x512 [1, 0, 2] (concatenate S1024x11x512 2
    [⟨S1024x11x256, shapeCast S1024x11x256 (extractStridedSlice S1024x2816 ![0, 0] W slices_S1024x5632_S1024x2816_0_0) shapeCasts_S1024x2816_S1024x11x256⟩,
     ⟨S1024x11x256, shapeCast S1024x11x256 (extractStridedSlice S1024x2816 ![0, 2816] W slices_S1024x5632_S1024x2816_0_2816) shapeCasts_S1024x2816_S1024x11x256⟩]
    concatenates_S1024x11x256_S1024x11x256_S1024x11x512_d2) transposes_S1024x11x512_S11x1024x512_1_0_2) bitsLt_bf16_f32

/-- The output weights the kernel is given, chunk by chunk. -/
def w2V (W : FVec Ideal S2816x1024 .f32) : FVec Ideal S11x256x1024 .bf16 :=
  truncf .bf16 (shapeCast S11x256x1024 W shapeCasts_S2816x1024_S11x256x1024) bitsLt_bf16_f32

/-- The first branch as the kernel is given it. -/
def yaV (Y : FVec Ideal S16x2048x6x64 .f32) : FVec Ideal S32768x384 .bf16 :=
  truncf .bf16 (pad S32768x384 ![0, 0] ![0, 0] ![0, 0] (shapeCast S32768x384 Y shapeCasts_S16x2048x6x64_S32768x384)
    (sitofp (F := Ideal) .f32 (constantI S_ 32 0#32)) pads_S32768x384_S32768x384_000_000 h_S_) bitsLt_bf16_f32

/-- The second or third branch as the kernel is given it, padded to 384 columns. -/
def ybV (Y : FVec Ideal S16x2048x5x64 .f32) : FVec Ideal S32768x384 .bf16 :=
  truncf .bf16 (pad S32768x384 ![0, 0] ![0, 64] ![0, 0] (shapeCast S32768x320 Y shapeCasts_S16x2048x5x64_S32768x320)
    (sitofp (F := Ideal) .f32 (constantI S_ 32 0#32)) pads_S32768x320_S32768x384_000_0640 h_S_) bitsLt_bf16_f32

/-- The gates as the kernel is given them. -/
def gtV (G : FVec Ideal S16x2048x3072 .f32) : FVec Ideal S32768x3072 .bf16 :=
  truncf .bf16 (Host.divf (broadcastInDim S32768x3072 ![] bcast_S_S32768x3072 (constant (F := Ideal) S_ .f32 0x3F800000#32))
    (addf (broadcastInDim S32768x3072 ![] bcast_S_S32768x3072 (constant (F := Ideal) S_ .f32 0x3F800000#32))
      (Host.exp (Host.negf (shapeCast S32768x3072 G shapeCasts_S16x2048x3072_S32768x3072))))) bitsLt_bf16_f32

/-- An up-projection as the kernel is given it, padded to 384 rows. -/
def uV (U : FVec Ideal S320x1024 .f32) : FVec Ideal S384x1024 .bf16 :=
  truncf .bf16 (pad S384x1024 ![0, 0] ![64, 0] ![0, 0] U (sitofp (F := Ideal) .f32 (constantI S_ 32 0#32)) pads_S320x1024_S384x1024_0640_000 h_S_) bitsLt_bf16_f32

set_option maxHeartbeats 4000000 in
theorem V6 (c : Dev nD) : V m c main_v6 = w1V (argWg m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V8 (c : Dev nD) : V m c main_v8 = w2V (argWd m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V9 (c : Dev nD) : V m c main_v9 = shapeCast S32768x1024 (argX m c) shapeCasts_S16x2048x1024_S32768x1024 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V12 (c : Dev nD) : V m c main_v12 = yaV (argA m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V15 (c : Dev nD) : V m c main_v15 = ybV (argB m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V18 (c : Dev nD) : V m c main_v18 = ybV (argC m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V26 (c : Dev nD) : V m c main_v26 = gtV (argGt m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V27 (c : Dev nD) : V m c main_v27 = truncf (F := Ideal) .bf16 (argUa m c) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V29 (c : Dev nD) : V m c main_v29 = uV (argUb m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V31 (c : Dev nD) : V m c main_v31 = uV (argUc m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V32 (c : Dev nD) : V m c main_v32 = truncf (F := Ideal) .bf16 (argO m c) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V33 (c : Dev nD) : V m c main_v33 = shapeCast S1x1024 (argG m c) shapeCasts_S1024_S1x1024 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V34 (c : Dev nD) : V m c main_v34 = shapeCast S1x1024 (argGf m c) shapeCasts_S1024_S1x1024 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

end Cert.Proof.Mrg
end
-- ==== Proof.MrgEntry.lean ====
/- The merging kernel's blocks, entry by entry, and its result. -/
module

public import proofs.«01_k».proof.Proof.MrgArr
public import Idealize.ShloMosaic.Lib.Claim

@[expose] public section

set_option maxRecDepth 16384

noncomputable section

namespace Cert.Proof.Mrg

open Cert.Kernel3Ideal Cert.Kernel3Ideal.Gen
open Idealize.ShloMosaic Idealize.ShloMosaic.TcCoe Idealize.ShloMosaic.Tactic
open Idealize.SL.Sem Cert.Proof.Ffn

variable (m : (ℓ : Loc nD τ sig) → Buf (Elt Ideal) ℓ)

theorem w1V_gate (W : FVec Ideal S1024x5632 .f32) (n : Fin 11) (k : Fin 1024) (f : Fin 256) :
    w1V W (ix3 n k ⟨f.val, by omega⟩) = W (ix2 k ⟨n.val * 256 + f.val, by omega⟩) := by
  pointwise [w1V]
theorem w1V_lin (W : FVec Ideal S1024x5632 .f32) (n : Fin 11) (k : Fin 1024) (f : Fin 256) :
    w1V W (ix3 n k ⟨256 + f.val, by omega⟩) = W (ix2 k ⟨2816 + (n.val * 256 + f.val), by omega⟩) := by
  pointwise [w1V]
theorem w2V_at (W : FVec Ideal S2816x1024 .f32) (n : Fin 11) (f : Fin 256) (e : Fin 1024) :
    w2V W (ix3 n f e) = W (ix2 ⟨n.val * 256 + f.val, by omega⟩ e) := by
  pointwise [w2V]
theorem yaV_at (Y : FVec Ideal S16x2048x6x64 .f32) (r : Fin 32768) (j : Fin 384) :
    yaV Y (ix2 r j) = Y (ix4 ⟨r.val / 2048, by omega⟩ ⟨r.val % 2048, by omega⟩ ⟨j.val / 64, by omega⟩ ⟨j.val % 64, by omega⟩) := by
  pointwise [yaV]
theorem ybV_at (Y : FVec Ideal S16x2048x5x64 .f32) (r : Fin 32768) (j : Fin 320) :
    ybV Y (ix2 r ⟨j.val, by omega⟩) = Y (ix4 ⟨r.val / 2048, by omega⟩ ⟨r.val % 2048, by omega⟩ ⟨j.val / 64, by omega⟩ ⟨j.val % 64, by omega⟩) := by
  pointwise [ybV]
theorem ybV_pad (Y : FVec Ideal S16x2048x5x64 .f32) (r : Fin 32768) (j : Fin 384) (hj : 320 ≤ j.val) : ybV Y (ix2 r j) = 0 := by
  pointwise [ybV]
  refine (dif_neg (by omega)).trans ?_
  show (((0#32 : BitVec 32).toInt : ℝ) : EReal) = 0
  simp
theorem gtV_at (G : FVec Ideal S16x2048x3072 .f32) (r : Fin 32768) (j : Fin 3072) :
    gtV G (ix2 r j) = Ideal.logistic (G (ix3 ⟨r.val / 2048, by omega⟩ ⟨r.val % 2048, by omega⟩ j)) := by
  pointwise [gtV]
  rfl
theorem uV_at (U : FVec Ideal S320x1024 .f32) (j : Fin 320) (k : Fin 1024) : uV U (ix2 ⟨j.val, by omega⟩ k) = U (ix2 j k) := by
  pointwise [uV]

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0]
    ∧ win0_10.index t = ![0, 0, 0] ∧ win0_11.index t = ![0, 0, 0] ∧ win0_12.index t = ![0, 0] ∧ win0_13.index t = ![t.val, 0] :=
  (by decide +kernel : ∀ t : Fin grid0.N, _)

theorem tlt (t : Fin cfg0.N) : t.val < 64 := lt_of_lt_of_le t.isLt (by decide +kernel)

/-- The row a grid point's `a`th row is. -/
def rowOf (t : Fin cfg0.N) (a : Fin 512) : Fin 32768 := ⟨t.val * 512 + a.val, by have := tlt t; omega⟩

abbrev bx (c : Dev nD) (t : Fin cfg0.N) : FVec Ideal S512x1024 .f32 := iblk m c 0 t
abbrev bya (c : Dev nD) (t : Fin cfg0.N) : FVec Ideal S512x384 .bf16 := iblk m c 1 t
abbrev byb (c : Dev nD) (t : Fin cfg0.N) : FVec Ideal S512x384 .bf16 := iblk m c 2 t
abbrev byc (c : Dev nD) (t : Fin cfg0.N) : FVec Ideal S512x384 .bf16 := iblk m c 3 t
abbrev bgt (c : Dev nD) (t : Fin cfg0.N) : FVec Ideal S512x3072 .bf16 := iblk m c 4 t
abbrev bua (c : Dev nD) (t : Fin cfg0.N) : FVec Ideal S384x1024 .bf16 := iblk m c 5 t
abbrev bub (c : Dev nD) (t : Fin cfg0.N) : FVec Ideal S384x1024 .bf16 := iblk m c 6 t
abbrev buc (c : Dev nD) (t : Fin cfg0.N) : FVec Ideal S384x1024 .bf16 := iblk m c 7 t
abbrev bo (c : Dev nD) (t : Fin cfg0.N) : FVec Ideal S1024x1024 .bf16 := iblk m c 8 t
abbrev bg (c : Dev nD) (t : Fin cfg0.N) : FVec Ideal S1x1024 .f32 := iblk m c 9 t
abbrev bw1 (c : Dev nD) (t : Fin cfg0.N) : FVec Ideal S11x1024x512 .bf16 := iblk m c 10 t
abbrev bw2 (c : Dev nD) (t : Fin cfg0.N) : FVec Ideal S11x256x1024 .bf16 := iblk m c 11 t
abbrev bgf (c : Dev nD) (t : Fin cfg0.N) : FVec Ideal S1x1024 .f32 := iblk m c 12 t

theorem bx_at (c : Dev nD) (t : Fin cfg0.N) (a : Fin 512) (k : Fin 1024) : bx m c t (ix2 a k) = shapeCast S32768x1024 (argX m c) shapeCasts_S16x2048x1024_S32768x1024 (ix2 (rowOf t a) k) := by
  rw [← V9]
  blk_point [bx, iblk, V, idx t, rowOf]
theorem bya_at (c : Dev nD) (t : Fin cfg0.N) (a : Fin 512) (k : Fin 384) : bya m c t (ix2 a k) = yaV (argA m c) (ix2 (rowOf t a) k) := by
  rw [← V12]
  blk_point [bya, iblk, V, idx t, rowOf]
theorem byb_at (c : Dev nD) (t : Fin cfg0.N) (a : Fin 512) (k : Fin 384) : byb m c t (ix2 a k) = ybV (argB m c) (ix2 (rowOf t a) k) := by
  rw [← V15]
  blk_point [byb, iblk, V, idx t, rowOf]
theorem byc_at (c : Dev nD) (t : Fin cfg0.N) (a : Fin 512) (k : Fin 384) : byc m c t (ix2 a k) = ybV (argC m c) (ix2 (rowOf t a) k) := by
  rw [← V18]
  blk_point [byc, iblk, V, idx t, rowOf]
theorem bgt_at (c : Dev nD) (t : Fin cfg0.N) (a : Fin 512) (k : Fin 3072) : bgt m c t (ix2 a k) = gtV (argGt m c) (ix2 (rowOf t a) k) := by
  rw [← V26]
  blk_point [bgt, iblk, V, idx t, rowOf]
theorem bua_at (c : Dev nD) (t : Fin cfg0.N) (j : Fin 384) (k : Fin 1024) : bua m c t (ix2 j k) = argUa m c (ix2 j k) := by
  refine Eq.trans (b := V m c main_v27 (ix2 j k)) ?_ (by rw [V27]; rfl)
  blk_point [bua, iblk, V, idx t, rowOf]
theorem bub_at (c : Dev nD) (t : Fin cfg0.N) (j : Fin 384) (k : Fin 1024) : bub m c t (ix2 j k) = uV (argUb m c) (ix2 j k) := by
  rw [← V29]
  blk_point [bub, iblk, V, idx t, rowOf]
theorem buc_at (c : Dev nD) (t : Fin cfg0.N) (j : Fin 384) (k : Fin 1024) : buc m c t (ix2 j k) = uV (argUc m c) (ix2 j k) := by
  rw [← V31]
  blk_point [buc, iblk, V, idx t, rowOf]
theorem bo_at (c : Dev nD) (t : Fin cfg0.N) (j : Fin 1024) (k : Fin 1024) : bo m c t (ix2 j k) = argO m c (ix2 j k) := by
  refine Eq.trans (b := V m c main_v32 (ix2 j k)) ?_ (by rw [V32]; rfl)
  blk_point [bo, iblk, V, idx t, rowOf]
theorem bg_at (c : Dev nD) (t : Fin cfg0.N) (k : Fin 1024) : bg m c t (ix2 0 k) = shapeCast S1x1024 (argG m c) shapeCasts_S1024_S1x1024 (ix2 0 k) := by
  rw [← V33]
  blk_point [bg, iblk, V, idx t, rowOf]
theorem bw1_at (c : Dev nD) (t : Fin cfg0.N) (n : Fin 11) (k : Fin 1024) (j : Fin 512) : bw1 m c t (ix3 n k j) = w1V (argWg m c) (ix3 n k j) := by
  rw [← V6]
  blk_point [bw1, iblk, V, idx t, rowOf]
theorem bw2_at (c : Dev nD) (t : Fin cfg0.N) (n : Fin 11) (k : Fin 256) (j : Fin 1024) : bw2 m c t (ix3 n k j) = w2V (argWd m c) (ix3 n k j) := by
  rw [← V8]
  blk_point [bw2, iblk, V, idx t, rowOf]
theorem bgf_at (c : Dev nD) (t : Fin cfg0.N) (k : Fin 1024) : bgf m c t (ix2 0 k) = shapeCast S1x1024 (argGf m c) shapeCasts_S1024_S1x1024 (ix2 0 k) := by
  rw [← V34]
  blk_point [bgf, iblk, V, idx t, rowOf]

theorem xrow (X : FVec Ideal S16x2048x1024 .f32) (r : Fin 32768) (k : Fin 1024) :
    shapeCast S32768x1024 X shapeCasts_S16x2048x1024_S32768x1024 (ix2 r k) = X (ix3 ⟨r.val / 2048, by omega⟩ ⟨r.val % 2048, by omega⟩ k) := by
  pointwise
theorem grow (G : FVec Ideal S1024 .f32) (k : Fin 1024) : shapeCast S1x1024 G shapeCasts_S1024_S1x1024 (ix2 0 k) = G (ix1 k) := by
  pointwise

/-- A padded branch times a padded up-projection is the unpadded product. -/
theorem up_eq (Y : FVec Ideal S16x2048x5x64 .f32) (U : FVec Ideal S320x1024 .f32) (r : Fin 32768) (k : Fin 1024) :
    ∑ j : Fin 384, ybV Y (ix2 r j) * uV U (ix2 j k)
      = ∑ j : Fin 320, Y (ix4 ⟨r.val / 2048, by omega⟩ ⟨r.val % 2048, by omega⟩ ⟨j.val / 64, by omega⟩ ⟨j.val % 64, by omega⟩) * U (ix2 j k) := by
  rw [sum_pad _ fun j hj => by rw [ybV_pad Y r j hj, zero_mul]]
  exact Finset.sum_congr rfl fun j _ => by rw [ybV_at, uV_at]

/-- One row after the merge, over the arguments. -/
def midRes (X : FVec Ideal S16x2048x1024 .f32) (A : FVec Ideal S16x2048x6x64 .f32) (B C : FVec Ideal S16x2048x5x64 .f32) (Gt : FVec Ideal S16x2048x3072 .f32)
    (Ua : FVec Ideal S384x1024 .f32) (Ub Uc : FVec Ideal S320x1024 .f32) (O : FVec Ideal S1024x1024 .f32) (b : Fin 16) (s : Fin 2048) : Fin 1024 → EReal :=
  mrgMid (fun k => X (ix3 b s k)) (fun j => A (ix4 b s ⟨j.val / 64, by omega⟩ ⟨j.val % 64, by omega⟩)) (fun j => B (ix4 b s ⟨j.val / 64, by omega⟩ ⟨j.val % 64, by omega⟩))
    (fun j => C (ix4 b s ⟨j.val / 64, by omega⟩ ⟨j.val % 64, by omega⟩)) (fun j => Gt (ix3 b s j)) (fun j k => Ua (ix2 j k)) (fun j k => Ub (ix2 j k)) (fun j k => Uc (ix2 j k))
    (fun k e => O (ix2 k e))

/-- The result, over the arguments. -/
def mrgRes (X : FVec Ideal S16x2048x1024 .f32) (A : FVec Ideal S16x2048x6x64 .f32) (B C : FVec Ideal S16x2048x5x64 .f32) (Gt : FVec Ideal S16x2048x3072 .f32)
    (Ua : FVec Ideal S384x1024 .f32) (Ub Uc : FVec Ideal S320x1024 .f32) (O : FVec Ideal S1024x1024 .f32) (G : FVec Ideal S1024 .f32)
    (Wg : FVec Ideal S1024x5632 .f32) (Wd : FVec Ideal S2816x1024 .f32) (Gf : FVec Ideal S1024 .f32) : FVec Ideal S32768x1024 .f32 := fun y =>
  mrgEntry (midRes X A B C Gt Ua Ub Uc O ⟨(y 0).val / 2048, by have : (y 0).val < 32768 := (y 0).isLt; omega⟩ ⟨(y 0).val % 2048, by omega⟩)
    (fun k => G (ix1 k)) (fun k => Gf (ix1 k)) (fun k j => Wg (ix2 k j)) (fun f e => Wd (ix2 f e)) (y 1)

theorem mid_at (c : Dev nD) (t : Fin cfg0.N) (a : Fin 512) :
    mid (bx m c t) (bya m c t) (byb m c t) (byc m c t) (bgt m c t) (bua m c t) (bub m c t) (buc m c t) (bo m c t) a
      = midRes (argX m c) (argA m c) (argB m c) (argC m c) (argGt m c) (argUa m c) (argUb m c) (argUc m c) (argO m c)
          ⟨(rowOf t a).val / 2048, by have := (rowOf t a).isLt; omega⟩ ⟨(rowOf t a).val % 2048, by omega⟩ := by
  unfold mid merged midRes mrgMid
  simp only [bx_at, bya_at, byb_at, byc_at, bgt_at, bua_at, bub_at, buc_at, bo_at, xrow, yaV_at, gtV_at, up_eq]

theorem entry_eq (c : Dev nD) (t : Fin cfg0.N) (a : Fin 512) (e : Fin 1024) :
    blockEntry (bx m c t) (bya m c t) (byb m c t) (byc m c t) (bgt m c t) (bua m c t) (bub m c t) (buc m c t) (bo m c t) (bg m c t) (bw1 m c t) (bw2 m c t) (bgf m c t) a e
      = mrgRes (argX m c) (argA m c) (argB m c) (argC m c) (argGt m c) (argUa m c) (argUb m c) (argUc m c) (argO m c) (argG m c) (argWg m c) (argWd m c) (argGf m c) (ix2 (rowOf t a) e) := by
  have hc : ∀ (h : Fin 1024 → EReal) (e : Fin 1024), ∑ n : Fin 11, chunkOf (bw1 m c t) (bw2 m c t) h e n = ffnOut h (fun k j => argWg m c (ix2 k j)) (fun f => argWd m c (ix2 f e)) :=
    fun h e => sum_chunk h (fun k j => argWg m c (ix2 k j)) (fun f => argWd m c (ix2 f e)) _ _
      (fun n k f => (bw1_at m c t n k _).trans (w1V_gate _ n k f)) (fun n k f => (bw1_at m c t n k _).trans (w1V_lin _ n k f))
      (fun n f => (bw2_at m c t n f e).trans (w2V_at _ n f e))
  unfold blockEntry
  simp only [hc, mid_at, bg_at, bgf_at, grow]
  rfl

set_option maxHeartbeats 1000000 in
theorem final (c : Dev nD) : (dats m 0 c).arrAt 13 cfg0.N
    = mrgRes (argX m c) (argA m c) (argB m c) (argC m c) (argGt m c) (argUa m c) (argUb m c) (argUc m c) (argO m c) (argG m c) (argWg m c) (argWd m c) (argGf m c) := by
  refine (dats m 0 c).arrAt_eq_of_covers 13 _ (by decide +kernel) fun t _ y => ?_
  blk_simp
  rw [after0_13]
  rw [outs_apply]
  refine (entry_eq m c t (y 0) (y 1)).trans ?_
  refine congrArg _ ?_
  blk_ext [idx t, rowOf]

end Cert.Proof.Mrg
end
-- ==== Proof.MrgRef.lean ====
/- The merging reference read at an index. -/
module

public import proofs.«01_k».proof.Proof.FfnSpec
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Proof.MrgRef

open Cert.Reference3Ideal Cert.Reference3Ideal.Gen Idealize.ShloMosaic Idealize.ShloMosaic.TcCoe Idealize.SL.Sem Cert.Proof.Ffn

/-- The normalised rows. -/
def nR (X : FVec Ideal S16x2048x1024 .f32) (G : FVec Ideal S1024 .f32) : FVec Ideal S16x2048x1024 .f32 :=
  mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))

/-- The gate and linear halves, side by side. -/
def guR (h : FVec Ideal S16x2048x1024 .f32) (W : FVec Ideal S1024x5632 .f32) : FVec Ideal S16x2048x5632 .f32 :=
  Host.dotGeneral dot_S16x2048x1024_S1024x5632_S16x2048x5632_2_0_01_1_n_n none h W

/-- The hidden units. -/
def hidR (p : FVec Ideal S16x2048x5632 .f32) : FVec Ideal S16x2048x2816 .f32 :=
  mulf (mulf (extractStridedSlice S16x2048x2816 ![0, 0, 0] p slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] p slices_S16x2048x5632_S16x2048x2816_0_0_0)))))) (extractStridedSlice S16x2048x2816 ![0, 0, 2816] p slices_S16x2048x5632_S16x2048x2816_0_0_2816)

/-- The gates after their sigmoid. -/
def gtR (Gt : FVec Ideal S16x2048x3072 .f32) : FVec Ideal S16x2048x3072 .f32 :=
  Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf Gt)))

/-- The first branch projected up. -/
def uaR (A : FVec Ideal S16x2048x6x64 .f32) (U : FVec Ideal S384x1024 .f32) : FVec Ideal S16x2048x1024 .f32 :=
  Host.dotGeneral dot_S16x2048x384_S384x1024_S16x2048x1024_2_0_01_1_n_n none (shapeCast S16x2048x384 A shapeCasts_S16x2048x6x64_S16x2048x384) U

/-- The second or third branch projected up. -/
def ubR (A : FVec Ideal S16x2048x5x64 .f32) (U : FVec Ideal S320x1024 .f32) : FVec Ideal S16x2048x1024 .f32 :=
  Host.dotGeneral dot_S16x2048x320_S320x1024_S16x2048x1024_2_0_01_1_n_n none (shapeCast S16x2048x320 A shapeCasts_S16x2048x5x64_S16x2048x320) U

/-- The gated branches, added up. -/
def mergedR (a b c : FVec Ideal S16x2048x1024 .f32) (t : FVec Ideal S16x2048x3072 .f32) : FVec Ideal S16x2048x1024 .f32 :=
  addf (addf (mulf (extractStridedSlice S16x2048x1024 ![0, 0, 0] t slices_S16x2048x3072_S16x2048x1024_0_0_0) a) (mulf (extractStridedSlice S16x2048x1024 ![0, 0, 1024] t slices_S16x2048x3072_S16x2048x1024_0_0_1024) b)) (mulf (extractStridedSlice S16x2048x1024 ![0, 0, 2048] t slices_S16x2048x3072_S16x2048x1024_0_0_2048) c)

/-- The rows after the output projection. -/
def midR (X M : FVec Ideal S16x2048x1024 .f32) (O : FVec Ideal S1024x1024 .f32) : FVec Ideal S16x2048x1024 .f32 :=
  addf X (Host.dotGeneral dot_S16x2048x1024_S1024x1024_S16x2048x1024_2_0_01_1_n_n none M O)

/-- The rows after the feed-forward block. -/
def ffnR (M : FVec Ideal S16x2048x1024 .f32) (G : FVec Ideal S1024 .f32) (Wg : FVec Ideal S1024x5632 .f32) (Wd : FVec Ideal S2816x1024 .f32) : FVec Ideal S16x2048x1024 .f32 :=
  addf M (mulf (broadcastInDim S16x2048x1024 ![] bcast_S_S16x2048x1024 (constant S_ .f32 0x3F000000#32)) (Host.dotGeneral dot_S16x2048x2816_S2816x1024_S16x2048x1024_2_0_01_1_n_n none (hidR (guR (nR M G) Wg)) Wd))

variable (X : FVec Ideal S16x2048x1024 .f32) (A : FVec Ideal S16x2048x6x64 .f32) (B C : FVec Ideal S16x2048x5x64 .f32) (Gt : FVec Ideal S16x2048x3072 .f32)
  (Ua : FVec Ideal S384x1024 .f32) (Ub Uc : FVec Ideal S320x1024 .f32) (O : FVec Ideal S1024x1024 .f32) (G : FVec Ideal S1024 .f32)
  (Wg : FVec Ideal S1024x5632 .f32) (Wd : FVec Ideal S2816x1024 .f32) (Gf : FVec Ideal S1024 .f32) (b : Fin 16) (s : Fin 2048)

/-- The rows after the merge. -/
def rowsR : FVec Ideal S16x2048x1024 .f32 := midR X (mergedR (uaR A Ua) (ubR B Ub) (ubR C Uc) (gtR Gt)) O

/-- The result. -/
def resR : FVec Ideal S32768x1024 .f32 :=
  shapeCast S32768x1024 (nR (ffnR (rowsR X A B C Gt Ua Ub Uc O) G Wg Wd) Gf) shapeCasts_S16x2048x1024_S32768x1024

theorem nR_at (k : Fin 1024) : nR X G (ix3 b s k) = normRow (fun k => X (ix3 b s k)) (fun k => G (ix1 k)) k := by
  unfold normRow
  pointwise [nR]

theorem guR_at (h : FVec Ideal S16x2048x1024 .f32) (j : Fin 5632) : guR h Wg (ix3 b s j) = ∑ k : Fin 1024, h (ix3 b s k) * Wg (ix2 k j) := by
  pointwise [guR]

theorem hidR_at (p : FVec Ideal S16x2048x5632 .f32) (f : Fin 2816) (w : EReal) :
    hidR p (ix3 b s f) * w = unitOf (p (ix3 b s ⟨f.val, by omega⟩)) (p (ix3 b s ⟨2816 + f.val, by omega⟩)) w := by
  unfold unitOf
  pointwise [hidR]
  rfl

theorem gtR_at (j : Fin 3072) : gtR Gt (ix3 b s j) = Ideal.logistic (Gt (ix3 b s j)) := by
  pointwise [gtR]
  rfl

theorem uaR_at (k : Fin 1024) : uaR A Ua (ix3 b s k) = ∑ j : Fin 384, A (ix4 b s ⟨j.val / 64, by omega⟩ ⟨j.val % 64, by omega⟩) * Ua (ix2 j k) := by
  pointwise [uaR]

theorem ubR_at (k : Fin 1024) : ubR B Ub (ix3 b s k) = ∑ j : Fin 320, B (ix4 b s ⟨j.val / 64, by omega⟩ ⟨j.val % 64, by omega⟩) * Ub (ix2 j k) := by
  pointwise [ubR]

theorem mergedR_at (p q r : FVec Ideal S16x2048x1024 .f32) (k : Fin 1024) :
    mergedR p q r Gt (ix3 b s k) = mergeRow (fun j => Gt (ix3 b s j)) (fun k => p (ix3 b s k)) (fun k => q (ix3 b s k)) (fun k => r (ix3 b s k)) k := by
  unfold mergeRow
  pointwise [mergedR]

theorem midR_at (M : FVec Ideal S16x2048x1024 .f32) (e : Fin 1024) :
    midR X M O (ix3 b s e) = midRow (fun k => X (ix3 b s k)) (fun k => M (ix3 b s k)) (fun k e => O (ix2 k e)) e := by
  unfold midRow
  pointwise [midR]

theorem ffnR_at (e : Fin 1024) : ffnR X G Wg Wd (ix3 b s e)
    = ffnEntry (fun k => X (ix3 b s k)) (fun k => G (ix1 k)) (fun k j => Wg (ix2 k j)) (fun f => Wd (ix2 f e)) e := by
  unfold ffnEntry ffnOut
  pointwise [ffnR]
  simp only [hidR_at, guR_at, nR_at]

theorem rowsR_at (e : Fin 1024) : rowsR X A B C Gt Ua Ub Uc O (ix3 b s e)
    = mrgMid (fun k => X (ix3 b s k)) (fun j => A (ix4 b s ⟨j.val / 64, by omega⟩ ⟨j.val % 64, by omega⟩)) (fun j => B (ix4 b s ⟨j.val / 64, by omega⟩ ⟨j.val % 64, by omega⟩))
        (fun j => C (ix4 b s ⟨j.val / 64, by omega⟩ ⟨j.val % 64, by omega⟩)) (fun j => Gt (ix3 b s j)) (fun j k => Ua (ix2 j k)) (fun j k => Ub (ix2 j k)) (fun j k => Uc (ix2 j k))
        (fun k e => O (ix2 k e)) e := by
  unfold rowsR mrgMid
  simp only [midR_at, mergedR_at, gtR_at, uaR_at, ubR_at]

theorem cast_at (r : Fin 32768) (e : Fin 1024) : shapeCast S32768x1024 X shapeCasts_S16x2048x1024_S32768x1024 (ix2 r e) = X (ix3 ⟨r.val / 2048, by omega⟩ ⟨r.val % 2048, by omega⟩ e) := by
  pointwise

theorem resR_at (r : Fin 32768) (e : Fin 1024) : resR X A B C Gt Ua Ub Uc O G Wg Wd Gf (ix2 r e)
    = mrgEntry (fun e => rowsR X A B C Gt Ua Ub Uc O (ix3 ⟨r.val / 2048, by omega⟩ ⟨r.val % 2048, by omega⟩ e)) (fun k => G (ix1 k)) (fun k => Gf (ix1 k))
        (fun k j => Wg (ix2 k j)) (fun f e => Wd (ix2 f e)) e := by
  unfold resR mrgEntry
  rw [cast_at]
  simp only [nR_at, ffnR_at]

end Cert.Proof.MrgRef
end
-- ==== Proof.MrgClaim.lean ====
/- The claims about the merge, the second feed-forward block and the final normalisation: its runs, and its value against the reference. -/
module

public import proofs.«01_k».proof.Defs
public import proofs.«01_k».proof.Proof.MrgEntry
public import proofs.«01_k».proof.Proof.MrgRef
public import proofs.«01_k».proof.Proof.Gen.Kernel3
public import Idealize.ShloMosaic.Lib.Claim

@[expose] public section

noncomputable section

namespace Cert.Proof.Mrg

open Idealize.ShloMosaic Idealize.SL.Sem

/-- The kernel's body, read over words, is the same text in both programs. -/
theorem body_same : @Cert.Kernel3.cc0_merge_ffn Bits _ Cert.Kernel3.Gen.facts = @Cert.Kernel3Ideal.cc0_merge_ffn Bits _ Cert.Kernel3Ideal.Gen.facts := rfl

set_option maxHeartbeats 4000000 in
theorem table_same : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg Defs.onTc ?_
  funext l a
  match l, a with
  | 0, (t, s) =>
    dsimp only
    rw [body_same]
    rfl

set_option maxHeartbeats 4000000 in
theorem defs_same : Cert.Kernel3.defs (F := Bits) = Cert.Kernel3Ideal.defs (F := Bits) :=
  congrArg (Pipeline.defs (Cert.Kernel3Ideal.pcfgs (F := Bits))) table_same

set_option maxHeartbeats 4000000 in
theorem frame_kernel : Cert.quiescent_Kernel3 := by
  intro m ρ _
  rw [defs_same]
  exact (θ_run Cert.Kernel3Ideal.defs _ _).mono (fun _ h => h) (Cert.Kernel3Ideal.Gen.frame (F := Bits) m ρ)

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

theorem res_eq (X A B C Gt Ua Ub Uc O G Wg Wd Gf) : MrgRef.resR X A B C Gt Ua Ub Uc O G Wg Wd Gf = mrgRes X A B C Gt Ua Ub Uc O G Wg Wd Gf := by
  funext y
  rw [eq_ix2 y]
  refine (MrgRef.resR_at X A B C Gt Ua Ub Uc O G Wg Wd Gf (y 0) (y 1)).trans ?_
  simp only [MrgRef.rowsR_at]
  rfl

/-- The reference's result is the staged one. -/
theorem out_eq (m : (ℓ : Loc Cert.Reference3Ideal.nD Cert.Reference3Ideal.τ Cert.Reference3Ideal.sig) → Buf (Elt Ideal) ℓ) (c : Dev Cert.Reference3Ideal.nD) :
    Cert.Reference3Ideal.Value.res_out0 m c = MrgRef.resR (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) := rfl

set_option maxHeartbeats 4000000 in
theorem value : Cert.algebraic_Kernel3Ideal_Reference3Ideal := by
  pair_intro
  · run_from Cert.Kernel3Ideal.Gen.run_main m g
    · exact Cert.Kernel3Ideal.Gen.V_main_arg0 m c
    · exact Cert.Kernel3Ideal.Gen.V_main_arg1 m c
    · exact Cert.Kernel3Ideal.Gen.V_main_arg2 m c
    · exact Cert.Kernel3Ideal.Gen.V_main_arg3 m c
    · exact Cert.Kernel3Ideal.Gen.V_main_arg4 m c
    · exact Cert.Kernel3Ideal.Gen.V_main_arg5 m c
    · exact Cert.Kernel3Ideal.Gen.V_main_arg6 m c
    · exact Cert.Kernel3Ideal.Gen.V_main_arg7 m c
    · exact Cert.Kernel3Ideal.Gen.V_main_arg8 m c
    · exact Cert.Kernel3Ideal.Gen.V_main_arg9 m c
    · exact Cert.Kernel3Ideal.Gen.V_main_arg10 m c
    · exact Cert.Kernel3Ideal.Gen.V_main_arg11 m c
    · exact Cert.Kernel3Ideal.Gen.V_main_arg12 m c
  · run_from Cert.Reference3Ideal.Value.run m' g'
    obtain ⟨h0, h1, h2, h3, h4, h5, h6, h7, h8, h9, h10, h11, h12⟩ := hagree c
    refine (out_eq m' c).trans ?_
    rw [h0, h1, h2, h3, h4, h5, h6, h7, h8, h9, h10, h11, h12, res_eq]
    exact (final m c).symm

end Cert.Proof.Mrg
end
-- ==== Proof.Mrg4Pay.lean ====
/- The merge kernel's payloads, entry by entry. -/
module

public import proofs.«01_k».proof.Proof.FfnSpec
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Proof.Mrg4

open Cert.Kernel4Ideal Cert.Kernel4Ideal.Gen
open Idealize.ShloMosaic Idealize.ShloMosaic.TcCoe Idealize.ShloMosaic.Tactic Cert.Proof.Ffn

variable (x p : FVec Ideal S512x1024 .f32) (v h : FVec Ideal S512x1024 .bf16) (o : FVec Ideal S1024x1024 .bf16) (g : FVec Ideal S1x1024 .f32)
  (w1 : FVec Ideal S1x1024x512 .bf16) (w2 : FVec Ideal S1x256x1024 .bf16) (s : FVec Ideal S512x1024 .f32) (a : Fin 512) (k e : Fin 1024)

theorem pay3_at (ga gb gc : FVec Ideal S512x1024 .bf16) (ya yb yc : FVec Ideal S512x384 .bf16) (ua ub uc : FVec Ideal S384x1024 .bf16) :
    k0_pay2 (F := Ideal) ga ya ua gb yb ub gc yc uc (ix2 a k)
      = ga (ix2 a k) * (∑ j : Fin 384, ya (ix2 a j) * ua (ix2 j k)) + gb (ix2 a k) * (∑ j : Fin 384, yb (ix2 a j) * ub (ix2 j k))
        + gc (ix2 a k) * (∑ j : Fin 384, yc (ix2 a j) * uc (ix2 j k)) := by
  pointwise [k0_pay2]

theorem pay5_at : k0_pay4 (F := Ideal) (k0_pay1 x) v (k0_pay3 o) (ix2 a e) = midRow (fun e => x (ix2 a e)) (fun k => v (ix2 a k)) (fun k e => o (ix2 k e)) e := by
  unfold midRow
  pointwise [k0_pay4, k0_pay1, k0_pay3]

theorem pay6_at : k0_pay5 (F := Ideal) (k0_pay1 x) v (k0_pay3 o) g (ix2 a k)
    = normRow (midRow (fun e => x (ix2 a e)) (fun k => v (ix2 a k)) (fun k e => o (ix2 k e))) (fun k => g (ix2 0 k)) k := by
  unfold normRow
  pointwise [k0_pay5]
  simp only [pay5_at]

theorem pay12_at : k0_pay11 (F := Ideal) h w1 w2 s (ix2 a e) = s (ix2 a e) + chunk (fun k => h (ix2 a k)) (fun k j => w1 (ix3 0 k j)) (fun f => w2 (ix3 0 f e)) := by
  unfold chunk unitOf
  pointwise [k0_pay11]

theorem pay7_at : k0_pay6 (F := Ideal) (k0_pay1 x) v (k0_pay3 o) g w1 w2 (ix2 a e)
    = chunk (fun k => k0_pay5 (F := Ideal) (k0_pay1 x) v (k0_pay3 o) g (ix2 a k)) (fun k j => w1 (ix3 0 k j)) (fun f => w2 (ix3 0 f e)) := by
  unfold chunk unitOf
  pointwise [k0_pay6]

theorem pay33_at : k0_pay32 (F := Ideal) p s (ix2 a e) = p (ix2 a e) + Ideal.ofBits .f32 0x3F000000#32 * s (ix2 a e) := by
  pointwise [k0_pay32]

theorem pay11_eq : k0_pay10 (F := Ideal) (k0_pay8 (k0_pay1 x) v (k0_pay3 o) g w1) (k0_pay9 (k0_pay1 x) v (k0_pay3 o) g w1) w2 s
    = k0_pay11 (F := Ideal) (k0_pay5 (k0_pay1 x) v (k0_pay3 o) g) w1 w2 s := rfl
theorem pay16_eq : k0_pay15 (F := Ideal) (k0_pay13 h w1) (k0_pay14 h w1) w2 s = k0_pay11 (F := Ideal) h w1 w2 s := rfl
theorem pay21_eq : k0_pay20 (F := Ideal) (k0_pay18 h w1) (k0_pay19 h w1) w2 s = k0_pay11 (F := Ideal) h w1 w2 s := rfl
theorem pay26_eq : k0_pay25 (F := Ideal) (k0_pay23 h w1) (k0_pay24 h w1) w2 s = k0_pay11 (F := Ideal) h w1 w2 s := rfl
theorem pay31_eq : k0_pay30 (F := Ideal) (k0_pay28 h w1) (k0_pay29 h w1) w2 s = k0_pay11 (F := Ideal) h w1 w2 s := rfl
theorem pay17_eq : k0_pay16 (F := Ideal) h w1 w2 s = k0_pay11 (F := Ideal) h w1 w2 s := rfl
theorem pay22_eq : k0_pay21 (F := Ideal) h w1 w2 s = k0_pay11 (F := Ideal) h w1 w2 s := rfl
theorem pay27_eq : k0_pay26 (F := Ideal) h w1 w2 s = k0_pay11 (F := Ideal) h w1 w2 s := rfl
theorem pay32_eq : k0_pay31 (F := Ideal) h w1 w2 s = k0_pay11 (F := Ideal) h w1 w2 s := rfl

variable (W1 : Vec Ideal S11x1024x512 .bf16) (W2 : Vec Ideal S11x256x1024 .bf16) (G : Vec Ideal S512x3072 .bf16)

/-- Chunk `n`'s product at one row and output column, from the whole weights. -/
def chunkOf (h : Fin 1024 → EReal) (e : Fin 1024) (n : Fin 11) : EReal :=
  chunk h (fun k j => W1 (ix3 n k j)) (fun f => W2 (ix3 n f e))

theorem chunk_0 (h : Fin 1024 → EReal) : chunk h (fun k j => (View.ld W1 (Rect.unit ![0, 0, 0] ![1, 1024, 512] inb_S11x1024x512_S1x1024x512_0_0_0) : Vec Ideal S1x1024x512 .bf16) (ix3 0 k j))
    (fun f => (View.ld W2 (Rect.unit ![0, 0, 0] ![1, 256, 1024] inb_S11x256x1024_S1x256x1024_0_0_0) : Vec Ideal S1x256x1024 .bf16) (ix3 0 f e)) = chunkOf W1 W2 h e 0 := by
  refine congrArg₂ (chunk h) (funext fun k => funext fun j => ?_) (funext fun f => ?_)
  · pointwise
  · pointwise

theorem chunk_1 (h : Fin 1024 → EReal) : chunk h (fun k j => (View.ld W1 (Rect.unit ![1, 0, 0] ![1, 1024, 512] inb_S11x1024x512_S1x1024x512_1_0_0) : Vec Ideal S1x1024x512 .bf16) (ix3 0 k j))
    (fun f => (View.ld W2 (Rect.unit ![1, 0, 0] ![1, 256, 1024] inb_S11x256x1024_S1x256x1024_1_0_0) : Vec Ideal S1x256x1024 .bf16) (ix3 0 f e)) = chunkOf W1 W2 h e 1 := by
  refine congrArg₂ (chunk h) (funext fun k => funext fun j => ?_) (funext fun f => ?_)
  · pointwise
  · pointwise

theorem chunk_2 (h : Fin 1024 → EReal) : chunk h (fun k j => (View.ld W1 (Rect.unit ![2, 0, 0] ![1, 1024, 512] inb_S11x1024x512_S1x1024x512_2_0_0) : Vec Ideal S1x1024x512 .bf16) (ix3 0 k j))
    (fun f => (View.ld W2 (Rect.unit ![2, 0, 0] ![1, 256, 1024] inb_S11x256x1024_S1x256x1024_2_0_0) : Vec Ideal S1x256x1024 .bf16) (ix3 0 f e)) = chunkOf W1 W2 h e 2 := by
  refine congrArg₂ (chunk h) (funext fun k => funext fun j => ?_) (funext fun f => ?_)
  · pointwise
  · pointwise

theorem chunk_3 (h : Fin 1024 → EReal) : chunk h (fun k j => (View.ld W1 (Rect.unit ![3, 0, 0] ![1, 1024, 512] inb_S11x1024x512_S1x1024x512_3_0_0) : Vec Ideal S1x1024x512 .bf16) (ix3 0 k j))
    (fun f => (View.ld W2 (Rect.unit ![3, 0, 0] ![1, 256, 1024] inb_S11x256x1024_S1x256x1024_3_0_0) : Vec Ideal S1x256x1024 .bf16) (ix3 0 f e)) = chunkOf W1 W2 h e 3 := by
  refine congrArg₂ (chunk h) (funext fun k => funext fun j => ?_) (funext fun f => ?_)
  · pointwise
  · pointwise

theorem chunk_4 (h : Fin 1024 → EReal) : chunk h (fun k j => (View.ld W1 (Rect.unit ![4, 0, 0] ![1, 1024, 512] inb_S11x1024x512_S1x1024x512_4_0_0) : Vec Ideal S1x1024x512 .bf16) (ix3 0 k j))
    (fun f => (View.ld W2 (Rect.unit ![4, 0, 0] ![1, 256, 1024] inb_S11x256x1024_S1x256x1024_4_0_0) : Vec Ideal S1x256x1024 .bf16) (ix3 0 f e)) = chunkOf W1 W2 h e 4 := by
  refine congrArg₂ (chunk h) (funext fun k => funext fun j => ?_) (funext fun f => ?_)
  · pointwise
  · pointwise

theorem chunk_5 (h : Fin 1024 → EReal) : chunk h (fun k j => (View.ld W1 (Rect.unit ![5, 0, 0] ![1, 1024, 512] inb_S11x1024x512_S1x1024x512_5_0_0) : Vec Ideal S1x1024x512 .bf16) (ix3 0 k j))
    (fun f => (View.ld W2 (Rect.unit ![5, 0, 0] ![1, 256, 1024] inb_S11x256x1024_S1x256x1024_5_0_0) : Vec Ideal S1x256x1024 .bf16) (ix3 0 f e)) = chunkOf W1 W2 h e 5 := by
  refine congrArg₂ (chunk h) (funext fun k => funext fun j => ?_) (funext fun f => ?_)
  · pointwise
  · pointwise

theorem chunk_6 (h : Fin 1024 → EReal) : chunk h (fun k j => (View.ld W1 (Rect.unit ![6, 0, 0] ![1, 1024, 512] inb_S11x1024x512_S1x1024x512_6_0_0) : Vec Ideal S1x1024x512 .bf16) (ix3 0 k j))
    (fun f => (View.ld W2 (Rect.unit ![6, 0, 0] ![1, 256, 1024] inb_S11x256x1024_S1x256x1024_6_0_0) : Vec Ideal S1x256x1024 .bf16) (ix3 0 f e)) = chunkOf W1 W2 h e 6 := by
  refine congrArg₂ (chunk h) (funext fun k => funext fun j => ?_) (funext fun f => ?_)
  · pointwise
  · pointwise

theorem chunk_7 (h : Fin 1024 → EReal) : chunk h (fun k j => (View.ld W1 (Rect.unit ![7, 0, 0] ![1, 1024, 512] inb_S11x1024x512_S1x1024x512_7_0_0) : Vec Ideal S1x1024x512 .bf16) (ix3 0 k j))
    (fun f => (View.ld W2 (Rect.unit ![7, 0, 0] ![1, 256, 1024] inb_S11x256x1024_S1x256x1024_7_0_0) : Vec Ideal S1x256x1024 .bf16) (ix3 0 f e)) = chunkOf W1 W2 h e 7 := by
  refine congrArg₂ (chunk h) (funext fun k => funext fun j => ?_) (funext fun f => ?_)
  · pointwise
  · pointwise

theorem chunk_8 (h : Fin 1024 → EReal) : chunk h (fun k j => (View.ld W1 (Rect.unit ![8, 0, 0] ![1, 1024, 512] inb_S11x1024x512_S1x1024x512_8_0_0) : Vec Ideal S1x1024x512 .bf16) (ix3 0 k j))
    (fun f => (View.ld W2 (Rect.unit ![8, 0, 0] ![1, 256, 1024] inb_S11x256x1024_S1x256x1024_8_0_0) : Vec Ideal S1x256x1024 .bf16) (ix3 0 f e)) = chunkOf W1 W2 h e 8 := by
  refine congrArg₂ (chunk h) (funext fun k => funext fun j => ?_) (funext fun f => ?_)
  · pointwise
  · pointwise

theorem chunk_9 (h : Fin 1024 → EReal) : chunk h (fun k j => (View.ld W1 (Rect.unit ![9, 0, 0] ![1, 1024, 512] inb_S11x1024x512_S1x1024x512_9_0_0) : Vec Ideal S1x1024x512 .bf16) (ix3 0 k j))
    (fun f => (View.ld W2 (Rect.unit ![9, 0, 0] ![1, 256, 1024] inb_S11x256x1024_S1x256x1024_9_0_0) : Vec Ideal S1x256x1024 .bf16) (ix3 0 f e)) = chunkOf W1 W2 h e 9 := by
  refine congrArg₂ (chunk h) (funext fun k => funext fun j => ?_) (funext fun f => ?_)
  · pointwise
  · pointwise

theorem chunk_10 (h : Fin 1024 → EReal) : chunk h (fun k j => (View.ld W1 (Rect.unit ![10, 0, 0] ![1, 1024, 512] inb_S11x1024x512_S1x1024x512_10_0_0) : Vec Ideal S1x1024x512 .bf16) (ix3 0 k j))
    (fun f => (View.ld W2 (Rect.unit ![10, 0, 0] ![1, 256, 1024] inb_S11x256x1024_S1x256x1024_10_0_0) : Vec Ideal S1x256x1024 .bf16) (ix3 0 f e)) = chunkOf W1 W2 h e 10 := by
  refine congrArg₂ (chunk h) (funext fun k => funext fun j => ?_) (funext fun f => ?_)
  · pointwise
  · pointwise

theorem ldg_0 : (View.ld G (Rect.unit ![0, 0] ![512, 1024] inb_S512x3072_S512x1024_0_0) : Vec Ideal S512x1024 .bf16) (ix2 a k) = G (ix2 a ⟨k.val, by omega⟩) := by
  pointwise

theorem ldg_1 : (View.ld G (Rect.unit ![0, 1024] ![512, 1024] inb_S512x3072_S512x1024_0_1024) : Vec Ideal S512x1024 .bf16) (ix2 a k) = G (ix2 a ⟨1024 + k.val, by omega⟩) := by
  pointwise

theorem ldg_2 : (View.ld G (Rect.unit ![0, 2048] ![512, 1024] inb_S512x3072_S512x1024_0_2048) : Vec Ideal S512x1024 .bf16) (ix2 a k) = G (ix2 a ⟨2048 + k.val, by omega⟩) := by
  pointwise

/-- A sum of eleven terms. -/
theorem sum11 (F : Fin 11 → EReal) : ∑ n : Fin 11, F n = F 0 + F 1 + F 2 + F 3 + F 4 + F 5 + F 6 + F 7 + F 8 + F 9 + F 10 := by
  simp only [Fin.sum_univ_castSucc, Fin.sum_univ_zero, zero_add]
  rfl

/-- One merged entry, over a grid point's blocks. -/
def merged (ya yb yc : FVec Ideal S512x384 .bf16) (G : FVec Ideal S512x3072 .bf16) (ua ub uc : FVec Ideal S384x1024 .bf16) (a : Fin 512) : Fin 1024 → EReal :=
  mergeRow (fun j => G (ix2 a j)) (fun k => ∑ j : Fin 384, ya (ix2 a j) * ua (ix2 j k)) (fun k => ∑ j : Fin 384, yb (ix2 a j) * ub (ix2 j k)) (fun k => ∑ j : Fin 384, yc (ix2 a j) * uc (ix2 j k))

/-- One row after the output projection, over a grid point's blocks. -/
def mid (x : FVec Ideal S512x1024 .f32) (ya yb yc : FVec Ideal S512x384 .bf16) (G : FVec Ideal S512x3072 .bf16) (ua ub uc : FVec Ideal S384x1024 .bf16)
    (o : FVec Ideal S1024x1024 .bf16) (a : Fin 512) : Fin 1024 → EReal :=
  midRow (fun e => x (ix2 a e)) (merged ya yb yc G ua ub uc a) (fun k e => o (ix2 k e))

theorem mid_eq (x : FVec Ideal S512x1024 .f32) (ya yb yc : FVec Ideal S512x384 .bf16) (G : Vec Ideal S512x3072 .bf16) (ua ub uc : FVec Ideal S384x1024 .bf16)
    (o : FVec Ideal S1024x1024 .bf16) :
    midRow (fun e => x (ix2 a e)) (fun k =>
      (View.ld G (Rect.unit ![0, 0] ![512, 1024] inb_S512x3072_S512x1024_0_0) : FVec Ideal S512x1024 .bf16) (ix2 a k) * (∑ j : Fin 384, ya (ix2 a j) * ua (ix2 j k))
      + (View.ld G (Rect.unit ![0, 1024] ![512, 1024] inb_S512x3072_S512x1024_0_1024) : FVec Ideal S512x1024 .bf16) (ix2 a k) * (∑ j : Fin 384, yb (ix2 a j) * ub (ix2 j k))
      + (View.ld G (Rect.unit ![0, 2048] ![512, 1024] inb_S512x3072_S512x1024_0_2048) : FVec Ideal S512x1024 .bf16) (ix2 a k) * (∑ j : Fin 384, yc (ix2 a j) * uc (ix2 j k)))
      (fun k e => o (ix2 k e)) = mid x ya yb yc G ua ub uc o a := by
  unfold mid merged
  refine congrArg (fun M => midRow _ M _) (funext fun k => ?_)
  exact congrArg₂ (· + ·) (congrArg₂ (· + ·) (congrArg (· * _) (ldg_0 a k G)) (congrArg (· * _) (ldg_1 a k G))) (congrArg (· * _) (ldg_2 a k G))

/-- One entry of the block a grid point stores. -/
def blockEntry (x : FVec Ideal S512x1024 .f32) (ya yb yc : FVec Ideal S512x384 .bf16) (G : FVec Ideal S512x3072 .bf16) (ua ub uc : FVec Ideal S384x1024 .bf16)
    (o : FVec Ideal S1024x1024 .bf16) (g : FVec Ideal S1x1024 .f32) (W1 : Vec Ideal S11x1024x512 .bf16) (W2 : Vec Ideal S11x256x1024 .bf16) (gf : FVec Ideal S1x1024 .f32) (a : Fin 512) (e : Fin 1024) : EReal :=
  mid x ya yb yc G ua ub uc o a e + Ideal.ofBits .f32 0x3F000000#32 * ∑ n : Fin 11, chunkOf W1 W2 (normRow (mid x ya yb yc G ua ub uc o a) (fun k => g (ix2 0 k))) e n

variable (m : (ℓ : Loc nD τ sig) → Buf (Elt Ideal) ℓ)

set_option maxHeartbeats 4000000 in
theorem outs_at (c : Dev nD) (t : Fin cfg0.N) (a : Fin 512) (e : Fin 1024) :
    outsAt0 m c t (ix2 a e) = blockEntry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) a e := by
  unfold outsAt0
  frame_out
  generalize (iblk m c 0 t) = x0
  generalize (iblk m c 1 t) = x1
  generalize (iblk m c 2 t) = x2
  generalize (iblk m c 3 t) = x3
  generalize (iblk m c 4 t) = x4
  generalize (iblk m c 5 t) = x5
  generalize (iblk m c 6 t) = x6
  generalize (iblk m c 7 t) = x7
  generalize (iblk m c 8 t) = x8
  generalize (iblk m c 9 t) = x9
  generalize (iblk m c 10 t) = x10
  generalize (iblk m c 11 t) = x11
  generalize (iblk m c 12 t) = x12
  simp only [pay11_eq, pay16_eq, pay17_eq, pay21_eq, pay22_eq, pay26_eq, pay27_eq, pay31_eq, pay32_eq]
  unfold blockEntry
  simp only [pay33_at, pay12_at, pay7_at, pay6_at, pay5_at, pay3_at, ldg_0, ldg_1, ldg_2, chunk_0, chunk_1, chunk_2, chunk_3, chunk_4, chunk_5, chunk_6, chunk_7, chunk_8, chunk_9, chunk_10]
  simp only [sum11]
  refine Eq.trans ?_ (congrArg (fun M : Fin 1024 → EReal => M e + Ideal.ofBits .f32 0x3F000000#32 * (chunkOf x10 x11 (normRow M fun k => x9 (ix2 0 k)) e 0 + chunkOf x10 x11 (normRow M fun k => x9 (ix2 0 k)) e 1 + chunkOf x10 x11 (normRow M fun k => x9 (ix2 0 k)) e 2 + chunkOf x10 x11 (normRow M fun k => x9 (ix2 0 k)) e 3 + chunkOf x10 x11 (normRow M fun k => x9 (ix2 0 k)) e 4 + chunkOf x10 x11 (normRow M fun k => x9 (ix2 0 k)) e 5 + chunkOf x10 x11 (normRow M fun k => x9 (ix2 0 k)) e 6 + chunkOf x10 x11 (normRow M fun k => x9 (ix2 0 k)) e 7 + chunkOf x10 x11 (normRow M fun k => x9 (ix2 0 k)) e 8 + chunkOf x10 x11 (normRow M fun k => x9 (ix2 0 k)) e 9 + chunkOf x10 x11 (normRow M fun k => x9 (ix2 0 k)) e 10)) (mid_eq a x0 x1 x2 x3 x4 x5 x6 x7 x8))
  rfl

theorem outs_apply (c : Dev nD) (t : Fin cfg0.N) (y : S512x1024.Idx) :
    outsAt0 m c t y = blockEntry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (y 0) (y 1) := by
  rw [eq_ix2 y]
  exact outs_at m c t (y 0) (y 1)

end Cert.Proof.Mrg4
end
-- ==== Proof.Mrg4Arr.lean ====
/- The arrays the merging kernel is given, entry by entry, and its result. -/
module

public import proofs.«01_k».proof.Proof.Mrg4Pay
public import Idealize.ShloMosaic.Lib.Claim

@[expose] public section

set_option maxRecDepth 16384

noncomputable section

namespace Cert.Proof.Mrg4

open Cert.Kernel4Ideal Cert.Kernel4Ideal.Gen
open Idealize.ShloMosaic Idealize.ShloMosaic.TcCoe Idealize.ShloMosaic.Tactic
open Idealize.SL.Sem Cert.Proof.Ffn

variable (m : (ℓ : Loc nD τ sig) → Buf (Elt Ideal) ℓ)

/-- The hidden states. -/
abbrev argX (c : Dev nD) : FVec Ideal S16x2048x1024 .f32 := m ((c : Thread nD τ).loc main_arg0)
/-- The first branch: the forgetting attention's outputs. -/
abbrev argA (c : Dev nD) : FVec Ideal S16x2048x6x64 .f32 := m ((c : Thread nD τ).loc main_arg1)
/-- The second branch: the stick-breaking attention's outputs. -/
abbrev argB (c : Dev nD) : FVec Ideal S16x2048x5x64 .f32 := m ((c : Thread nD τ).loc main_arg2)
/-- The third branch: the sparse attention's outputs. -/
abbrev argC (c : Dev nD) : FVec Ideal S16x2048x5x64 .f32 := m ((c : Thread nD τ).loc main_arg3)
/-- The gates, before their sigmoid. -/
abbrev argGt (c : Dev nD) : FVec Ideal S16x2048x3072 .f32 := m ((c : Thread nD τ).loc main_arg4)
/-- The first branch's up-projection. -/
abbrev argUa (c : Dev nD) : FVec Ideal S384x1024 .f32 := m ((c : Thread nD τ).loc main_arg5)
/-- The second branch's up-projection. -/
abbrev argUb (c : Dev nD) : FVec Ideal S320x1024 .f32 := m ((c : Thread nD τ).loc main_arg6)
/-- The third branch's up-projection. -/
abbrev argUc (c : Dev nD) : FVec Ideal S320x1024 .f32 := m ((c : Thread nD τ).loc main_arg7)
/-- The output projection. -/
abbrev argO (c : Dev nD) : FVec Ideal S1024x1024 .f32 := m ((c : Thread nD τ).loc main_arg8)
/-- The normalisation's weights. -/
abbrev argG (c : Dev nD) : FVec Ideal S1024 .f32 := m ((c : Thread nD τ).loc main_arg9)
/-- The gate and linear weights, side by side. -/
abbrev argWg (c : Dev nD) : FVec Ideal S1024x5632 .f32 := m ((c : Thread nD τ).loc main_arg10)
/-- The output weights. -/
abbrev argWd (c : Dev nD) : FVec Ideal S2816x1024 .f32 := m ((c : Thread nD τ).loc main_arg11)
/-- The final normalisation's weights. -/
abbrev argGf (c : Dev nD) : FVec Ideal S1024 .f32 := m ((c : Thread nD τ).loc main_arg12)

/-- The gate and linear weights the kernel is given: chunk by chunk, the gate's 256 columns and then the linear half's. -/
def w1V (W : FVec Ideal S1024x5632 .f32) : FVec Ideal S11x1024x512 .bf16 :=
  truncf .bf16 (transpose S11x1024x512 [1, 0, 2] (concatenate S1024x11x512 2
    [⟨S1024x11x256, shapeCast S1024x11x256 (extractStridedSlice S1024x2816 ![0, 0] W slices_S1024x5632_S1024x2816_0_0) shapeCasts_S1024x2816_S1024x11x256⟩,
     ⟨S1024x11x256, shapeCast S1024x11x256 (extractStridedSlice S1024x2816 ![0, 2816] W slices_S1024x5632_S1024x2816_0_2816) shapeCasts_S1024x2816_S1024x11x256⟩]
    concatenates_S1024x11x256_S1024x11x256_S1024x11x512_d2) transposes_S1024x11x512_S11x1024x512_1_0_2) bitsLt_bf16_f32

/-- The output weights the kernel is given, chunk by chunk. -/
def w2V (W : FVec Ideal S2816x1024 .f32) : FVec Ideal S11x256x1024 .bf16 :=
  truncf .bf16 (shapeCast S11x256x1024 W shapeCasts_S2816x1024_S11x256x1024) bitsLt_bf16_f32

/-- The first branch as the kernel is given it. -/
def yaV (Y : FVec Ideal S16x2048x6x64 .f32) : FVec Ideal S32768x384 .bf16 :=
  truncf .bf16 (pad S32768x384 ![0, 0] ![0, 0] ![0, 0] (shapeCast S32768x384 Y shapeCasts_S16x2048x6x64_S32768x384)
    (sitofp (F := Ideal) .f32 (constantI S_ 32 0#32)) pads_S32768x384_S32768x384_000_000 h_S_) bitsLt_bf16_f32

/-- The second or third branch as the kernel is given it, padded to 384 columns. -/
def ybV (Y : FVec Ideal S16x2048x5x64 .f32) : FVec Ideal S32768x384 .bf16 :=
  truncf .bf16 (pad S32768x384 ![0, 0] ![0, 64] ![0, 0] (shapeCast S32768x320 Y shapeCasts_S16x2048x5x64_S32768x320)
    (sitofp (F := Ideal) .f32 (constantI S_ 32 0#32)) pads_S32768x320_S32768x384_000_0640 h_S_) bitsLt_bf16_f32

/-- The gates as the kernel is given them. -/
def gtV (G : FVec Ideal S16x2048x3072 .f32) : FVec Ideal S32768x3072 .bf16 :=
  truncf .bf16 (Host.divf (broadcastInDim S32768x3072 ![] bcast_S_S32768x3072 (constant (F := Ideal) S_ .f32 0x3F800000#32))
    (addf (broadcastInDim S32768x3072 ![] bcast_S_S32768x3072 (constant (F := Ideal) S_ .f32 0x3F800000#32))
      (Host.exp (Host.negf (shapeCast S32768x3072 G shapeCasts_S16x2048x3072_S32768x3072))))) bitsLt_bf16_f32

/-- An up-projection as the kernel is given it, padded to 384 rows. -/
def uV (U : FVec Ideal S320x1024 .f32) : FVec Ideal S384x1024 .bf16 :=
  truncf .bf16 (pad S384x1024 ![0, 0] ![64, 0] ![0, 0] U (sitofp (F := Ideal) .f32 (constantI S_ 32 0#32)) pads_S320x1024_S384x1024_0640_000 h_S_) bitsLt_bf16_f32

set_option maxHeartbeats 4000000 in
theorem V6 (c : Dev nD) : V m c main_v6 = w1V (argWg m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V8 (c : Dev nD) : V m c main_v8 = w2V (argWd m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V9 (c : Dev nD) : V m c main_v9 = shapeCast S32768x1024 (argX m c) shapeCasts_S16x2048x1024_S32768x1024 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V12 (c : Dev nD) : V m c main_v12 = yaV (argA m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V15 (c : Dev nD) : V m c main_v15 = ybV (argB m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V18 (c : Dev nD) : V m c main_v18 = ybV (argC m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V26 (c : Dev nD) : V m c main_v26 = gtV (argGt m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V27 (c : Dev nD) : V m c main_v27 = truncf (F := Ideal) .bf16 (argUa m c) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V29 (c : Dev nD) : V m c main_v29 = uV (argUb m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V31 (c : Dev nD) : V m c main_v31 = uV (argUc m c) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V32 (c : Dev nD) : V m c main_v32 = truncf (F := Ideal) .bf16 (argO m c) bitsLt_bf16_f32 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V33 (c : Dev nD) : V m c main_v33 = shapeCast S1x1024 (argG m c) shapeCasts_S1024_S1x1024 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V34 (c : Dev nD) : V m c main_v34 = shapeCast S1x1024 (argGf m c) shapeCasts_S1024_S1x1024 := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

end Cert.Proof.Mrg4
end
-- ==== Proof.Mrg4Entry.lean ====
/- The merging kernel's blocks, entry by entry, and its result. -/
module

public import proofs.«01_k».proof.Proof.Mrg4Arr
public import Idealize.ShloMosaic.Lib.Claim

@[expose] public section

set_option maxRecDepth 16384

noncomputable section

namespace Cert.Proof.Mrg4

open Cert.Kernel4Ideal Cert.Kernel4Ideal.Gen
open Idealize.ShloMosaic Idealize.ShloMosaic.TcCoe Idealize.ShloMosaic.Tactic
open Idealize.SL.Sem Cert.Proof.Ffn

variable (m : (ℓ : Loc nD τ sig) → Buf (Elt Ideal) ℓ)

theorem w1V_gate (W : FVec Ideal S1024x5632 .f32) (n : Fin 11) (k : Fin 1024) (f : Fin 256) :
    w1V W (ix3 n k ⟨f.val, by omega⟩) = W (ix2 k ⟨n.val * 256 + f.val, by omega⟩) := by
  pointwise [w1V]
theorem w1V_lin (W : FVec Ideal S1024x5632 .f32) (n : Fin 11) (k : Fin 1024) (f : Fin 256) :
    w1V W (ix3 n k ⟨256 + f.val, by omega⟩) = W (ix2 k ⟨2816 + (n.val * 256 + f.val), by omega⟩) := by
  pointwise [w1V]
theorem w2V_at (W : FVec Ideal S2816x1024 .f32) (n : Fin 11) (f : Fin 256) (e : Fin 1024) :
    w2V W (ix3 n f e) = W (ix2 ⟨n.val * 256 + f.val, by omega⟩ e) := by
  pointwise [w2V]
theorem yaV_at (Y : FVec Ideal S16x2048x6x64 .f32) (r : Fin 32768) (j : Fin 384) :
    yaV Y (ix2 r j) = Y (ix4 ⟨r.val / 2048, by omega⟩ ⟨r.val % 2048, by omega⟩ ⟨j.val / 64, by omega⟩ ⟨j.val % 64, by omega⟩) := by
  pointwise [yaV]
theorem ybV_at (Y : FVec Ideal S16x2048x5x64 .f32) (r : Fin 32768) (j : Fin 320) :
    ybV Y (ix2 r ⟨j.val, by omega⟩) = Y (ix4 ⟨r.val / 2048, by omega⟩ ⟨r.val % 2048, by omega⟩ ⟨j.val / 64, by omega⟩ ⟨j.val % 64, by omega⟩) := by
  pointwise [ybV]
theorem ybV_pad (Y : FVec Ideal S16x2048x5x64 .f32) (r : Fin 32768) (j : Fin 384) (hj : 320 ≤ j.val) : ybV Y (ix2 r j) = 0 := by
  pointwise [ybV]
  refine (dif_neg (by omega)).trans ?_
  show (((0#32 : BitVec 32).toInt : ℝ) : EReal) = 0
  simp
theorem gtV_at (G : FVec Ideal S16x2048x3072 .f32) (r : Fin 32768) (j : Fin 3072) :
    gtV G (ix2 r j) = Ideal.logistic (G (ix3 ⟨r.val / 2048, by omega⟩ ⟨r.val % 2048, by omega⟩ j)) := by
  pointwise [gtV]
  rfl
theorem uV_at (U : FVec Ideal S320x1024 .f32) (j : Fin 320) (k : Fin 1024) : uV U (ix2 ⟨j.val, by omega⟩ k) = U (ix2 j k) := by
  pointwise [uV]

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0] ∧ win0_9.index t = ![0, 0]
    ∧ win0_10.index t = ![0, 0, 0] ∧ win0_11.index t = ![0, 0, 0] ∧ win0_12.index t = ![0, 0] ∧ win0_13.index t = ![t.val, 0] :=
  (by decide +kernel : ∀ t : Fin grid0.N, _)

theorem tlt (t : Fin cfg0.N) : t.val < 64 := lt_of_lt_of_le t.isLt (by decide +kernel)

/-- The row a grid point's `a`th row is. -/
def rowOf (t : Fin cfg0.N) (a : Fin 512) : Fin 32768 := ⟨t.val * 512 + a.val, by have := tlt t; omega⟩

abbrev bx (c : Dev nD) (t : Fin cfg0.N) : FVec Ideal S512x1024 .f32 := iblk m c 0 t
abbrev bya (c : Dev nD) (t : Fin cfg0.N) : FVec Ideal S512x384 .bf16 := iblk m c 1 t
abbrev byb (c : Dev nD) (t : Fin cfg0.N) : FVec Ideal S512x384 .bf16 := iblk m c 2 t
abbrev byc (c : Dev nD) (t : Fin cfg0.N) : FVec Ideal S512x384 .bf16 := iblk m c 3 t
abbrev bgt (c : Dev nD) (t : Fin cfg0.N) : FVec Ideal S512x3072 .bf16 := iblk m c 4 t
abbrev bua (c : Dev nD) (t : Fin cfg0.N) : FVec Ideal S384x1024 .bf16 := iblk m c 5 t
abbrev bub (c : Dev nD) (t : Fin cfg0.N) : FVec Ideal S384x1024 .bf16 := iblk m c 6 t
abbrev buc (c : Dev nD) (t : Fin cfg0.N) : FVec Ideal S384x1024 .bf16 := iblk m c 7 t
abbrev bo (c : Dev nD) (t : Fin cfg0.N) : FVec Ideal S1024x1024 .bf16 := iblk m c 8 t
abbrev bg (c : Dev nD) (t : Fin cfg0.N) : FVec Ideal S1x1024 .f32 := iblk m c 9 t
abbrev bw1 (c : Dev nD) (t : Fin cfg0.N) : FVec Ideal S11x1024x512 .bf16 := iblk m c 10 t
abbrev bw2 (c : Dev nD) (t : Fin cfg0.N) : FVec Ideal S11x256x1024 .bf16 := iblk m c 11 t
abbrev bgf (c : Dev nD) (t : Fin cfg0.N) : FVec Ideal S1x1024 .f32 := iblk m c 12 t

theorem bx_at (c : Dev nD) (t : Fin cfg0.N) (a : Fin 512) (k : Fin 1024) : bx m c t (ix2 a k) = shapeCast S32768x1024 (argX m c) shapeCasts_S16x2048x1024_S32768x1024 (ix2 (rowOf t a) k) := by
  rw [← V9]
  blk_point [bx, iblk, V, idx t, rowOf]
theorem bya_at (c : Dev nD) (t : Fin cfg0.N) (a : Fin 512) (k : Fin 384) : bya m c t (ix2 a k) = yaV (argA m c) (ix2 (rowOf t a) k) := by
  rw [← V12]
  blk_point [bya, iblk, V, idx t, rowOf]
theorem byb_at (c : Dev nD) (t : Fin cfg0.N) (a : Fin 512) (k : Fin 384) : byb m c t (ix2 a k) = ybV (argB m c) (ix2 (rowOf t a) k) := by
  rw [← V15]
  blk_point [byb, iblk, V, idx t, rowOf]
theorem byc_at (c : Dev nD) (t : Fin cfg0.N) (a : Fin 512) (k : Fin 384) : byc m c t (ix2 a k) = ybV (argC m c) (ix2 (rowOf t a) k) := by
  rw [← V18]
  blk_point [byc, iblk, V, idx t, rowOf]
theorem bgt_at (c : Dev nD) (t : Fin cfg0.N) (a : Fin 512) (k : Fin 3072) : bgt m c t (ix2 a k) = gtV (argGt m c) (ix2 (rowOf t a) k) := by
  rw [← V26]
  blk_point [bgt, iblk, V, idx t, rowOf]
theorem bua_at (c : Dev nD) (t : Fin cfg0.N) (j : Fin 384) (k : Fin 1024) : bua m c t (ix2 j k) = argUa m c (ix2 j k) := by
  refine Eq.trans (b := V m c main_v27 (ix2 j k)) ?_ (by rw [V27]; rfl)
  blk_point [bua, iblk, V, idx t, rowOf]
theorem bub_at (c : Dev nD) (t : Fin cfg0.N) (j : Fin 384) (k : Fin 1024) : bub m c t (ix2 j k) = uV (argUb m c) (ix2 j k) := by
  rw [← V29]
  blk_point [bub, iblk, V, idx t, rowOf]
theorem buc_at (c : Dev nD) (t : Fin cfg0.N) (j : Fin 384) (k : Fin 1024) : buc m c t (ix2 j k) = uV (argUc m c) (ix2 j k) := by
  rw [← V31]
  blk_point [buc, iblk, V, idx t, rowOf]
theorem bo_at (c : Dev nD) (t : Fin cfg0.N) (j : Fin 1024) (k : Fin 1024) : bo m c t (ix2 j k) = argO m c (ix2 j k) := by
  refine Eq.trans (b := V m c main_v32 (ix2 j k)) ?_ (by rw [V32]; rfl)
  blk_point [bo, iblk, V, idx t, rowOf]
theorem bg_at (c : Dev nD) (t : Fin cfg0.N) (k : Fin 1024) : bg m c t (ix2 0 k) = shapeCast S1x1024 (argG m c) shapeCasts_S1024_S1x1024 (ix2 0 k) := by
  rw [← V33]
  blk_point [bg, iblk, V, idx t, rowOf]
theorem bw1_at (c : Dev nD) (t : Fin cfg0.N) (n : Fin 11) (k : Fin 1024) (j : Fin 512) : bw1 m c t (ix3 n k j) = w1V (argWg m c) (ix3 n k j) := by
  rw [← V6]
  blk_point [bw1, iblk, V, idx t, rowOf]
theorem bw2_at (c : Dev nD) (t : Fin cfg0.N) (n : Fin 11) (k : Fin 256) (j : Fin 1024) : bw2 m c t (ix3 n k j) = w2V (argWd m c) (ix3 n k j) := by
  rw [← V8]
  blk_point [bw2, iblk, V, idx t, rowOf]
theorem bgf_at (c : Dev nD) (t : Fin cfg0.N) (k : Fin 1024) : bgf m c t (ix2 0 k) = shapeCast S1x1024 (argGf m c) shapeCasts_S1024_S1x1024 (ix2 0 k) := by
  rw [← V34]
  blk_point [bgf, iblk, V, idx t, rowOf]

theorem xrow (X : FVec Ideal S16x2048x1024 .f32) (r : Fin 32768) (k : Fin 1024) :
    shapeCast S32768x1024 X shapeCasts_S16x2048x1024_S32768x1024 (ix2 r k) = X (ix3 ⟨r.val / 2048, by omega⟩ ⟨r.val % 2048, by omega⟩ k) := by
  pointwise
theorem grow (G : FVec Ideal S1024 .f32) (k : Fin 1024) : shapeCast S1x1024 G shapeCasts_S1024_S1x1024 (ix2 0 k) = G (ix1 k) := by
  pointwise

/-- A padded branch times a padded up-projection is the unpadded product. -/
theorem up_eq (Y : FVec Ideal S16x2048x5x64 .f32) (U : FVec Ideal S320x1024 .f32) (r : Fin 32768) (k : Fin 1024) :
    ∑ j : Fin 384, ybV Y (ix2 r j) * uV U (ix2 j k)
      = ∑ j : Fin 320, Y (ix4 ⟨r.val / 2048, by omega⟩ ⟨r.val % 2048, by omega⟩ ⟨j.val / 64, by omega⟩ ⟨j.val % 64, by omega⟩) * U (ix2 j k) := by
  rw [sum_pad _ fun j hj => by rw [ybV_pad Y r j hj, zero_mul]]
  exact Finset.sum_congr rfl fun j _ => by rw [ybV_at, uV_at]

/-- One row after the merge, over the arguments. -/
def midRes (X : FVec Ideal S16x2048x1024 .f32) (A : FVec Ideal S16x2048x6x64 .f32) (B C : FVec Ideal S16x2048x5x64 .f32) (Gt : FVec Ideal S16x2048x3072 .f32)
    (Ua : FVec Ideal S384x1024 .f32) (Ub Uc : FVec Ideal S320x1024 .f32) (O : FVec Ideal S1024x1024 .f32) (b : Fin 16) (s : Fin 2048) : Fin 1024 → EReal :=
  mrgMid (fun k => X (ix3 b s k)) (fun j => A (ix4 b s ⟨j.val / 64, by omega⟩ ⟨j.val % 64, by omega⟩)) (fun j => B (ix4 b s ⟨j.val / 64, by omega⟩ ⟨j.val % 64, by omega⟩))
    (fun j => C (ix4 b s ⟨j.val / 64, by omega⟩ ⟨j.val % 64, by omega⟩)) (fun j => Gt (ix3 b s j)) (fun j k => Ua (ix2 j k)) (fun j k => Ub (ix2 j k)) (fun j k => Uc (ix2 j k))
    (fun k e => O (ix2 k e))

/-- The result, over the arguments. -/
def mrgRes (X : FVec Ideal S16x2048x1024 .f32) (A : FVec Ideal S16x2048x6x64 .f32) (B C : FVec Ideal S16x2048x5x64 .f32) (Gt : FVec Ideal S16x2048x3072 .f32)
    (Ua : FVec Ideal S384x1024 .f32) (Ub Uc : FVec Ideal S320x1024 .f32) (O : FVec Ideal S1024x1024 .f32) (G : FVec Ideal S1024 .f32)
    (Wg : FVec Ideal S1024x5632 .f32) (Wd : FVec Ideal S2816x1024 .f32) : FVec Ideal S32768x1024 .f32 := fun y =>
  ffnEntry (midRes X A B C Gt Ua Ub Uc O ⟨(y 0).val / 2048, by have : (y 0).val < 32768 := (y 0).isLt; omega⟩ ⟨(y 0).val % 2048, by omega⟩)
    (fun k => G (ix1 k)) (fun k j => Wg (ix2 k j)) (fun f => Wd (ix2 f (y 1))) (y 1)

theorem mid_at (c : Dev nD) (t : Fin cfg0.N) (a : Fin 512) :
    mid (bx m c t) (bya m c t) (byb m c t) (byc m c t) (bgt m c t) (bua m c t) (bub m c t) (buc m c t) (bo m c t) a
      = midRes (argX m c) (argA m c) (argB m c) (argC m c) (argGt m c) (argUa m c) (argUb m c) (argUc m c) (argO m c)
          ⟨(rowOf t a).val / 2048, by have := (rowOf t a).isLt; omega⟩ ⟨(rowOf t a).val % 2048, by omega⟩ := by
  unfold mid merged midRes mrgMid
  simp only [bx_at, bya_at, byb_at, byc_at, bgt_at, bua_at, bub_at, buc_at, bo_at, xrow, yaV_at, gtV_at, up_eq]

theorem entry_eq (c : Dev nD) (t : Fin cfg0.N) (a : Fin 512) (e : Fin 1024) :
    blockEntry (bx m c t) (bya m c t) (byb m c t) (byc m c t) (bgt m c t) (bua m c t) (bub m c t) (buc m c t) (bo m c t) (bg m c t) (bw1 m c t) (bw2 m c t) (bgf m c t) a e
      = mrgRes (argX m c) (argA m c) (argB m c) (argC m c) (argGt m c) (argUa m c) (argUb m c) (argUc m c) (argO m c) (argG m c) (argWg m c) (argWd m c) (ix2 (rowOf t a) e) := by
  have hc : ∀ (h : Fin 1024 → EReal) (e : Fin 1024), ∑ n : Fin 11, chunkOf (bw1 m c t) (bw2 m c t) h e n = ffnOut h (fun k j => argWg m c (ix2 k j)) (fun f => argWd m c (ix2 f e)) :=
    fun h e => sum_chunk h (fun k j => argWg m c (ix2 k j)) (fun f => argWd m c (ix2 f e)) _ _
      (fun n k f => (bw1_at m c t n k _).trans (w1V_gate _ n k f)) (fun n k f => (bw1_at m c t n k _).trans (w1V_lin _ n k f))
      (fun n f => (bw2_at m c t n f e).trans (w2V_at _ n f e))
  unfold blockEntry
  simp only [hc, mid_at, bg_at, grow]
  rfl

set_option maxHeartbeats 1000000 in
theorem final (c : Dev nD) : (dats m 0 c).arrAt 13 cfg0.N
    = mrgRes (argX m c) (argA m c) (argB m c) (argC m c) (argGt m c) (argUa m c) (argUb m c) (argUc m c) (argO m c) (argG m c) (argWg m c) (argWd m c) := by
  refine (dats m 0 c).arrAt_eq_of_covers 13 _ (by decide +kernel) fun t _ y => ?_
  blk_simp
  rw [after0_13]
  rw [outs_apply]
  refine (entry_eq m c t (y 0) (y 1)).trans ?_
  refine congrArg _ ?_
  blk_ext [idx t, rowOf]

end Cert.Proof.Mrg4
end
-- ==== Proof.Mrg4Ref.lean ====
/- The merging reference read at an index. -/
module

public import proofs.«01_k».proof.Proof.FfnSpec
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Proof.Mrg4Ref

open Cert.Reference4Ideal Cert.Reference4Ideal.Gen Idealize.ShloMosaic Idealize.ShloMosaic.TcCoe Idealize.SL.Sem Cert.Proof.Ffn

/-- The normalised rows. -/
def nR (X : FVec Ideal S16x2048x1024 .f32) (G : FVec Ideal S1024 .f32) : FVec Ideal S16x2048x1024 .f32 :=
  mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 G))

/-- The gate and linear halves, side by side. -/
def guR (h : FVec Ideal S16x2048x1024 .f32) (W : FVec Ideal S1024x5632 .f32) : FVec Ideal S16x2048x5632 .f32 :=
  Host.dotGeneral dot_S16x2048x1024_S1024x5632_S16x2048x5632_2_0_01_1_n_n none h W

/-- The hidden units. -/
def hidR (p : FVec Ideal S16x2048x5632 .f32) : FVec Ideal S16x2048x2816 .f32 :=
  mulf (mulf (extractStridedSlice S16x2048x2816 ![0, 0, 0] p slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] p slices_S16x2048x5632_S16x2048x2816_0_0_0)))))) (extractStridedSlice S16x2048x2816 ![0, 0, 2816] p slices_S16x2048x5632_S16x2048x2816_0_0_2816)

/-- The gates after their sigmoid. -/
def gtR (Gt : FVec Ideal S16x2048x3072 .f32) : FVec Ideal S16x2048x3072 .f32 :=
  Host.divf (broadcastInDim S16x2048x3072 ![] bcast_S_S16x2048x3072 (constant S_ .f32 0x3F800000#32)) (addf (broadcastInDim S16x2048x3072 ![] bcast_S_S16x2048x3072 (constant S_ .f32 0x3F800000#32)) (Host.exp (Host.negf Gt)))

/-- The first branch projected up. -/
def uaR (A : FVec Ideal S16x2048x6x64 .f32) (U : FVec Ideal S384x1024 .f32) : FVec Ideal S16x2048x1024 .f32 :=
  Host.dotGeneral dot_S16x2048x384_S384x1024_S16x2048x1024_2_0_01_1_n_n none (shapeCast S16x2048x384 A shapeCasts_S16x2048x6x64_S16x2048x384) U

/-- The second or third branch projected up. -/
def ubR (A : FVec Ideal S16x2048x5x64 .f32) (U : FVec Ideal S320x1024 .f32) : FVec Ideal S16x2048x1024 .f32 :=
  Host.dotGeneral dot_S16x2048x320_S320x1024_S16x2048x1024_2_0_01_1_n_n none (shapeCast S16x2048x320 A shapeCasts_S16x2048x5x64_S16x2048x320) U

/-- The gated branches, added up. -/
def mergedR (a b c : FVec Ideal S16x2048x1024 .f32) (t : FVec Ideal S16x2048x3072 .f32) : FVec Ideal S16x2048x1024 .f32 :=
  addf (addf (mulf (extractStridedSlice S16x2048x1024 ![0, 0, 0] t slices_S16x2048x3072_S16x2048x1024_0_0_0) a) (mulf (extractStridedSlice S16x2048x1024 ![0, 0, 1024] t slices_S16x2048x3072_S16x2048x1024_0_0_1024) b)) (mulf (extractStridedSlice S16x2048x1024 ![0, 0, 2048] t slices_S16x2048x3072_S16x2048x1024_0_0_2048) c)

/-- The rows after the output projection. -/
def midR (X M : FVec Ideal S16x2048x1024 .f32) (O : FVec Ideal S1024x1024 .f32) : FVec Ideal S16x2048x1024 .f32 :=
  addf X (Host.dotGeneral dot_S16x2048x1024_S1024x1024_S16x2048x1024_2_0_01_1_n_n none M O)

/-- The rows after the feed-forward block. -/
def ffnR (M : FVec Ideal S16x2048x1024 .f32) (G : FVec Ideal S1024 .f32) (Wg : FVec Ideal S1024x5632 .f32) (Wd : FVec Ideal S2816x1024 .f32) : FVec Ideal S16x2048x1024 .f32 :=
  addf M (mulf (broadcastInDim S16x2048x1024 ![] bcast_S_S16x2048x1024 (constant S_ .f32 0x3F000000#32)) (Host.dotGeneral dot_S16x2048x2816_S2816x1024_S16x2048x1024_2_0_01_1_n_n none (hidR (guR (nR M G) Wg)) Wd))

variable (X : FVec Ideal S16x2048x1024 .f32) (A : FVec Ideal S16x2048x6x64 .f32) (B C : FVec Ideal S16x2048x5x64 .f32) (Gt : FVec Ideal S16x2048x3072 .f32)
  (Ua : FVec Ideal S384x1024 .f32) (Ub Uc : FVec Ideal S320x1024 .f32) (O : FVec Ideal S1024x1024 .f32) (G : FVec Ideal S1024 .f32)
  (Wg : FVec Ideal S1024x5632 .f32) (Wd : FVec Ideal S2816x1024 .f32) (b : Fin 16) (s : Fin 2048)

/-- The rows after the merge. -/
def rowsR : FVec Ideal S16x2048x1024 .f32 := midR X (mergedR (uaR A Ua) (ubR B Ub) (ubR C Uc) (gtR Gt)) O

/-- The result. -/
def resR : FVec Ideal S32768x1024 .f32 :=
  shapeCast S32768x1024 (ffnR (rowsR X A B C Gt Ua Ub Uc O) G Wg Wd) shapeCasts_S16x2048x1024_S32768x1024

theorem nR_at (k : Fin 1024) : nR X G (ix3 b s k) = normRow (fun k => X (ix3 b s k)) (fun k => G (ix1 k)) k := by
  unfold normRow
  pointwise [nR]

theorem guR_at (h : FVec Ideal S16x2048x1024 .f32) (j : Fin 5632) : guR h Wg (ix3 b s j) = ∑ k : Fin 1024, h (ix3 b s k) * Wg (ix2 k j) := by
  pointwise [guR]

theorem hidR_at (p : FVec Ideal S16x2048x5632 .f32) (f : Fin 2816) (w : EReal) :
    hidR p (ix3 b s f) * w = unitOf (p (ix3 b s ⟨f.val, by omega⟩)) (p (ix3 b s ⟨2816 + f.val, by omega⟩)) w := by
  unfold unitOf
  pointwise [hidR]
  rfl

theorem gtR_at (j : Fin 3072) : gtR Gt (ix3 b s j) = Ideal.logistic (Gt (ix3 b s j)) := by
  pointwise [gtR]
  rfl

theorem uaR_at (k : Fin 1024) : uaR A Ua (ix3 b s k) = ∑ j : Fin 384, A (ix4 b s ⟨j.val / 64, by omega⟩ ⟨j.val % 64, by omega⟩) * Ua (ix2 j k) := by
  pointwise [uaR]

theorem ubR_at (k : Fin 1024) : ubR B Ub (ix3 b s k) = ∑ j : Fin 320, B (ix4 b s ⟨j.val / 64, by omega⟩ ⟨j.val % 64, by omega⟩) * Ub (ix2 j k) := by
  pointwise [ubR]

theorem mergedR_at (p q r : FVec Ideal S16x2048x1024 .f32) (k : Fin 1024) :
    mergedR p q r Gt (ix3 b s k) = mergeRow (fun j => Gt (ix3 b s j)) (fun k => p (ix3 b s k)) (fun k => q (ix3 b s k)) (fun k => r (ix3 b s k)) k := by
  unfold mergeRow
  pointwise [mergedR]

theorem midR_at (M : FVec Ideal S16x2048x1024 .f32) (e : Fin 1024) :
    midR X M O (ix3 b s e) = midRow (fun k => X (ix3 b s k)) (fun k => M (ix3 b s k)) (fun k e => O (ix2 k e)) e := by
  unfold midRow
  pointwise [midR]

theorem ffnR_at (e : Fin 1024) : ffnR X G Wg Wd (ix3 b s e)
    = ffnEntry (fun k => X (ix3 b s k)) (fun k => G (ix1 k)) (fun k j => Wg (ix2 k j)) (fun f => Wd (ix2 f e)) e := by
  unfold ffnEntry ffnOut
  pointwise [ffnR]
  simp only [hidR_at, guR_at, nR_at]

theorem rowsR_at (e : Fin 1024) : rowsR X A B C Gt Ua Ub Uc O (ix3 b s e)
    = mrgMid (fun k => X (ix3 b s k)) (fun j => A (ix4 b s ⟨j.val / 64, by omega⟩ ⟨j.val % 64, by omega⟩)) (fun j => B (ix4 b s ⟨j.val / 64, by omega⟩ ⟨j.val % 64, by omega⟩))
        (fun j => C (ix4 b s ⟨j.val / 64, by omega⟩ ⟨j.val % 64, by omega⟩)) (fun j => Gt (ix3 b s j)) (fun j k => Ua (ix2 j k)) (fun j k => Ub (ix2 j k)) (fun j k => Uc (ix2 j k))
        (fun k e => O (ix2 k e)) e := by
  unfold rowsR mrgMid
  simp only [midR_at, mergedR_at, gtR_at, uaR_at, ubR_at]

theorem cast_at (r : Fin 32768) (e : Fin 1024) : shapeCast S32768x1024 X shapeCasts_S16x2048x1024_S32768x1024 (ix2 r e) = X (ix3 ⟨r.val / 2048, by omega⟩ ⟨r.val % 2048, by omega⟩ e) := by
  pointwise

theorem resR_at (r : Fin 32768) (e : Fin 1024) : resR X A B C Gt Ua Ub Uc O G Wg Wd (ix2 r e)
    = ffnEntry (fun e => rowsR X A B C Gt Ua Ub Uc O (ix3 ⟨r.val / 2048, by omega⟩ ⟨r.val % 2048, by omega⟩ e)) (fun k => G (ix1 k))
        (fun k j => Wg (ix2 k j)) (fun f => Wd (ix2 f e)) e := by
  unfold resR
  rw [cast_at]
  rw [ffnR_at]

end Cert.Proof.Mrg4Ref
end
-- ==== Proof.Mrg4Claim.lean ====
/- The claims about the merge and the second feed-forward block: its runs, and its value against the reference. -/
module

public import proofs.«01_k».proof.Defs
public import proofs.«01_k».proof.Proof.Mrg4Entry
public import proofs.«01_k».proof.Proof.Mrg4Ref
public import proofs.«01_k».proof.Proof.Gen.Kernel4
public import Idealize.ShloMosaic.Lib.Claim

@[expose] public section

noncomputable section

namespace Cert.Proof.Mrg4

open Idealize.ShloMosaic Idealize.SL.Sem

/-- The kernel's body, read over words, is the same text in both programs. -/
theorem body_same : @Cert.Kernel4.cc0_merge_ffn Bits _ Cert.Kernel4.Gen.facts = @Cert.Kernel4Ideal.cc0_merge_ffn Bits _ Cert.Kernel4Ideal.Gen.facts := rfl

set_option maxHeartbeats 4000000 in
theorem table_same : @Cert.Kernel4.defs₀ Bits _ Cert.Kernel4.Gen.facts = @Cert.Kernel4Ideal.defs₀ Bits _ Cert.Kernel4Ideal.Gen.facts := by
  unfold Cert.Kernel4.defs₀ Cert.Kernel4Ideal.defs₀
  refine congrArg Defs.onTc ?_
  funext l a
  match l, a with
  | 0, (t, s) =>
    dsimp only
    rw [body_same]
    rfl

set_option maxHeartbeats 4000000 in
theorem defs_same : Cert.Kernel4.defs (F := Bits) = Cert.Kernel4Ideal.defs (F := Bits) :=
  congrArg (Pipeline.defs (Cert.Kernel4Ideal.pcfgs (F := Bits))) table_same

set_option maxHeartbeats 4000000 in
theorem frame_kernel : Cert.quiescent_Kernel4 := by
  intro m ρ _
  rw [defs_same]
  exact (θ_run Cert.Kernel4Ideal.defs _ _).mono (fun _ h => h) (Cert.Kernel4Ideal.Gen.frame (F := Bits) m ρ)

theorem frame_ideal : Cert.quiescent_Kernel4Ideal := fun m ρ _ => Cert.Kernel4Ideal.Gen.frame m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem res_eq (X A B C Gt Ua Ub Uc O G Wg Wd) : Mrg4Ref.resR X A B C Gt Ua Ub Uc O G Wg Wd = mrgRes X A B C Gt Ua Ub Uc O G Wg Wd := by
  funext y
  rw [eq_ix2 y]
  refine (Mrg4Ref.resR_at X A B C Gt Ua Ub Uc O G Wg Wd (y 0) (y 1)).trans ?_
  simp only [Mrg4Ref.rowsR_at]
  rfl

/-- The reference's result is the staged one. -/
theorem out_eq (m : (ℓ : Loc Cert.Reference4Ideal.nD Cert.Reference4Ideal.τ Cert.Reference4Ideal.sig) → Buf (Elt Ideal) ℓ) (c : Dev Cert.Reference4Ideal.nD) :
    Cert.Reference4Ideal.Value.res_out0 m c = Mrg4Ref.resR (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) := rfl

set_option maxHeartbeats 4000000 in
theorem value : Cert.algebraic_Kernel4Ideal_Reference4Ideal := by
  pair_intro
  · run_from Cert.Kernel4Ideal.Gen.run_main m g
    · exact Cert.Kernel4Ideal.Gen.V_main_arg0 m c
    · exact Cert.Kernel4Ideal.Gen.V_main_arg1 m c
    · exact Cert.Kernel4Ideal.Gen.V_main_arg2 m c
    · exact Cert.Kernel4Ideal.Gen.V_main_arg3 m c
    · exact Cert.Kernel4Ideal.Gen.V_main_arg4 m c
    · exact Cert.Kernel4Ideal.Gen.V_main_arg5 m c
    · exact Cert.Kernel4Ideal.Gen.V_main_arg6 m c
    · exact Cert.Kernel4Ideal.Gen.V_main_arg7 m c
    · exact Cert.Kernel4Ideal.Gen.V_main_arg8 m c
    · exact Cert.Kernel4Ideal.Gen.V_main_arg9 m c
    · exact Cert.Kernel4Ideal.Gen.V_main_arg10 m c
    · exact Cert.Kernel4Ideal.Gen.V_main_arg11 m c
    · exact Cert.Kernel4Ideal.Gen.V_main_arg12 m c
  · run_from Cert.Reference4Ideal.Value.run m' g'
    obtain ⟨h0, h1, h2, h3, h4, h5, h6, h7, h8, h9, h10, h11, h12⟩ := hagree c
    refine (out_eq m' c).trans ?_
    rw [h0, h1, h2, h3, h4, h5, h6, h7, h8, h9, h10, h11, res_eq]
    exact (final m c).symm

end Cert.Proof.Mrg4
end
-- ==== Proof.PrjFrames.lean ====
/- The runs of the input projection and of its reference. -/
module

public import proofs.«01_k».proof.Defs
public import proofs.«01_k».proof.Proof.Gen.Kernel5
public import proofs.«01_k».proof.Proof.Gen.Kernel5Ideal.Value
public import proofs.«01_k».proof.Proof.Gen.Reference5Ideal.Run
public import Idealize.ShloMosaic.Lib.Claim

@[expose] public section

noncomputable section

namespace Cert.Proof.Prj

open Idealize.ShloMosaic Idealize.SL.Sem

set_option maxHeartbeats 8000000 in
/-- The kernel's body, read over words, is the same text in both programs. -/
theorem body_same : @Cert.Kernel5.cc0_in_proj Bits _ Cert.Kernel5.Gen.facts = @Cert.Kernel5Ideal.cc0_in_proj Bits _ Cert.Kernel5Ideal.Gen.facts := rfl

set_option maxHeartbeats 4000000 in
theorem table_same : @Cert.Kernel5.defs₀ Bits _ Cert.Kernel5.Gen.facts = @Cert.Kernel5Ideal.defs₀ Bits _ Cert.Kernel5Ideal.Gen.facts := by
  unfold Cert.Kernel5.defs₀ Cert.Kernel5Ideal.defs₀
  refine congrArg Defs.onTc ?_
  funext l a
  match l, a with
  | 0, (t, s) =>
    dsimp only
    rw [body_same]
    rfl

set_option maxHeartbeats 4000000 in
theorem defs_same : Cert.Kernel5.defs (F := Bits) = Cert.Kernel5Ideal.defs (F := Bits) :=
  congrArg (Pipeline.defs (Cert.Kernel5Ideal.pcfgs (F := Bits))) table_same

set_option maxHeartbeats 4000000 in
theorem frame_kernel : Cert.quiescent_Kernel5 := by
  intro m ρ _
  rw [defs_same]
  exact (θ_run Cert.Kernel5Ideal.defs _ _).mono (fun _ h => h) (Cert.Kernel5Ideal.Gen.frame (F := Bits) m ρ)

theorem frame_ideal : Cert.quiescent_Kernel5Ideal := fun m ρ _ => Cert.Kernel5Ideal.Gen.frame m ρ

theorem frame_reference : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run m ρ)

end Cert.Proof.Prj
end
-- ==== Proof.PrjSpec.lean ====
/- The mixers' input projection as plain arithmetic: a normalised row times the weights, a scaled column and a column of zeros. -/
module

public import proofs.«01_k».proof.Proof.FfnSpec

@[expose] public section

noncomputable section

namespace Cert.Proof.Prj

open Idealize.ShloMosaic Cert.Proof.Ffn

/-- The score scale, an eighth. -/
abbrev sc : EReal := Ideal.ofBits .f32 0x3E000000#32

theorem sc_eq : sc = (((1 / 8 : ℝ)) : EReal) := by
  simp [sc, Ideal.ofBits, Ideal.ieee, -EReal.coe_mul]
  norm_num

/-- A finite scale comes out of a sum. -/
theorem sum_mul_sc {n : ℕ} (f : Fin n → EReal) : (∑ k, f k) * sc = ∑ k, f k * sc := by
  have h0 : (0 : EReal) ≤ sc := by rw [sc_eq]; exact EReal.coe_nonneg.2 (by norm_num)
  have h1 : sc ≠ ⊤ := by rw [sc_eq]; exact EReal.coe_ne_top _
  classical
  induction (Finset.univ : Finset (Fin n)) using Finset.induction_on with
  | empty => simp
  | insert a t ha ih => rw [Finset.sum_insert ha, Finset.sum_insert ha, EReal.right_distrib_of_nonneg_of_ne_top h0 h1, ih]

/-- One entry of the projection: the normalised row times a column of weights. -/
def prj (x g w : Fin 1024 → EReal) : EReal := ∑ k : Fin 1024, normRow x g k * w k

theorem prj_scale (x g w : Fin 1024 → EReal) : prj x g (fun k => w k * sc) = prj x g w * sc := by
  unfold prj
  rw [sum_mul_sc]
  exact Finset.sum_congr rfl fun k _ => (mul_assoc _ _ _).symm

theorem prj_zero (x g : Fin 1024 → EReal) : prj x g (fun _ => 0) = 0 := by
  unfold prj
  exact Finset.sum_eq_zero fun k _ => mul_zero _

end Cert.Proof.Prj
end
-- ==== Proof.PrjPay.lean ====
/- The input projection's payloads, entry by entry. -/
module

public import proofs.«01_k».proof.Proof.PrjSpec
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Proof.Prj

open Cert.Kernel5Ideal Cert.Kernel5Ideal.Gen
open Idealize.ShloMosaic Idealize.ShloMosaic.TcCoe Idealize.ShloMosaic.Tactic Cert.Proof.Ffn

variable (x0 : Vec Ideal S512x1024 .f32) (x1 : Vec Ideal S1x1024 .f32) (x2 : Vec Ideal S1024x6272 .bf16) (x3 : Vec Ideal S128x128 .bf16) (x4 x5 : Vec Ideal S1x128 .f32)
  (x6 x7 x8 : Vec Ideal S512x128 .f32) (h : FVec Ideal S512x1024 .bf16) (a : Fin 512)

/-- The block's normalised rows. -/
abbrev hn : FVec Ideal S512x1024 .bf16 := k0_pay1 (F := Ideal) (View.ld x0 r0_0) (View.ld x1 r0_1)

/-- One entry of the block's projection. -/
def prjB (a : Fin 512) (c : Fin 6272) : EReal := prj (fun k => x0 (ix2 a k)) (fun k => x1 (ix2 0 k)) (fun k => x2 (ix2 k c))

theorem hn_at (k : Fin 1024) : hn x0 x1 (ix2 a k) = normRow (fun k => x0 (ix2 a k)) (fun k => x1 (ix2 0 k)) k := by
  unfold normRow
  pointwise [hn, k0_pay1]

theorem mm_at (r : ℕ) (j : Fin 6272) (w : Fin 1024 → EReal) (hw : ∀ k, w k = x2 (ix2 k j)) : ∑ k : Fin 1024, hn x0 x1 (ix2 a k) * w k = prjB x0 x1 x2 a j := by
  unfold prjB prj
  exact Finset.sum_congr rfl fun k _ => by rw [hn_at, hw]

theorem pay9_at (j : Fin 384) : k0_pay9 (F := Ideal) h (View.ld x2 r0_10) (ix2 a j) = ∑ k : Fin 1024, h (ix2 a k) * x2 (ix2 k ⟨1152 + j.val, by omega⟩) := by
  pointwise [k0_pay9]

theorem pay10_at (j : Fin 384) : k0_pay10 (F := Ideal) h (View.ld x2 r0_11) (ix2 a j) = ∑ k : Fin 1024, h (ix2 a k) * x2 (ix2 k ⟨1536 + j.val, by omega⟩) := by
  pointwise [k0_pay10]

theorem pay15_at (j : Fin 128) : k0_pay15 (F := Ideal) h (View.ld x2 r0_13) (ix2 a j) = ∑ k : Fin 1024, h (ix2 a k) * x2 (ix2 k ⟨3072 + j.val, by omega⟩) := by
  pointwise [k0_pay15]

theorem pay16_at (j : Fin 512) : k0_pay16 (F := Ideal) h (View.ld x2 r0_15) (ix2 a j) = Ideal.logistic (∑ k : Fin 1024, h (ix2 a k) * x2 (ix2 k ⟨3200 + j.val, by omega⟩)) := by
  pointwise [k0_pay16]

theorem pay17_at (j : Fin 512) : k0_pay17 (F := Ideal) h (View.ld x2 r0_17) (ix2 a j) = Ideal.logistic (∑ k : Fin 1024, h (ix2 a k) * x2 (ix2 k ⟨3712 + j.val, by omega⟩)) := by
  pointwise [k0_pay17]

theorem pay20_at (j : Fin 512) : k0_pay20 (F := Ideal) h (View.ld x2 r0_21) (ix2 a j) = Ideal.logistic (∑ k : Fin 1024, h (ix2 a k) * x2 (ix2 k ⟨4736 + j.val, by omega⟩)) := by
  pointwise [k0_pay20]

theorem pay21_at (j : Fin 512) : k0_pay21 (F := Ideal) h (View.ld x2 r0_23) (ix2 a j) = Ideal.logistic (∑ k : Fin 1024, h (ix2 a k) * x2 (ix2 k ⟨5248 + j.val, by omega⟩)) := by
  pointwise [k0_pay21]

theorem pay22_at (j : Fin 512) : k0_pay22 (F := Ideal) h (View.ld x2 r0_25) (ix2 a j) = Ideal.logistic (∑ k : Fin 1024, h (ix2 a k) * x2 (ix2 k ⟨5760 + j.val, by omega⟩)) := by
  pointwise [k0_pay22]

theorem pay19_at (j : Fin 512) : k0_pay19 (F := Ideal) h (k0_pay18 (View.ld x2 r0_19)) (constant S512x512 .f32 0x00000000#32) (ix2 a j) = Ideal.logistic (∑ k : Fin 1024, h (ix2 a k) * x2 (ix2 k ⟨4224 + j.val, by omega⟩)) := by
  pointwise [k0_pay19, k0_pay18]

theorem pay23_at (j : Fin 768) : k0_pay23 (F := Ideal) h (View.ld x2 r0_27) (ix2 a j) = ∑ k : Fin 1024, h (ix2 a k) * x2 (ix2 k ⟨2304 + j.val, by omega⟩) := by
  pointwise [k0_pay23]

theorem pay12_at (j : Fin 128) : k0_pay12 (F := Ideal) h (View.ld x2 r0_12) (ix3 0 j a) = ∑ k : Fin 1024, h (ix2 a k) * x2 (ix2 k ⟨1920 + j.val, by omega⟩) := by
  pointwise [k0_pay12, k0_pay11]

theorem pay13_at (j : Fin 128) : k0_pay13 (F := Ideal) (k0_pay11 h (View.ld x2 r0_12)) (ix3 0 j a) = ∑ k : Fin 1024, h (ix2 a k) * x2 (ix2 k ⟨1920 + (128 + j.val), by omega⟩) := by
  pointwise [k0_pay13, k0_pay11]

theorem pay14_at (j : Fin 128) : k0_pay14 (F := Ideal) (k0_pay11 h (View.ld x2 r0_12)) (ix3 0 j a) = ∑ k : Fin 1024, h (ix2 a k) * x2 (ix2 k ⟨1920 + (256 + j.val), by omega⟩) := by
  pointwise [k0_pay14, k0_pay11]

theorem pay2_at (j : Fin 384) : k0_pay2 (F := Ideal) (View.ld x0 r0_0) (View.ld x1 r0_1) (View.ld x2 r0_2) (ix2 a j) = ∑ k : Fin 1024, hn x0 x1 (ix2 a k) * x2 (ix2 k ⟨0 + j.val, by omega⟩) := by
  pointwise [k0_pay2, hn]

theorem pay3_at (j : Fin 384) : k0_pay3 (F := Ideal) (View.ld x0 r0_0) (View.ld x1 r0_1) (View.ld x2 r0_4) (ix2 a j) = ∑ k : Fin 1024, hn x0 x1 (ix2 a k) * x2 (ix2 k ⟨384 + j.val, by omega⟩) := by
  pointwise [k0_pay3, hn]

theorem pay6_at (j : Fin 128) : k0_pay6 (F := Ideal) (k0_pay5 (View.ld x0 r0_0) (View.ld x1 r0_1) (View.ld x2 r0_6)) (ix3 0 j a) = ∑ k : Fin 1024, hn x0 x1 (ix2 a k) * x2 (ix2 k ⟨768 + j.val, by omega⟩) := by
  pointwise [k0_pay6, k0_pay5, k0_pay4, hn]

theorem pay7_at (j : Fin 128) : k0_pay7 (F := Ideal) (k0_pay4 (View.ld x0 r0_0) (View.ld x1 r0_1) (View.ld x2 r0_6)) (ix3 0 j a) = ∑ k : Fin 1024, hn x0 x1 (ix2 a k) * x2 (ix2 k ⟨768 + (128 + j.val), by omega⟩) := by
  pointwise [k0_pay7, k0_pay4, hn]

theorem pay8_at (j : Fin 128) : k0_pay8 (F := Ideal) (k0_pay4 (View.ld x0 r0_0) (View.ld x1 r0_1) (View.ld x2 r0_6)) (ix3 0 j a) = ∑ k : Fin 1024, hn x0 x1 (ix2 a k) * x2 (ix2 k ⟨768 + (256 + j.val), by omega⟩) := by
  pointwise [k0_pay8, k0_pay4, hn]

end Cert.Proof.Prj
end
-- ==== Proof.PrjArr.lean ====
/- The arrays the input projection is given, and the layout of its weights. -/
module

public import proofs.«01_k».proof.Proof.PrjPay
public import Idealize.ShloMosaic.Lib.Claim

@[expose] public section

set_option maxRecDepth 16384

noncomputable section

namespace Cert.Proof.Prj

open Cert.Kernel5Ideal Cert.Kernel5Ideal.Gen
open Idealize.ShloMosaic Idealize.ShloMosaic.TcCoe Idealize.ShloMosaic.Tactic
open Idealize.SL.Sem Cert.Proof.Ffn

variable (m : (ℓ : Loc nD τ sig) → Buf (Elt Ideal) ℓ)

/-- The hidden states. -/
abbrev argX (c : Dev nD) : FVec Ideal S16x2048x1024 .f32 := m ((c : Thread nD τ).loc main_arg0)
/-- The normalisation's weights. -/
abbrev argG (c : Dev nD) : FVec Ideal S1024 .f32 := m ((c : Thread nD τ).loc main_arg1)
/-- The input weights. -/
abbrev argW (c : Dev nD) : FVec Ideal S1024x5962 .f32 := m ((c : Thread nD τ).loc main_arg2)
/-- The latent's normalisation weights. -/
abbrev argGl (c : Dev nD) : FVec Ideal S128 .f32 := m ((c : Thread nD τ).loc main_arg3)
/-- The latent's up-projection. -/
abbrev argWl (c : Dev nD) : FVec Ideal S128x128 .f32 := m ((c : Thread nD τ).loc main_arg4)
/-- The indexer key's normalisation weights. -/
abbrev argGi (c : Dev nD) : FVec Ideal S64 .f32 := m ((c : Thread nD τ).loc main_arg5)

/-- Fifteen groups of columns side by side. -/
def wCat (p0 : FVec Ideal S1024x384 .f32) (p1 : FVec Ideal S1024x384 .f32) (p2 : FVec Ideal S1024x384 .f32) (p3 : FVec Ideal S1024x384 .f32) (p4 : FVec Ideal S1024x384 .f32) (p5 : FVec Ideal S1024x384 .f32) (p6 : FVec Ideal S1024x320 .f32) (p7 : FVec Ideal S1024x256 .f32) (p8 : FVec Ideal S1024x64 .f32) (p9 : FVec Ideal S1024x128 .f32) (p10 : FVec Ideal S1024x6 .f32) (p11 : FVec Ideal S1024x2 .f32) (p12 : FVec Ideal S1024x4 .f32) (p13 : FVec Ideal S1024x116 .f32) (p14 : FVec Ideal S1024x3072 .f32) : FVec Ideal S1024x6272 .f32 :=
  concatenate S1024x6272 1 [⟨S1024x384, p0⟩, ⟨S1024x384, p1⟩, ⟨S1024x384, p2⟩, ⟨S1024x384, p3⟩, ⟨S1024x384, p4⟩, ⟨S1024x384, p5⟩, ⟨S1024x320, p6⟩, ⟨S1024x256, p7⟩, ⟨S1024x64, p8⟩, ⟨S1024x128, p9⟩, ⟨S1024x6, p10⟩, ⟨S1024x2, p11⟩, ⟨S1024x4, p12⟩, ⟨S1024x116, p13⟩, ⟨S1024x3072, p14⟩] concatenates_S1024x384_S1024x384_S1024x384_S1024x384_S1024x384_S1024x384_S1024x320_S1024x256_S1024x64_S1024x128_S1024x6_S1024x2_S1024x4_S1024x116_S1024x3072_S1024x6272_d1

/-- Group 1 of the laid-out weights. -/
def wP0 (W : FVec Ideal S1024x5962 .f32) : FVec Ideal S1024x384 .f32 :=
  mulf (extractStridedSlice S1024x384 ![0, 0] W slices_S1024x5962_S1024x384_0_0) (broadcastInDim S1024x384 ![] bcast_S_S1024x384 (constant (F := Ideal) S_ .f32 0x3E000000#32))
/-- Group 2 of the laid-out weights. -/
def wP1 (W : FVec Ideal S1024x5962 .f32) : FVec Ideal S1024x384 .f32 :=
  extractStridedSlice S1024x384 ![0, 384] W slices_S1024x5962_S1024x384_0_384
/-- Group 3 of the laid-out weights. -/
def wP2 (W : FVec Ideal S1024x5962 .f32) : FVec Ideal S1024x384 .f32 :=
  extractStridedSlice S1024x384 ![0, 768] W slices_S1024x5962_S1024x384_0_768
/-- Group 4 of the laid-out weights. -/
def wP3 (W : FVec Ideal S1024x5962 .f32) : FVec Ideal S1024x384 .f32 :=
  pad S1024x384 ![0, 0] ![0, 64] ![0, 0] (mulf (extractStridedSlice S1024x320 ![0, 1158] W slices_S1024x5962_S1024x320_0_1158) (broadcastInDim S1024x320 ![] bcast_S_S1024x320 (constant (F := Ideal) S_ .f32 0x3E000000#32))) (sitofp (F := Ideal) .f32 (constantI S_ 32 0#32)) pads_S1024x320_S1024x384_000_0640 h_S_
/-- Group 5 of the laid-out weights. -/
def wP4 (W : FVec Ideal S1024x5962 .f32) : FVec Ideal S1024x384 .f32 :=
  pad S1024x384 ![0, 0] ![0, 64] ![0, 0] (extractStridedSlice S1024x320 ![0, 1478] W slices_S1024x5962_S1024x320_0_1478) (sitofp (F := Ideal) .f32 (constantI S_ 32 0#32)) pads_S1024x320_S1024x384_000_0640 h_S_
/-- Group 6 of the laid-out weights. -/
def wP5 (W : FVec Ideal S1024x5962 .f32) : FVec Ideal S1024x384 .f32 :=
  pad S1024x384 ![0, 0] ![0, 64] ![0, 0] (extractStridedSlice S1024x320 ![0, 1798] W slices_S1024x5962_S1024x320_0_1798) (sitofp (F := Ideal) .f32 (constantI S_ 32 0#32)) pads_S1024x320_S1024x384_000_0640 h_S_
/-- Group 7 of the laid-out weights. -/
def wP6 (W : FVec Ideal S1024x5962 .f32) : FVec Ideal S1024x320 .f32 :=
  mulf (extractStridedSlice S1024x320 ![0, 2118] W slices_S1024x5962_S1024x320_0_2118) (broadcastInDim S1024x320 ![] bcast_S_S1024x320 (constant (F := Ideal) S_ .f32 0x3E000000#32))
/-- Group 8 of the laid-out weights. -/
def wP7 (W : FVec Ideal S1024x5962 .f32) : FVec Ideal S1024x256 .f32 :=
  extractStridedSlice S1024x256 ![0, 2566] W slices_S1024x5962_S1024x256_0_2566
/-- Group 9 of the laid-out weights. -/
def wP8 (W : FVec Ideal S1024x5962 .f32) : FVec Ideal S1024x64 .f32 :=
  extractStridedSlice S1024x64 ![0, 2822] W slices_S1024x5962_S1024x64_0_2822
/-- Group 10 of the laid-out weights. -/
def wP9 (W : FVec Ideal S1024x5962 .f32) : FVec Ideal S1024x128 .f32 :=
  extractStridedSlice S1024x128 ![0, 2438] W slices_S1024x5962_S1024x128_0_2438
/-- Group 11 of the laid-out weights. -/
def wP10 (W : FVec Ideal S1024x5962 .f32) : FVec Ideal S1024x6 .f32 :=
  extractStridedSlice S1024x6 ![0, 1152] W slices_S1024x5962_S1024x6_0_1152
/-- Group 12 of the laid-out weights. -/
def wP11 : FVec Ideal S1024x2 .f32 :=
  (broadcastInDim S1024x2 ![] bcast_S_S1024x2 (constant (F := Ideal) S_ .f32 0x00000000#32))
/-- Group 13 of the laid-out weights. -/
def wP12 (W : FVec Ideal S1024x5962 .f32) : FVec Ideal S1024x4 .f32 :=
  extractStridedSlice S1024x4 ![0, 2886] W slices_S1024x5962_S1024x4_0_2886
/-- Group 14 of the laid-out weights. -/
def wP13 : FVec Ideal S1024x116 .f32 :=
  (broadcastInDim S1024x116 ![] bcast_S_S1024x116 (constant (F := Ideal) S_ .f32 0x00000000#32))
/-- Group 15 of the laid-out weights. -/
def wP14 (W : FVec Ideal S1024x5962 .f32) : FVec Ideal S1024x3072 .f32 :=
  extractStridedSlice S1024x3072 ![0, 2890] W slices_S1024x5962_S1024x3072_0_2890

/-- The weights as the kernel is given them: columns reordered, queries scaled, gaps filled with zeros. -/
def wV (W : FVec Ideal S1024x5962 .f32) : FVec Ideal S1024x6272 .bf16 :=
  truncf .bf16 (wCat (wP0 W) (wP1 W) (wP2 W) (wP3 W) (wP4 W) (wP5 W) (wP6 W) (wP7 W) (wP8 W) (wP9 W) (wP10 W) wP11 (wP12 W) wP13 (wP14 W)) bitsLt_bf16_f32

set_option maxHeartbeats 4000000 in
theorem V31 (c : Dev nD) : V m c main_v31 = shapeCast S32768x1024 (argX m c) shapeCasts_S16x2048x1024_S32768x1024 := by
  unfold V
  simp only [hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V32 (c : Dev nD) : V m c main_v32 = shapeCast S1x1024 (argG m c) shapeCasts_S1024_S1x1024 := by
  unfold V
  simp only [hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl
set_option maxHeartbeats 4000000 in
theorem V58 (c : Dev nD) : V m c main_v58 = wV (argW m c) := by
  unfold V
  simp only [hostOps0, hostOps0_1, hostOps0_2, hostOps0_3, hostOps0_4, hostOps0_5, hostOps0_6, List.flatten_cons, List.flatten_nil, List.append_nil, List.cons_append,
      List.nil_append, StableHlo.TRef.binary, StableHlo.TRef.nullary, StableHlo.TRef.ternary, StableHlo.TRef.unary, StableHlo.TRef.toBuf, StableHlo.TRef.ofBuf, cast_eq]
  after_results_simp <;> rfl

end Cert.Proof.Prj
end
-- ==== Proof.PrjOut.lean ====
/- The input projection's blocks of results that are plain projections. -/
module

public import proofs.«01_k».proof.Proof.PrjPay
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Proof.Prj

open Cert.Kernel5Ideal Cert.Kernel5Ideal.Gen
open Idealize.ShloMosaic Idealize.ShloMosaic.TcCoe Idealize.ShloMosaic.Tactic Cert.Proof.Ffn

variable (x0 : Vec Ideal S512x1024 .f32) (x1 : Vec Ideal S1x1024 .f32) (x2 : Vec Ideal S1024x6272 .bf16) (x3 : Vec Ideal S128x128 .bf16) (x4 x5 : Vec Ideal S1x128 .f32)
  (x6 x7 x8 : Vec Ideal S512x128 .f32)

set_option maxHeartbeats 2000000 in
theorem out9_at (y : S512x768.Idx) : out0_9 x0 x1 x2 x3 x4 x5 x6 x7 x8 y = prjB x0 x1 x2 (y 0) ⟨0 + (y 1).val, by have : (y 1).val < 768 := (y 1).isLt; omega⟩ := by
  unfold out0_9
  canon_tiles x h
  · obtain ⟨a, r, rfl⟩ : ∃ (a : Fin 512) (r : Fin 384), x = ix2 a r := ⟨x 0, x 1, eq_ix2 x⟩
    rw [show y 0 = a from Fin.ext h0]
    have h1' : (y 1).val = 384 + r.val := h1
    exact (pay3_at x0 x1 x2 a r).trans (mm_at x0 x1 x2 a 0 _ _ fun k => congrArg x2 ((ix2_inj ..).2 ⟨rfl, Fin.ext (by dsimp only; omega)⟩))
  · obtain ⟨a, r, rfl⟩ : ∃ (a : Fin 512) (r : Fin 384), x = ix2 a r := ⟨x 0, x 1, eq_ix2 x⟩
    rw [show y 0 = a from Fin.ext h0]
    have h1' : (y 1).val = r.val := h1
    exact (pay2_at x0 x1 x2 a r).trans (mm_at x0 x1 x2 a 0 _ _ fun k => congrArg x2 ((ix2_inj ..).2 ⟨rfl, Fin.ext (by dsimp only; omega)⟩))

set_option maxHeartbeats 2000000 in
theorem out10_at (y : S512x768.Idx) : out0_10 x0 x1 x2 x3 x4 x5 x6 x7 x8 y = prjB x0 x1 x2 (y 0) ⟨1152 + (y 1).val, by have : (y 1).val < 768 := (y 1).isLt; omega⟩ := by
  unfold out0_10
  canon_tiles x h
  · obtain ⟨a, r, rfl⟩ : ∃ (a : Fin 512) (r : Fin 384), x = ix2 a r := ⟨x 0, x 1, eq_ix2 x⟩
    rw [show y 0 = a from Fin.ext h0]
    have h1' : (y 1).val = 384 + r.val := h1
    exact (pay10_at x2 (hn x0 x1) a r).trans (mm_at x0 x1 x2 a 0 _ _ fun k => congrArg x2 ((ix2_inj ..).2 ⟨rfl, Fin.ext (by dsimp only; omega)⟩))
  · obtain ⟨a, r, rfl⟩ : ∃ (a : Fin 512) (r : Fin 384), x = ix2 a r := ⟨x 0, x 1, eq_ix2 x⟩
    rw [show y 0 = a from Fin.ext h0]
    have h1' : (y 1).val = r.val := h1
    exact (pay9_at x2 (hn x0 x1) a r).trans (mm_at x0 x1 x2 a 0 _ _ fun k => congrArg x2 ((ix2_inj ..).2 ⟨rfl, Fin.ext (by dsimp only; omega)⟩))

set_option maxHeartbeats 2000000 in
theorem out11_at (y : S1x384x512.Idx) : out0_11 x0 x1 x2 x3 x4 x5 x6 x7 x8 y = prjB x0 x1 x2 (y 2) ⟨768 + (y 1).val, by have : (y 1).val < 384 := (y 1).isLt; omega⟩ := by
  unfold out0_11
  canon_tiles x h
  · obtain ⟨z, r, a, rfl⟩ : ∃ (z : Fin 1) (r : Fin 128) (a : Fin 512), x = ix3 z r a := ⟨x 0, x 1, x 2, eq_ix3 x⟩
    obtain rfl : z = 0 := Subsingleton.elim _ _
    rw [show y 2 = a from Fin.ext h2]
    have h1' : (y 1).val = 256 + r.val := h1
    exact (pay8_at x0 x1 x2 a r).trans (mm_at x0 x1 x2 a 0 _ _ fun k => congrArg x2 ((ix2_inj ..).2 ⟨rfl, Fin.ext (by dsimp only; omega)⟩))
  · obtain ⟨z, r, a, rfl⟩ : ∃ (z : Fin 1) (r : Fin 128) (a : Fin 512), x = ix3 z r a := ⟨x 0, x 1, x 2, eq_ix3 x⟩
    obtain rfl : z = 0 := Subsingleton.elim _ _
    rw [show y 2 = a from Fin.ext h2]
    have h1' : (y 1).val = 128 + r.val := h1
    exact (pay7_at x0 x1 x2 a r).trans (mm_at x0 x1 x2 a 0 _ _ fun k => congrArg x2 ((ix2_inj ..).2 ⟨rfl, Fin.ext (by dsimp only; omega)⟩))
  · obtain ⟨z, r, a, rfl⟩ : ∃ (z : Fin 1) (r : Fin 128) (a : Fin 512), x = ix3 z r a := ⟨x 0, x 1, x 2, eq_ix3 x⟩
    obtain rfl : z = 0 := Subsingleton.elim _ _
    rw [show y 2 = a from Fin.ext h2]
    have h1' : (y 1).val = r.val := h1
    exact (pay6_at x0 x1 x2 a r).trans (mm_at x0 x1 x2 a 0 _ _ fun k => congrArg x2 ((ix2_inj ..).2 ⟨rfl, Fin.ext (by dsimp only; omega)⟩))

set_option maxHeartbeats 2000000 in
theorem out12_at (y : S1x384x512.Idx) : out0_12 x0 x1 x2 x3 x4 x5 x6 x7 x8 y = prjB x0 x1 x2 (y 2) ⟨1920 + (y 1).val, by have : (y 1).val < 384 := (y 1).isLt; omega⟩ := by
  unfold out0_12
  canon_tiles x h
  · obtain ⟨z, r, a, rfl⟩ : ∃ (z : Fin 1) (r : Fin 128) (a : Fin 512), x = ix3 z r a := ⟨x 0, x 1, x 2, eq_ix3 x⟩
    obtain rfl : z = 0 := Subsingleton.elim _ _
    rw [show y 2 = a from Fin.ext h2]
    have h1' : (y 1).val = 256 + r.val := h1
    exact (pay14_at x2 (hn x0 x1) a r).trans (mm_at x0 x1 x2 a 0 _ _ fun k => congrArg x2 ((ix2_inj ..).2 ⟨rfl, Fin.ext (by dsimp only; omega)⟩))
  · obtain ⟨z, r, a, rfl⟩ : ∃ (z : Fin 1) (r : Fin 128) (a : Fin 512), x = ix3 z r a := ⟨x 0, x 1, x 2, eq_ix3 x⟩
    obtain rfl : z = 0 := Subsingleton.elim _ _
    rw [show y 2 = a from Fin.ext h2]
    have h1' : (y 1).val = 128 + r.val := h1
    exact (pay13_at x2 (hn x0 x1) a r).trans (mm_at x0 x1 x2 a 0 _ _ fun k => congrArg x2 ((ix2_inj ..).2 ⟨rfl, Fin.ext (by dsimp only; omega)⟩))
  · obtain ⟨z, r, a, rfl⟩ : ∃ (z : Fin 1) (r : Fin 128) (a : Fin 512), x = ix3 z r a := ⟨x 0, x 1, x 2, eq_ix3 x⟩
    obtain rfl : z = 0 := Subsingleton.elim _ _
    rw [show y 2 = a from Fin.ext h2]
    have h1' : (y 1).val = r.val := h1
    exact (pay12_at x2 (hn x0 x1) a r).trans (mm_at x0 x1 x2 a 0 _ _ fun k => congrArg x2 ((ix2_inj ..).2 ⟨rfl, Fin.ext (by dsimp only; omega)⟩))

set_option maxHeartbeats 2000000 in
theorem out16_at (y : S512x128.Idx) : out0_16 x0 x1 x2 x3 x4 x5 x6 x7 x8 y = prjB x0 x1 x2 (y 0) ⟨3072 + (y 1).val, by have : (y 1).val < 128 := (y 1).isLt; omega⟩ := by
  unfold out0_16
  canon_tiles x h
  · obtain ⟨a, r, rfl⟩ : ∃ (a : Fin 512) (r : Fin 128), x = ix2 a r := ⟨x 0, x 1, eq_ix2 x⟩
    rw [show y 0 = a from Fin.ext h0]
    have h1' : (y 1).val = r.val := h1
    exact (pay15_at x2 (hn x0 x1) a r).trans (mm_at x0 x1 x2 a 0 _ _ fun k => congrArg x2 ((ix2_inj ..).2 ⟨rfl, Fin.ext (by dsimp only; omega)⟩))

set_option maxHeartbeats 2000000 in
theorem out17_at (y : S512x3072.Idx) : out0_17 x0 x1 x2 x3 x4 x5 x6 x7 x8 y = Ideal.logistic (prjB x0 x1 x2 (y 0) ⟨3200 + (y 1).val, by have : (y 1).val < 3072 := (y 1).isLt; omega⟩) := by
  unfold out0_17
  canon_tiles x h
  · obtain ⟨a, r, rfl⟩ : ∃ (a : Fin 512) (r : Fin 512), x = ix2 a r := ⟨x 0, x 1, eq_ix2 x⟩
    rw [show y 0 = a from Fin.ext h0]
    have h1' : (y 1).val = 2560 + r.val := h1
    exact (pay22_at x2 (hn x0 x1) a r).trans (congrArg Ideal.logistic (mm_at x0 x1 x2 a 0 _ _ fun k => congrArg x2 ((ix2_inj ..).2 ⟨rfl, Fin.ext (by dsimp only; omega)⟩)))
  · obtain ⟨a, r, rfl⟩ : ∃ (a : Fin 512) (r : Fin 512), x = ix2 a r := ⟨x 0, x 1, eq_ix2 x⟩
    rw [show y 0 = a from Fin.ext h0]
    have h1' : (y 1).val = 2048 + r.val := h1
    exact (pay21_at x2 (hn x0 x1) a r).trans (congrArg Ideal.logistic (mm_at x0 x1 x2 a 0 _ _ fun k => congrArg x2 ((ix2_inj ..).2 ⟨rfl, Fin.ext (by dsimp only; omega)⟩)))
  · obtain ⟨a, r, rfl⟩ : ∃ (a : Fin 512) (r : Fin 512), x = ix2 a r := ⟨x 0, x 1, eq_ix2 x⟩
    rw [show y 0 = a from Fin.ext h0]
    have h1' : (y 1).val = 1536 + r.val := h1
    exact (pay20_at x2 (hn x0 x1) a r).trans (congrArg Ideal.logistic (mm_at x0 x1 x2 a 0 _ _ fun k => congrArg x2 ((ix2_inj ..).2 ⟨rfl, Fin.ext (by dsimp only; omega)⟩)))
  · obtain ⟨a, r, rfl⟩ : ∃ (a : Fin 512) (r : Fin 512), x = ix2 a r := ⟨x 0, x 1, eq_ix2 x⟩
    rw [show y 0 = a from Fin.ext h0]
    have h1' : (y 1).val = 1024 + r.val := h1
    exact (pay19_at x2 (hn x0 x1) a r).trans (congrArg Ideal.logistic (mm_at x0 x1 x2 a 0 _ _ fun k => congrArg x2 ((ix2_inj ..).2 ⟨rfl, Fin.ext (by dsimp only; omega)⟩)))
  · obtain ⟨a, r, rfl⟩ : ∃ (a : Fin 512) (r : Fin 512), x = ix2 a r := ⟨x 0, x 1, eq_ix2 x⟩
    rw [show y 0 = a from Fin.ext h0]
    have h1' : (y 1).val = 512 + r.val := h1
    exact (pay17_at x2 (hn x0 x1) a r).trans (congrArg Ideal.logistic (mm_at x0 x1 x2 a 0 _ _ fun k => congrArg x2 ((ix2_inj ..).2 ⟨rfl, Fin.ext (by dsimp only; omega)⟩)))
  · obtain ⟨a, r, rfl⟩ : ∃ (a : Fin 512) (r : Fin 512), x = ix2 a r := ⟨x 0, x 1, eq_ix2 x⟩
    rw [show y 0 = a from Fin.ext h0]
    have h1' : (y 1).val = r.val := h1
    exact (pay16_at x2 (hn x0 x1) a r).trans (congrArg Ideal.logistic (mm_at x0 x1 x2 a 0 _ _ fun k => congrArg x2 ((ix2_inj ..).2 ⟨rfl, Fin.ext (by dsimp only; omega)⟩)))

end Cert.Proof.Prj
end
-- ==== Proof.PrjEntry.lean ====
/- The input projection's results, over the arguments. -/
module

public import proofs.«01_k».proof.Proof.PrjArr
public import proofs.«01_k».proof.Proof.PrjOut
public import Idealize.ShloMosaic.Lib.Claim

@[expose] public section

set_option maxRecDepth 16384

noncomputable section

namespace Cert.Proof.Prj

open Cert.Kernel5Ideal Cert.Kernel5Ideal.Gen
open Idealize.ShloMosaic Idealize.ShloMosaic.TcCoe Idealize.ShloMosaic.Tactic
open Idealize.SL.Sem Cert.Proof.Ffn

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_9.index t = ![t.val, 0] ∧ win0_10.index t = ![t.val, 0]
    ∧ win0_11.index t = ![t.val / 4, 0, t.val % 4] ∧ win0_12.index t = ![t.val / 4, 0, t.val % 4] ∧ win0_16.index t = ![t.val, 0] ∧ win0_17.index t = ![t.val, 0] :=
  (by decide +kernel : ∀ t : Fin grid0.N, _)

theorem tlt (t : Fin cfg0.N) : t.val < 64 := lt_of_lt_of_le t.isLt (by decide +kernel)

/-- The row a grid point's `a`th row is. -/
def rowOf (t : Fin cfg0.N) (a : Fin 512) : Fin 32768 := ⟨t.val * 512 + a.val, by have := tlt t; omega⟩

abbrev bx (c : Dev nD) (t : Fin cfg0.N) : FVec Ideal S512x1024 .f32 := iblk m c 0 t
abbrev bg (c : Dev nD) (t : Fin cfg0.N) : FVec Ideal S1x1024 .f32 := iblk m c 1 t
abbrev bw (c : Dev nD) (t : Fin cfg0.N) : FVec Ideal S1024x6272 .bf16 := iblk m c 2 t

theorem bx_at (c : Dev nD) (t : Fin cfg0.N) (a : Fin 512) (k : Fin 1024) : bx m c t (ix2 a k) = shapeCast S32768x1024 (argX m c) shapeCasts_S16x2048x1024_S32768x1024 (ix2 (rowOf t a) k) := by
  rw [← V31]
  blk_point [bx, iblk, V, idx t, rowOf]
theorem bg_at (c : Dev nD) (t : Fin cfg0.N) (k : Fin 1024) : bg m c t (ix2 0 k) = shapeCast S1x1024 (argG m c) shapeCasts_S1024_S1x1024 (ix2 0 k) := by
  rw [← V32]
  blk_point [bg, iblk, V, idx t, rowOf]
theorem bw_at (c : Dev nD) (t : Fin cfg0.N) (k : Fin 1024) (j : Fin 6272) : bw m c t (ix2 k j) = wV (argW m c) (ix2 k j) := by
  rw [← V58]
  blk_point [bw, iblk, V, idx t, rowOf]

theorem xrow (X : FVec Ideal S16x2048x1024 .f32) (r : Fin 32768) (k : Fin 1024) :
    shapeCast S32768x1024 X shapeCasts_S16x2048x1024_S32768x1024 (ix2 r k) = X (ix3 ⟨r.val / 2048, by omega⟩ ⟨r.val % 2048, by omega⟩ k) := by
  pointwise
theorem grow (G : FVec Ideal S1024 .f32) (k : Fin 1024) : shapeCast S1x1024 G shapeCasts_S1024_S1x1024 (ix2 0 k) = G (ix1 k) := by
  pointwise

/-- One entry of the projection by the laid-out weights. -/
def pc (X : FVec Ideal S16x2048x1024 .f32) (G : FVec Ideal S1024 .f32) (W : FVec Ideal S1024x5962 .f32) (b : Fin 16) (s : Fin 2048) (j : Fin 6272) : EReal :=
  prj (fun k => X (ix3 b s k)) (fun k => G (ix1 k)) (fun k => wV W (ix2 k j))

theorem prjB_eq (c : Dev nD) (t : Fin cfg0.N) (a : Fin 512) (j : Fin 6272) : prjB (bx m c t) (bg m c t) (bw m c t) a j
    = pc (argX m c) (argG m c) (argW m c) ⟨(rowOf t a).val / 2048, by have := (rowOf t a).isLt; omega⟩ ⟨(rowOf t a).val % 2048, by omega⟩ j := by
  unfold prjB pc
  simp only [bx_at, bg_at, bw_at, xrow, grow]

/-- The same by batch entry and position. -/
theorem prjB_eq3 (c : Dev nD) (t : Fin cfg0.N) (a : Fin 512) (j : Fin 6272) : prjB (bx m c t) (bg m c t) (bw m c t) a j
    = pc (argX m c) (argG m c) (argW m c) ⟨t.val / 4, by have := tlt t; omega⟩ ⟨t.val % 4 * 512 + a.val, by omega⟩ j := by
  refine (prjB_eq m c t a j).trans (congrArg₂ (fun b s => pc (argX m c) (argG m c) (argW m c) b s j) (Fin.ext ?_) (Fin.ext ?_))
  · show (t.val * 512 + a.val) / 2048 = t.val / 4
    omega
  · show (t.val * 512 + a.val) % 2048 = t.val % 4 * 512 + a.val
    omega

/-- What output window 9 holds in the end. -/
def F9 (X : FVec Ideal S16x2048x1024 .f32) (G : FVec Ideal S1024 .f32) (W : FVec Ideal S1024x5962 .f32) : FVec Ideal S32768x768 .bf16 := fun y =>
   (pc X G W ⟨(y 0).val / 2048, by have : (y 0).val < 32768 := (y 0).isLt; omega⟩ ⟨(y 0).val % 2048, by omega⟩ ⟨0 + (y 1).val, by have : (y 1).val < 768 := (y 1).isLt; omega⟩)

set_option maxHeartbeats 1000000 in
theorem final9 (c : Dev nD) : (dats m 0 c).arrAt 9 cfg0.N = F9 (argX m c) (argG m c) (argW m c) := by
  refine (dats m 0 c).arrAt_eq_of_covers 9 _ (by decide +kernel) fun t _ y => ?_
  blk_simp
  rw [after0_9]
  refine (out9_at (bx m c t) (bg m c t) (bw m c t) _ _ _ _ _ _ y).trans (Eq.trans (b := (F9 (argX m c) (argG m c) (argW m c) (ix2 (rowOf t (y 0)) (y 1)))) (prjB_eq m c t (y 0) _) ?_)
  refine congrArg _ ?_
  blk_ext [idx t, rowOf]

/-- What output window 10 holds in the end. -/
def F10 (X : FVec Ideal S16x2048x1024 .f32) (G : FVec Ideal S1024 .f32) (W : FVec Ideal S1024x5962 .f32) : FVec Ideal S32768x768 .bf16 := fun y =>
   (pc X G W ⟨(y 0).val / 2048, by have : (y 0).val < 32768 := (y 0).isLt; omega⟩ ⟨(y 0).val % 2048, by omega⟩ ⟨1152 + (y 1).val, by have : (y 1).val < 768 := (y 1).isLt; omega⟩)

set_option maxHeartbeats 1000000 in
theorem final10 (c : Dev nD) : (dats m 0 c).arrAt 10 cfg0.N = F10 (argX m c) (argG m c) (argW m c) := by
  refine (dats m 0 c).arrAt_eq_of_covers 10 _ (by decide +kernel) fun t _ y => ?_
  blk_simp
  rw [after0_10]
  refine (out10_at (bx m c t) (bg m c t) (bw m c t) _ _ _ _ _ _ y).trans (Eq.trans (b := (F10 (argX m c) (argG m c) (argW m c) (ix2 (rowOf t (y 0)) (y 1)))) (prjB_eq m c t (y 0) _) ?_)
  refine congrArg _ ?_
  blk_ext [idx t, rowOf]

/-- What output window 11 holds in the end. -/
def F11 (X : FVec Ideal S16x2048x1024 .f32) (G : FVec Ideal S1024 .f32) (W : FVec Ideal S1024x5962 .f32) : FVec Ideal S16x384x2048 .bf16 := fun y =>
  pc X G W (y 0) (y 2) ⟨768 + (y 1).val, by have : (y 1).val < 384 := (y 1).isLt; omega⟩

set_option maxHeartbeats 1000000 in
theorem final11 (c : Dev nD) : (dats m 0 c).arrAt 11 cfg0.N = F11 (argX m c) (argG m c) (argW m c) := by
  refine (dats m 0 c).arrAt_eq_of_covers 11 _ (by decide +kernel) fun t _ y => ?_
  blk_simp
  rw [after0_11]
  refine (out11_at (bx m c t) (bg m c t) (bw m c t) _ _ _ _ _ _ y).trans (Eq.trans (b := (F11 (argX m c) (argG m c) (argW m c) (ix3 ⟨t.val / 4, by have := tlt t; omega⟩ (y 1) ⟨t.val % 4 * 512 + (y 2).val, by have : (y 2).val < 512 := (y 2).isLt; omega⟩))) (prjB_eq3 m c t (y 2) _) ?_)
  refine congrArg _ ?_
  blk_ext [idx t, rowOf]

/-- What output window 12 holds in the end. -/
def F12 (X : FVec Ideal S16x2048x1024 .f32) (G : FVec Ideal S1024 .f32) (W : FVec Ideal S1024x5962 .f32) : FVec Ideal S16x384x2048 .bf16 := fun y =>
  pc X G W (y 0) (y 2) ⟨1920 + (y 1).val, by have : (y 1).val < 384 := (y 1).isLt; omega⟩

set_option maxHeartbeats 1000000 in
theorem final12 (c : Dev nD) : (dats m 0 c).arrAt 12 cfg0.N = F12 (argX m c) (argG m c) (argW m c) := by
  refine (dats m 0 c).arrAt_eq_of_covers 12 _ (by decide +kernel) fun t _ y => ?_
  blk_simp
  rw [after0_12]
  refine (out12_at (bx m c t) (bg m c t) (bw m c t) _ _ _ _ _ _ y).trans (Eq.trans (b := (F12 (argX m c) (argG m c) (argW m c) (ix3 ⟨t.val / 4, by have := tlt t; omega⟩ (y 1) ⟨t.val % 4 * 512 + (y 2).val, by have : (y 2).val < 512 := (y 2).isLt; omega⟩))) (prjB_eq3 m c t (y 2) _) ?_)
  refine congrArg _ ?_
  blk_ext [idx t, rowOf]

/-- What output window 16 holds in the end. -/
def F16 (X : FVec Ideal S16x2048x1024 .f32) (G : FVec Ideal S1024 .f32) (W : FVec Ideal S1024x5962 .f32) : FVec Ideal S32768x128 .f32 := fun y =>
   (pc X G W ⟨(y 0).val / 2048, by have : (y 0).val < 32768 := (y 0).isLt; omega⟩ ⟨(y 0).val % 2048, by omega⟩ ⟨3072 + (y 1).val, by have : (y 1).val < 128 := (y 1).isLt; omega⟩)

set_option maxHeartbeats 1000000 in
theorem final16 (c : Dev nD) : (dats m 0 c).arrAt 16 cfg0.N = F16 (argX m c) (argG m c) (argW m c) := by
  refine (dats m 0 c).arrAt_eq_of_covers 16 _ (by decide +kernel) fun t _ y => ?_
  blk_simp
  rw [after0_16]
  refine (out16_at (bx m c t) (bg m c t) (bw m c t) _ _ _ _ _ _ y).trans (Eq.trans (b := (F16 (argX m c) (argG m c) (argW m c) (ix2 (rowOf t (y 0)) (y 1)))) (prjB_eq m c t (y 0) _) ?_)
  refine congrArg _ ?_
  blk_ext [idx t, rowOf]

/-- What output window 17 holds in the end. -/
def F17 (X : FVec Ideal S16x2048x1024 .f32) (G : FVec Ideal S1024 .f32) (W : FVec Ideal S1024x5962 .f32) : FVec Ideal S32768x3072 .bf16 := fun y =>
  Ideal.logistic (pc X G W ⟨(y 0).val / 2048, by have : (y 0).val < 32768 := (y 0).isLt; omega⟩ ⟨(y 0).val % 2048, by omega⟩ ⟨3200 + (y 1).val, by have : (y 1).val < 3072 := (y 1).isLt; omega⟩)

set_option maxHeartbeats 1000000 in
theorem final17 (c : Dev nD) : (dats m 0 c).arrAt 17 cfg0.N = F17 (argX m c) (argG m c) (argW m c) := by
  refine (dats m 0 c).arrAt_eq_of_covers 17 _ (by decide +kernel) fun t _ y => ?_
  blk_simp
  rw [after0_17]
  refine (out17_at (bx m c t) (bg m c t) (bw m c t) _ _ _ _ _ _ y).trans (Eq.trans (b := (F17 (argX m c) (argG m c) (argW m c) (ix2 (rowOf t (y 0)) (y 1)))) (congrArg Ideal.logistic (prjB_eq m c t (y 0) _)) ?_)
  refine congrArg _ ?_
  blk_ext [idx t, rowOf]

end Cert.Proof.Prj
end
-- ==== Proof.PrjCols.lean ====
/- The laid-out weights, column by column. -/
module

public import proofs.«01_k».proof.Proof.PrjArr
public import Idealize.ShloMosaic.Lib.Claim

@[expose] public section

set_option maxRecDepth 16384

noncomputable section

namespace Cert.Proof.Prj

open Cert.Kernel5Ideal Cert.Kernel5Ideal.Gen
open Idealize.ShloMosaic Idealize.ShloMosaic.TcCoe Idealize.ShloMosaic.Tactic
open Idealize.SL.Sem Cert.Proof.Ffn

variable (W : FVec Ideal S1024x5962 .f32) (k : Fin 1024)

section
variable (p0 : FVec Ideal S1024x384 .f32) (p1 : FVec Ideal S1024x384 .f32) (p2 : FVec Ideal S1024x384 .f32) (p3 : FVec Ideal S1024x384 .f32) (p4 : FVec Ideal S1024x384 .f32) (p5 : FVec Ideal S1024x384 .f32) (p6 : FVec Ideal S1024x320 .f32) (p7 : FVec Ideal S1024x256 .f32) (p8 : FVec Ideal S1024x64 .f32) (p9 : FVec Ideal S1024x128 .f32) (p10 : FVec Ideal S1024x6 .f32) (p11 : FVec Ideal S1024x2 .f32) (p12 : FVec Ideal S1024x4 .f32) (p13 : FVec Ideal S1024x116 .f32) (p14 : FVec Ideal S1024x3072 .f32) (k : Fin 1024)

theorem cat0 (j : Fin 6272) (i : Fin 384) (h : j.val = 0 + i.val) : wCat p0 p1 p2 p3 p4 p5 p6 p7 p8 p9 p10 p11 p12 p13 p14 (ix2 k j) = p0 (ix2 k i) := by
  refine concatenate_apply_piece (t := S1024x6272) 1 _ _ (ix2 k j) 0 (by show 0 < 15; omega) S1024x384 p0 rfl rfl 0 rfl (ix2 k i) (fun b hb => ?_) h.symm
  match b, hb with
  | 0, _ => rfl
  | 1, hb => exact absurd rfl hb
theorem cat1 (j : Fin 6272) (i : Fin 384) (h : j.val = 384 + i.val) : wCat p0 p1 p2 p3 p4 p5 p6 p7 p8 p9 p10 p11 p12 p13 p14 (ix2 k j) = p1 (ix2 k i) := by
  refine concatenate_apply_piece (t := S1024x6272) 1 _ _ (ix2 k j) 1 (by show 1 < 15; omega) S1024x384 p1 rfl rfl 384 rfl (ix2 k i) (fun b hb => ?_) h.symm
  match b, hb with
  | 0, _ => rfl
  | 1, hb => exact absurd rfl hb
theorem cat2 (j : Fin 6272) (i : Fin 384) (h : j.val = 768 + i.val) : wCat p0 p1 p2 p3 p4 p5 p6 p7 p8 p9 p10 p11 p12 p13 p14 (ix2 k j) = p2 (ix2 k i) := by
  refine concatenate_apply_piece (t := S1024x6272) 1 _ _ (ix2 k j) 2 (by show 2 < 15; omega) S1024x384 p2 rfl rfl 768 rfl (ix2 k i) (fun b hb => ?_) h.symm
  match b, hb with
  | 0, _ => rfl
  | 1, hb => exact absurd rfl hb
theorem cat3 (j : Fin 6272) (i : Fin 384) (h : j.val = 1152 + i.val) : wCat p0 p1 p2 p3 p4 p5 p6 p7 p8 p9 p10 p11 p12 p13 p14 (ix2 k j) = p3 (ix2 k i) := by
  refine concatenate_apply_piece (t := S1024x6272) 1 _ _ (ix2 k j) 3 (by show 3 < 15; omega) S1024x384 p3 rfl rfl 1152 rfl (ix2 k i) (fun b hb => ?_) h.symm
  match b, hb with
  | 0, _ => rfl
  | 1, hb => exact absurd rfl hb
theorem cat4 (j : Fin 6272) (i : Fin 384) (h : j.val = 1536 + i.val) : wCat p0 p1 p2 p3 p4 p5 p6 p7 p8 p9 p10 p11 p12 p13 p14 (ix2 k j) = p4 (ix2 k i) := by
  refine concatenate_apply_piece (t := S1024x6272) 1 _ _ (ix2 k j) 4 (by show 4 < 15; omega) S1024x384 p4 rfl rfl 1536 rfl (ix2 k i) (fun b hb => ?_) h.symm
  match b, hb with
  | 0, _ => rfl
  | 1, hb => exact absurd rfl hb
theorem cat5 (j : Fin 6272) (i : Fin 384) (h : j.val = 1920 + i.val) : wCat p0 p1 p2 p3 p4 p5 p6 p7 p8 p9 p10 p11 p12 p13 p14 (ix2 k j) = p5 (ix2 k i) := by
  refine concatenate_apply_piece (t := S1024x6272) 1 _ _ (ix2 k j) 5 (by show 5 < 15; omega) S1024x384 p5 rfl rfl 1920 rfl (ix2 k i) (fun b hb => ?_) h.symm
  match b, hb with
  | 0, _ => rfl
  | 1, hb => exact absurd rfl hb
theorem cat6 (j : Fin 6272) (i : Fin 320) (h : j.val = 2304 + i.val) : wCat p0 p1 p2 p3 p4 p5 p6 p7 p8 p9 p10 p11 p12 p13 p14 (ix2 k j) = p6 (ix2 k i) := by
  refine concatenate_apply_piece (t := S1024x6272) 1 _ _ (ix2 k j) 6 (by show 6 < 15; omega) S1024x320 p6 rfl rfl 2304 rfl (ix2 k i) (fun b hb => ?_) h.symm
  match b, hb with
  | 0, _ => rfl
  | 1, hb => exact absurd rfl hb
theorem cat7 (j : Fin 6272) (i : Fin 256) (h : j.val = 2624 + i.val) : wCat p0 p1 p2 p3 p4 p5 p6 p7 p8 p9 p10 p11 p12 p13 p14 (ix2 k j) = p7 (ix2 k i) := by
  refine concatenate_apply_piece (t := S1024x6272) 1 _ _ (ix2 k j) 7 (by show 7 < 15; omega) S1024x256 p7 rfl rfl 2624 rfl (ix2 k i) (fun b hb => ?_) h.symm
  match b, hb with
  | 0, _ => rfl
  | 1, hb => exact absurd rfl hb
theorem cat8 (j : Fin 6272) (i : Fin 64) (h : j.val = 2880 + i.val) : wCat p0 p1 p2 p3 p4 p5 p6 p7 p8 p9 p10 p11 p12 p13 p14 (ix2 k j) = p8 (ix2 k i) := by
  refine concatenate_apply_piece (t := S1024x6272) 1 _ _ (ix2 k j) 8 (by show 8 < 15; omega) S1024x64 p8 rfl rfl 2880 rfl (ix2 k i) (fun b hb => ?_) h.symm
  match b, hb with
  | 0, _ => rfl
  | 1, hb => exact absurd rfl hb
theorem cat9 (j : Fin 6272) (i : Fin 128) (h : j.val = 2944 + i.val) : wCat p0 p1 p2 p3 p4 p5 p6 p7 p8 p9 p10 p11 p12 p13 p14 (ix2 k j) = p9 (ix2 k i) := by
  refine concatenate_apply_piece (t := S1024x6272) 1 _ _ (ix2 k j) 9 (by show 9 < 15; omega) S1024x128 p9 rfl rfl 2944 rfl (ix2 k i) (fun b hb => ?_) h.symm
  match b, hb with
  | 0, _ => rfl
  | 1, hb => exact absurd rfl hb
theorem cat10 (j : Fin 6272) (i : Fin 6) (h : j.val = 3072 + i.val) : wCat p0 p1 p2 p3 p4 p5 p6 p7 p8 p9 p10 p11 p12 p13 p14 (ix2 k j) = p10 (ix2 k i) := by
  refine concatenate_apply_piece (t := S1024x6272) 1 _ _ (ix2 k j) 10 (by show 10 < 15; omega) S1024x6 p10 rfl rfl 3072 rfl (ix2 k i) (fun b hb => ?_) h.symm
  match b, hb with
  | 0, _ => rfl
  | 1, hb => exact absurd rfl hb
theorem cat11 (j : Fin 6272) (i : Fin 2) (h : j.val = 3078 + i.val) : wCat p0 p1 p2 p3 p4 p5 p6 p7 p8 p9 p10 p11 p12 p13 p14 (ix2 k j) = p11 (ix2 k i) := by
  refine concatenate_apply_piece (t := S1024x6272) 1 _ _ (ix2 k j) 11 (by show 11 < 15; omega) S1024x2 p11 rfl rfl 3078 rfl (ix2 k i) (fun b hb => ?_) h.symm
  match b, hb with
  | 0, _ => rfl
  | 1, hb => exact absurd rfl hb
set_option maxHeartbeats 2000000 in
theorem cat12 (j : Fin 6272) (i : Fin 4) (h : j.val = 3080 + i.val) : wCat p0 p1 p2 p3 p4 p5 p6 p7 p8 p9 p10 p11 p12 p13 p14 (ix2 k j) = p12 (ix2 k i) := by
  refine concatenate_apply_piece (t := S1024x6272) 1 _ _ (ix2 k j) 12 (by show 12 < 15; omega) S1024x4 p12 rfl rfl 3080 rfl (ix2 k i) (fun b hb => ?_) h.symm
  match b, hb with
  | 0, _ => rfl
  | 1, hb => exact absurd rfl hb
set_option maxHeartbeats 2000000 in
theorem cat13 (j : Fin 6272) (i : Fin 116) (h : j.val = 3084 + i.val) : wCat p0 p1 p2 p3 p4 p5 p6 p7 p8 p9 p10 p11 p12 p13 p14 (ix2 k j) = p13 (ix2 k i) := by
  refine concatenate_apply_piece (t := S1024x6272) 1 _ _ (ix2 k j) 13 (by show 13 < 15; omega) S1024x116 p13 rfl rfl 3084 rfl (ix2 k i) (fun b hb => ?_) h.symm
  match b, hb with
  | 0, _ => rfl
  | 1, hb => exact absurd rfl hb
set_option maxHeartbeats 2000000 in
theorem cat14 (j : Fin 6272) (i : Fin 3072) (h : j.val = 3200 + i.val) : wCat p0 p1 p2 p3 p4 p5 p6 p7 p8 p9 p10 p11 p12 p13 p14 (ix2 k j) = p14 (ix2 k i) := by
  refine concatenate_apply_piece (t := S1024x6272) 1 _ _ (ix2 k j) 14 (by show 14 < 15; omega) S1024x3072 p14 rfl rfl 3200 rfl (ix2 k i) (fun b hb => ?_) h.symm
  match b, hb with
  | 0, _ => rfl
  | 1, hb => exact absurd rfl hb
end

variable (W : FVec Ideal S1024x5962 .f32) (k : Fin 1024)

theorem w0_at (i : Fin 384) : wV W (ix2 k ⟨i.val, by omega⟩) = W (ix2 k ⟨i.val, by omega⟩) * sc := by
  refine (cat0 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP0]
theorem w0 (j : Fin 6272) (h0 : 0 ≤ j.val) (h1 : j.val < 384) : wV W (ix2 k j) = W (ix2 k ⟨(j.val - 0), by omega⟩) * sc :=
  (congrArg (fun j => wV W (ix2 k j)) (Fin.ext rfl : j = ⟨j.val - 0, by omega⟩)).trans (w0_at W k  ⟨j.val - 0, by omega⟩)

theorem w384_at (i : Fin 384) : wV W (ix2 k ⟨384 + i.val, by omega⟩) = W (ix2 k ⟨384 + i.val, by omega⟩) := by
  refine (cat1 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP1]
theorem w384 (j : Fin 6272) (h0 : 384 ≤ j.val) (h1 : j.val < 768) : wV W (ix2 k j) = W (ix2 k ⟨384 + (j.val - 384), by omega⟩) :=
  (congrArg (fun j => wV W (ix2 k j)) (Fin.ext (by dsimp only; omega) : j = ⟨384 + (j.val - 384), by omega⟩)).trans (w384_at W k  ⟨j.val - 384, by omega⟩)

theorem w768_at (i : Fin 384) : wV W (ix2 k ⟨768 + i.val, by omega⟩) = W (ix2 k ⟨768 + i.val, by omega⟩) := by
  refine (cat2 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP2]
theorem w768 (j : Fin 6272) (h0 : 768 ≤ j.val) (h1 : j.val < 1152) : wV W (ix2 k j) = W (ix2 k ⟨768 + (j.val - 768), by omega⟩) :=
  (congrArg (fun j => wV W (ix2 k j)) (Fin.ext (by dsimp only; omega) : j = ⟨768 + (j.val - 768), by omega⟩)).trans (w768_at W k  ⟨j.val - 768, by omega⟩)

theorem w1152_at (i : Fin 320) : wV W (ix2 k ⟨1152 + i.val, by omega⟩) = W (ix2 k ⟨1158 + i.val, by omega⟩) * sc := by
  refine (cat3 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP3]
theorem w1152 (j : Fin 6272) (h0 : 1152 ≤ j.val) (h1 : j.val < 1472) : wV W (ix2 k j) = W (ix2 k ⟨1158 + (j.val - 1152), by omega⟩) * sc :=
  (congrArg (fun j => wV W (ix2 k j)) (Fin.ext (by dsimp only; omega) : j = ⟨1152 + (j.val - 1152), by omega⟩)).trans (w1152_at W k  ⟨j.val - 1152, by omega⟩)

theorem w1472_at (i : Fin 64) : wV W (ix2 k ⟨1472 + i.val, by omega⟩) = 0 := by
  refine (cat3 (wP0 W) (wP1 W) (wP2 W) (wP3 W) (wP4 W) (wP5 W) (wP6 W) (wP7 W) (wP8 W) (wP9 W) (wP10 W) wP11 (wP12 W) wP13 (wP14 W) k _ ⟨320 + i.val, by omega⟩ (by first | omega | (dsimp only; omega) | rfl)).trans ?_
  pointwise [wP3]
  try refine (dif_neg (by omega)).trans ?_
  show (((0#32 : BitVec 32).toInt : ℝ) : EReal) = 0
  simp
theorem w1472 (j : Fin 6272) (h0 : 1472 ≤ j.val) (h1 : j.val < 1536) : wV W (ix2 k j) = 0 :=
  (congrArg (fun j => wV W (ix2 k j)) (Fin.ext (by dsimp only; omega) : j = ⟨1472 + (j.val - 1472), by omega⟩)).trans (w1472_at W k  ⟨j.val - 1472, by omega⟩)

theorem w1536_at (i : Fin 320) : wV W (ix2 k ⟨1536 + i.val, by omega⟩) = W (ix2 k ⟨1478 + i.val, by omega⟩) := by
  refine (cat4 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP4]
theorem w1536 (j : Fin 6272) (h0 : 1536 ≤ j.val) (h1 : j.val < 1856) : wV W (ix2 k j) = W (ix2 k ⟨1478 + (j.val - 1536), by omega⟩) :=
  (congrArg (fun j => wV W (ix2 k j)) (Fin.ext (by dsimp only; omega) : j = ⟨1536 + (j.val - 1536), by omega⟩)).trans (w1536_at W k  ⟨j.val - 1536, by omega⟩)

theorem w1856_at (i : Fin 64) : wV W (ix2 k ⟨1856 + i.val, by omega⟩) = 0 := by
  refine (cat4 (wP0 W) (wP1 W) (wP2 W) (wP3 W) (wP4 W) (wP5 W) (wP6 W) (wP7 W) (wP8 W) (wP9 W) (wP10 W) wP11 (wP12 W) wP13 (wP14 W) k _ ⟨320 + i.val, by omega⟩ (by first | omega | (dsimp only; omega) | rfl)).trans ?_
  pointwise [wP4]
  try refine (dif_neg (by omega)).trans ?_
  show (((0#32 : BitVec 32).toInt : ℝ) : EReal) = 0
  simp
theorem w1856 (j : Fin 6272) (h0 : 1856 ≤ j.val) (h1 : j.val < 1920) : wV W (ix2 k j) = 0 :=
  (congrArg (fun j => wV W (ix2 k j)) (Fin.ext (by dsimp only; omega) : j = ⟨1856 + (j.val - 1856), by omega⟩)).trans (w1856_at W k  ⟨j.val - 1856, by omega⟩)

theorem w1920_at (i : Fin 320) : wV W (ix2 k ⟨1920 + i.val, by omega⟩) = W (ix2 k ⟨1798 + i.val, by omega⟩) := by
  refine (cat5 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP5]
theorem w1920 (j : Fin 6272) (h0 : 1920 ≤ j.val) (h1 : j.val < 2240) : wV W (ix2 k j) = W (ix2 k ⟨1798 + (j.val - 1920), by omega⟩) :=
  (congrArg (fun j => wV W (ix2 k j)) (Fin.ext (by dsimp only; omega) : j = ⟨1920 + (j.val - 1920), by omega⟩)).trans (w1920_at W k  ⟨j.val - 1920, by omega⟩)

theorem w2240_at (i : Fin 64) : wV W (ix2 k ⟨2240 + i.val, by omega⟩) = 0 := by
  refine (cat5 (wP0 W) (wP1 W) (wP2 W) (wP3 W) (wP4 W) (wP5 W) (wP6 W) (wP7 W) (wP8 W) (wP9 W) (wP10 W) wP11 (wP12 W) wP13 (wP14 W) k _ ⟨320 + i.val, by omega⟩ (by first | omega | (dsimp only; omega) | rfl)).trans ?_
  pointwise [wP5]
  try refine (dif_neg (by omega)).trans ?_
  show (((0#32 : BitVec 32).toInt : ℝ) : EReal) = 0
  simp
theorem w2240 (j : Fin 6272) (h0 : 2240 ≤ j.val) (h1 : j.val < 2304) : wV W (ix2 k j) = 0 :=
  (congrArg (fun j => wV W (ix2 k j)) (Fin.ext (by dsimp only; omega) : j = ⟨2240 + (j.val - 2240), by omega⟩)).trans (w2240_at W k  ⟨j.val - 2240, by omega⟩)

theorem w2304_at (i : Fin 320) : wV W (ix2 k ⟨2304 + i.val, by omega⟩) = W (ix2 k ⟨2118 + i.val, by omega⟩) * sc := by
  refine (cat6 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP6]
theorem w2304 (j : Fin 6272) (h0 : 2304 ≤ j.val) (h1 : j.val < 2624) : wV W (ix2 k j) = W (ix2 k ⟨2118 + (j.val - 2304), by omega⟩) * sc :=
  (congrArg (fun j => wV W (ix2 k j)) (Fin.ext (by dsimp only; omega) : j = ⟨2304 + (j.val - 2304), by omega⟩)).trans (w2304_at W k  ⟨j.val - 2304, by omega⟩)

theorem w2624_at (i : Fin 256) : wV W (ix2 k ⟨2624 + i.val, by omega⟩) = W (ix2 k ⟨2566 + i.val, by omega⟩) := by
  refine (cat7 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP7]
theorem w2624 (j : Fin 6272) (h0 : 2624 ≤ j.val) (h1 : j.val < 2880) : wV W (ix2 k j) = W (ix2 k ⟨2566 + (j.val - 2624), by omega⟩) :=
  (congrArg (fun j => wV W (ix2 k j)) (Fin.ext (by dsimp only; omega) : j = ⟨2624 + (j.val - 2624), by omega⟩)).trans (w2624_at W k  ⟨j.val - 2624, by omega⟩)

theorem w2880_at (i : Fin 64) : wV W (ix2 k ⟨2880 + i.val, by omega⟩) = W (ix2 k ⟨2822 + i.val, by omega⟩) := by
  refine (cat8 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP8]
theorem w2880 (j : Fin 6272) (h0 : 2880 ≤ j.val) (h1 : j.val < 2944) : wV W (ix2 k j) = W (ix2 k ⟨2822 + (j.val - 2880), by omega⟩) :=
  (congrArg (fun j => wV W (ix2 k j)) (Fin.ext (by dsimp only; omega) : j = ⟨2880 + (j.val - 2880), by omega⟩)).trans (w2880_at W k  ⟨j.val - 2880, by omega⟩)

theorem w2944_at (i : Fin 128) : wV W (ix2 k ⟨2944 + i.val, by omega⟩) = W (ix2 k ⟨2438 + i.val, by omega⟩) := by
  refine (cat9 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP9]
theorem w2944 (j : Fin 6272) (h0 : 2944 ≤ j.val) (h1 : j.val < 3072) : wV W (ix2 k j) = W (ix2 k ⟨2438 + (j.val - 2944), by omega⟩) :=
  (congrArg (fun j => wV W (ix2 k j)) (Fin.ext (by dsimp only; omega) : j = ⟨2944 + (j.val - 2944), by omega⟩)).trans (w2944_at W k  ⟨j.val - 2944, by omega⟩)

theorem w3072_at (i : Fin 6) : wV W (ix2 k ⟨3072 + i.val, by omega⟩) = W (ix2 k ⟨1152 + i.val, by omega⟩) := by
  refine (cat10 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP10]
theorem w3072 (j : Fin 6272) (h0 : 3072 ≤ j.val) (h1 : j.val < 3078) : wV W (ix2 k j) = W (ix2 k ⟨1152 + (j.val - 3072), by omega⟩) :=
  (congrArg (fun j => wV W (ix2 k j)) (Fin.ext (by dsimp only; omega) : j = ⟨3072 + (j.val - 3072), by omega⟩)).trans (w3072_at W k  ⟨j.val - 3072, by omega⟩)

theorem w3078_at (i : Fin 2) : wV W (ix2 k ⟨3078 + i.val, by omega⟩) = 0 := by
  refine (cat11 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP11]
theorem w3078 (j : Fin 6272) (h0 : 3078 ≤ j.val) (h1 : j.val < 3080) : wV W (ix2 k j) = 0 :=
  (congrArg (fun j => wV W (ix2 k j)) (Fin.ext (by dsimp only; omega) : j = ⟨3078 + (j.val - 3078), by omega⟩)).trans (w3078_at W k  ⟨j.val - 3078, by omega⟩)

theorem w3080_at (i : Fin 4) : wV W (ix2 k ⟨3080 + i.val, by omega⟩) = W (ix2 k ⟨2886 + i.val, by omega⟩) := by
  refine (cat12 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP12]
theorem w3080 (j : Fin 6272) (h0 : 3080 ≤ j.val) (h1 : j.val < 3084) : wV W (ix2 k j) = W (ix2 k ⟨2886 + (j.val - 3080), by omega⟩) :=
  (congrArg (fun j => wV W (ix2 k j)) (Fin.ext (by dsimp only; omega) : j = ⟨3080 + (j.val - 3080), by omega⟩)).trans (w3080_at W k  ⟨j.val - 3080, by omega⟩)

theorem w3084_at (i : Fin 116) : wV W (ix2 k ⟨3084 + i.val, by omega⟩) = 0 := by
  refine (cat13 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP13]
theorem w3084 (j : Fin 6272) (h0 : 3084 ≤ j.val) (h1 : j.val < 3200) : wV W (ix2 k j) = 0 :=
  (congrArg (fun j => wV W (ix2 k j)) (Fin.ext (by dsimp only; omega) : j = ⟨3084 + (j.val - 3084), by omega⟩)).trans (w3084_at W k  ⟨j.val - 3084, by omega⟩)

theorem w3200_at (i : Fin 3072) : wV W (ix2 k ⟨3200 + i.val, by omega⟩) = W (ix2 k ⟨2890 + i.val, by omega⟩) := by
  refine (cat14 (wP0 W) (wP1 W) (wP2 W) (wP3 W) (wP4 W) (wP5 W) (wP6 W) (wP7 W) (wP8 W) (wP9 W) (wP10 W) wP11 (wP12 W) wP13 (wP14 W) k _ ⟨i.val, by omega⟩ (by first | omega | (dsimp only; omega) | rfl)).trans ?_
  pointwise [wP14]
theorem w3200 (j : Fin 6272) (h0 : 3200 ≤ j.val) (h1 : j.val < 6272) : wV W (ix2 k j) = W (ix2 k ⟨2890 + (j.val - 3200), by omega⟩) :=
  (congrArg (fun j => wV W (ix2 k j)) (Fin.ext (by dsimp only; omega) : j = ⟨3200 + (j.val - 3200), by omega⟩)).trans (w3200_at W k  ⟨j.val - 3200, by omega⟩)

end Cert.Proof.Prj
end
-- ==== Proof.PrjRef.lean ====
/- The input projection's reference, its results read at an index. -/
module

public import proofs.«01_k».proof.Proof.PrjSpec
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Proof.PrjRef

open Cert.Reference5Ideal Cert.Reference5Ideal.Value Cert.Reference5Ideal.Gen
open Idealize.ShloMosaic Idealize.ShloMosaic.TcCoe Idealize.SL.Sem Cert.Proof.Ffn Cert.Proof.Prj

variable (X : FVec Ideal S16x2048x1024 .f32) (G : FVec Ideal S1024 .f32) (W : FVec Ideal S1024x5962 .f32)

/-- One entry of the projection. -/
def pj (b : Fin 16) (s : Fin 2048) (j : Fin 5962) : EReal :=
  prj (fun k => X (ix3 b s k)) (fun k => G (ix1 k)) (fun k => W (ix2 k j))

/-- The reference's projection. -/
def pR : FVec Ideal S16x2048x5962 .f32 :=
  Host.dotGeneral dot_S16x2048x1024_S1024x5962_S16x2048x5962_2_0_01_1_n_n none (mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant (F := Ideal) S_ .f32 0x00000000#32) reducesTo_S16x2048x1024_S16x2048_d2 h_S_)) (broadcastInDim S16x2048x1 ![] bcast_S_S16x2048x1 (constant (F := Ideal) S_ .f32 0x44800000#32))) (broadcastInDim S16x2048x1 ![] bcast_S_S16x2048x1 (constant (F := Ideal) S_ .f32 0x358637BD#32)))))) (broadcastInDim S16x2048x1024 ![0, 1, 2] bcast_S1x1x1024_S16x2048x1024_0_1_2 (broadcastInDim S1x1x1024 ![2] bcast_S1024_S1x1x1024_2 G))) W

theorem pR_at (b : Fin 16) (s : Fin 2048) (j : Fin 5962) : pR X G W (ix3 b s j) = pj X G W b s j := by
  unfold pj prj normRow
  pointwise [pR]

/-- Result 1. -/
def r31 : FVec Ideal S32768x768 .bf16 :=
  truncf .bf16 (shapeCast _ (concatenate S16x2048x768 2 [⟨S16x2048x384, (mulf (extractStridedSlice S16x2048x384 ![0, 0, 0] (pR X G W) slices_S16x2048x5962_S16x2048x384_0_0_0) (broadcastInDim S16x2048x384 ![] bcast_S_S16x2048x384 (constant (F := Ideal) S_ .f32 0x3E000000#32)))⟩, ⟨S16x2048x384, (extractStridedSlice S16x2048x384 ![0, 0, 384] (pR X G W) slices_S16x2048x5962_S16x2048x384_0_0_384)⟩] concatenates_S16x2048x384_S16x2048x384_S16x2048x768_d2) shapeCasts_S16x2048x768_S32768x768) bitsLt_bf16_f32

/-- Result 2. -/
def r38 : FVec Ideal S32768x768 .bf16 :=
  truncf .bf16 (shapeCast _ (concatenate S16x2048x768 2 [⟨S16x2048x384, (pad S16x2048x384 ![0, 0, 0] ![0, 0, 64] ![0, 0, 0] (mulf (extractStridedSlice S16x2048x320 ![0, 0, 1158] (pR X G W) slices_S16x2048x5962_S16x2048x320_0_0_1158) (broadcastInDim S16x2048x320 ![] bcast_S_S16x2048x320 (constant (F := Ideal) S_ .f32 0x3E000000#32))) (sitofp .f32 (constantI S_ 32 0#32)) pads_S16x2048x320_S16x2048x384_000_000_0640 h_S_)⟩, ⟨S16x2048x384, (pad S16x2048x384 ![0, 0, 0] ![0, 0, 64] ![0, 0, 0] (extractStridedSlice S16x2048x320 ![0, 0, 1478] (pR X G W) slices_S16x2048x5962_S16x2048x320_0_0_1478) (sitofp .f32 (constantI S_ 32 0#32)) pads_S16x2048x320_S16x2048x384_000_000_0640 h_S_)⟩] concatenates_S16x2048x384_S16x2048x384_S16x2048x768_d2) shapeCasts_S16x2048x768_S32768x768) bitsLt_bf16_f32

/-- Result 3. -/
def r40 : FVec Ideal S16x384x2048 .bf16 :=
  truncf .bf16 (transpose S16x384x2048 [0, 2, 1] (extractStridedSlice S16x2048x384 ![0, 0, 768] (pR X G W) slices_S16x2048x5962_S16x2048x384_0_0_768) transposes_S16x2048x384_S16x384x2048_0_2_1) bitsLt_bf16_f32

/-- Result 4. -/
def r43 : FVec Ideal S16x384x2048 .bf16 :=
  truncf .bf16 (transpose S16x384x2048 [0, 2, 1] (pad S16x2048x384 ![0, 0, 0] ![0, 0, 64] ![0, 0, 0] (extractStridedSlice S16x2048x320 ![0, 0, 1798] (pR X G W) slices_S16x2048x5962_S16x2048x320_0_0_1798) (sitofp .f32 (constantI S_ 32 0#32)) pads_S16x2048x320_S16x2048x384_000_000_0640 h_S_) transposes_S16x2048x384_S16x384x2048_0_2_1) bitsLt_bf16_f32

/-- Result 5. -/
def r47 : FVec Ideal S32768x128 .f32 :=
  shapeCast _ ((concatenate S16x2048x128 2 [⟨S16x2048x6, ((extractStridedSlice S16x2048x6 ![0, 0, 1152] (pR X G W) slices_S16x2048x5962_S16x2048x6_0_0_1152) : (⟨S16x2048x6, .f32⟩ : BufTy).Contents (Elt Ideal))⟩, ⟨S16x2048x2, ((broadcastInDim S16x2048x2 ![] bcast_S_S16x2048x2 (constant (F := Ideal) S_ .f32 0x00000000#32)) : (⟨S16x2048x2, .f32⟩ : BufTy).Contents (Elt Ideal))⟩, ⟨S16x2048x4, ((extractStridedSlice S16x2048x4 ![0, 0, 2886] (pR X G W) slices_S16x2048x5962_S16x2048x4_0_0_2886) : (⟨S16x2048x4, .f32⟩ : BufTy).Contents (Elt Ideal))⟩, ⟨S16x2048x116, ((broadcastInDim S16x2048x116 ![] bcast_S_S16x2048x116 (constant (F := Ideal) S_ .f32 0x00000000#32)) : (⟨S16x2048x116, .f32⟩ : BufTy).Contents (Elt Ideal))⟩] concatenates_S16x2048x6_S16x2048x2_S16x2048x4_S16x2048x116_S16x2048x128_d2 : (⟨S16x2048x128, .f32⟩ : BufTy).Contents (Elt Ideal))) shapeCasts_S16x2048x128_S32768x128

/-- Result 6. -/
def r55 : FVec Ideal S32768x3072 .bf16 :=
  truncf .bf16 (shapeCast _ (Host.divf (broadcastInDim S16x2048x3072 ![] bcast_S_S16x2048x3072 (constant (F := Ideal) S_ .f32 0x3F800000#32)) (addf (broadcastInDim S16x2048x3072 ![] bcast_S_S16x2048x3072 (constant (F := Ideal) S_ .f32 0x3F800000#32)) (Host.exp (Host.negf (extractStridedSlice S16x2048x3072 ![0, 0, 2890] (pR X G W) slices_S16x2048x5962_S16x2048x3072_0_0_2890))))) shapeCasts_S16x2048x3072_S32768x3072) bitsLt_bf16_f32

theorem r31_0_at (r : Fin 32768) (i : Fin 384) : r31 X G W (ix2 r ⟨i.val, by omega⟩) = pj X G W ⟨r.val / 2048, by omega⟩ ⟨r.val % 2048, by omega⟩ ⟨i.val, by omega⟩ * sc := by
  pointwise [r31]
  simp only [pR_at]
theorem r31_0 (r : Fin 32768) (j : Fin 768) (h0 : 0 ≤ j.val) (h1 : j.val < 384) : r31 X G W (ix2 r j) = pj X G W ⟨r.val / 2048, by omega⟩ ⟨r.val % 2048, by omega⟩ ⟨(j.val - 0), by omega⟩ * sc :=
  (congrArg (fun j => r31 X G W (ix2 r j)) (Fin.ext rfl : j = ⟨j.val - 0, by omega⟩)).trans (r31_0_at X G W _ ⟨j.val - 0, by omega⟩)

theorem r31_384_at (r : Fin 32768) (i : Fin 384) : r31 X G W (ix2 r ⟨384 + i.val, by omega⟩) = pj X G W ⟨r.val / 2048, by omega⟩ ⟨r.val % 2048, by omega⟩ ⟨384 + i.val, by omega⟩ := by
  pointwise [r31]
  simp only [pR_at]
theorem r31_384 (r : Fin 32768) (j : Fin 768) (h0 : 384 ≤ j.val) (h1 : j.val < 768) : r31 X G W (ix2 r j) = pj X G W ⟨r.val / 2048, by omega⟩ ⟨r.val % 2048, by omega⟩ ⟨384 + (j.val - 384), by omega⟩ :=
  (congrArg (fun j => r31 X G W (ix2 r j)) (Fin.ext (by dsimp only; omega) : j = ⟨384 + (j.val - 384), by omega⟩)).trans (r31_384_at X G W _ ⟨j.val - 384, by omega⟩)

theorem r38_0_at (r : Fin 32768) (i : Fin 320) : r38 X G W (ix2 r ⟨i.val, by omega⟩) = pj X G W ⟨r.val / 2048, by omega⟩ ⟨r.val % 2048, by omega⟩ ⟨1158 + i.val, by omega⟩ * sc := by
  pointwise [r38]
  simp only [pR_at]
  split_ifs <;> first | omega | rfl | (exfalso; simp_all; done) | exact congrArg (pj X G W _ _) (Fin.ext (by dsimp only; omega)) | (show (((0#32 : BitVec 32).toInt : ℝ) : EReal) = 0; simp)
theorem r38_0 (r : Fin 32768) (j : Fin 768) (h0 : 0 ≤ j.val) (h1 : j.val < 320) : r38 X G W (ix2 r j) = pj X G W ⟨r.val / 2048, by omega⟩ ⟨r.val % 2048, by omega⟩ ⟨1158 + (j.val - 0), by omega⟩ * sc :=
  (congrArg (fun j => r38 X G W (ix2 r j)) (Fin.ext rfl : j = ⟨j.val - 0, by omega⟩)).trans (r38_0_at X G W _ ⟨j.val - 0, by omega⟩)

theorem r38_320_at (r : Fin 32768) (i : Fin 64) : r38 X G W (ix2 r ⟨320 + i.val, by omega⟩) = 0 := by
  pointwise [r38]
  split_ifs <;> first | omega | rfl | (exfalso; simp_all; done) | exact congrArg (pj X G W _ _) (Fin.ext (by dsimp only; omega)) | (show (((0#32 : BitVec 32).toInt : ℝ) : EReal) = 0; simp)
theorem r38_320 (r : Fin 32768) (j : Fin 768) (h0 : 320 ≤ j.val) (h1 : j.val < 384) : r38 X G W (ix2 r j) = 0 :=
  (congrArg (fun j => r38 X G W (ix2 r j)) (Fin.ext (by dsimp only; omega) : j = ⟨320 + (j.val - 320), by omega⟩)).trans (r38_320_at X G W _ ⟨j.val - 320, by omega⟩)

theorem r38_384_at (r : Fin 32768) (i : Fin 320) : r38 X G W (ix2 r ⟨384 + i.val, by omega⟩) = pj X G W ⟨r.val / 2048, by omega⟩ ⟨r.val % 2048, by omega⟩ ⟨1478 + i.val, by omega⟩ := by
  pointwise [r38]
  simp only [pR_at]
  split_ifs <;> first | omega | rfl | (exfalso; simp_all; done) | exact congrArg (pj X G W _ _) (Fin.ext (by dsimp only; omega)) | (show (((0#32 : BitVec 32).toInt : ℝ) : EReal) = 0; simp)
theorem r38_384 (r : Fin 32768) (j : Fin 768) (h0 : 384 ≤ j.val) (h1 : j.val < 704) : r38 X G W (ix2 r j) = pj X G W ⟨r.val / 2048, by omega⟩ ⟨r.val % 2048, by omega⟩ ⟨1478 + (j.val - 384), by omega⟩ :=
  (congrArg (fun j => r38 X G W (ix2 r j)) (Fin.ext (by dsimp only; omega) : j = ⟨384 + (j.val - 384), by omega⟩)).trans (r38_384_at X G W _ ⟨j.val - 384, by omega⟩)

theorem r38_704_at (r : Fin 32768) (i : Fin 64) : r38 X G W (ix2 r ⟨704 + i.val, by omega⟩) = 0 := by
  pointwise [r38]
  split_ifs <;> first | omega | rfl | (exfalso; simp_all; done) | exact congrArg (pj X G W _ _) (Fin.ext (by dsimp only; omega)) | (show (((0#32 : BitVec 32).toInt : ℝ) : EReal) = 0; simp)
theorem r38_704 (r : Fin 32768) (j : Fin 768) (h0 : 704 ≤ j.val) (h1 : j.val < 768) : r38 X G W (ix2 r j) = 0 :=
  (congrArg (fun j => r38 X G W (ix2 r j)) (Fin.ext (by dsimp only; omega) : j = ⟨704 + (j.val - 704), by omega⟩)).trans (r38_704_at X G W _ ⟨j.val - 704, by omega⟩)

theorem r40_0_at (b : Fin 16) (s : Fin 2048) (i : Fin 384) : r40 X G W (ix3 b ⟨i.val, by omega⟩ s) = pj X G W b s ⟨768 + i.val, by omega⟩ := by
  pointwise [r40]
  simp only [pR_at]
theorem r40_0 (b : Fin 16) (s : Fin 2048) (j : Fin 384) (h0 : 0 ≤ j.val) (h1 : j.val < 384) : r40 X G W (ix3 b j s) = pj X G W b s ⟨768 + (j.val - 0), by omega⟩ :=
  (congrArg (fun j => r40 X G W (ix3 b j s)) (Fin.ext rfl : j = ⟨j.val - 0, by omega⟩)).trans (r40_0_at X G W _ _ ⟨j.val - 0, by omega⟩)

theorem r43_0_at (b : Fin 16) (s : Fin 2048) (i : Fin 320) : r43 X G W (ix3 b ⟨i.val, by omega⟩ s) = pj X G W b s ⟨1798 + i.val, by omega⟩ := by
  pointwise [r43]
  simp only [pR_at]
theorem r43_0 (b : Fin 16) (s : Fin 2048) (j : Fin 384) (h0 : 0 ≤ j.val) (h1 : j.val < 320) : r43 X G W (ix3 b j s) = pj X G W b s ⟨1798 + (j.val - 0), by omega⟩ :=
  (congrArg (fun j => r43 X G W (ix3 b j s)) (Fin.ext rfl : j = ⟨j.val - 0, by omega⟩)).trans (r43_0_at X G W _ _ ⟨j.val - 0, by omega⟩)

theorem r43_320_at (b : Fin 16) (s : Fin 2048) (i : Fin 64) : r43 X G W (ix3 b ⟨320 + i.val, by omega⟩ s) = 0 := by
  pointwise [r43]
  try refine (dif_neg (by omega)).trans ?_
  show (((0#32 : BitVec 32).toInt : ℝ) : EReal) = 0
  simp
theorem r43_320 (b : Fin 16) (s : Fin 2048) (j : Fin 384) (h0 : 320 ≤ j.val) (h1 : j.val < 384) : r43 X G W (ix3 b j s) = 0 :=
  (congrArg (fun j => r43 X G W (ix3 b j s)) (Fin.ext (by dsimp only; omega) : j = ⟨320 + (j.val - 320), by omega⟩)).trans (r43_320_at X G W _ _ ⟨j.val - 320, by omega⟩)

theorem r47_0_at (r : Fin 32768) (i : Fin 6) : r47 X G W (ix2 r ⟨i.val, by omega⟩) = pj X G W ⟨r.val / 2048, by omega⟩ ⟨r.val % 2048, by omega⟩ ⟨1152 + i.val, by omega⟩ := by
  pointwise [r47]
  simp only [pR_at]
theorem r47_0 (r : Fin 32768) (j : Fin 128) (h0 : 0 ≤ j.val) (h1 : j.val < 6) : r47 X G W (ix2 r j) = pj X G W ⟨r.val / 2048, by omega⟩ ⟨r.val % 2048, by omega⟩ ⟨1152 + (j.val - 0), by omega⟩ :=
  (congrArg (fun j => r47 X G W (ix2 r j)) (Fin.ext rfl : j = ⟨j.val - 0, by omega⟩)).trans (r47_0_at X G W _ ⟨j.val - 0, by omega⟩)

theorem r47_6_at (r : Fin 32768) (i : Fin 2) : r47 X G W (ix2 r ⟨6 + i.val, by omega⟩) = 0 := by
  pointwise [r47]
theorem r47_6 (r : Fin 32768) (j : Fin 128) (h0 : 6 ≤ j.val) (h1 : j.val < 8) : r47 X G W (ix2 r j) = 0 :=
  (congrArg (fun j => r47 X G W (ix2 r j)) (Fin.ext (by dsimp only; omega) : j = ⟨6 + (j.val - 6), by omega⟩)).trans (r47_6_at X G W _ ⟨j.val - 6, by omega⟩)

theorem r47_8_at (r : Fin 32768) (i : Fin 4) : r47 X G W (ix2 r ⟨8 + i.val, by omega⟩) = pj X G W ⟨r.val / 2048, by omega⟩ ⟨r.val % 2048, by omega⟩ ⟨2886 + i.val, by omega⟩ := by
  pointwise [r47]
  simp only [pR_at]
  split_ifs <;> first | omega | rfl | (exfalso; simp_all; done) | exact congrArg (pj X G W _ _) (Fin.ext (by dsimp only; omega)) | (show (((0#32 : BitVec 32).toInt : ℝ) : EReal) = 0; simp)
theorem r47_8 (r : Fin 32768) (j : Fin 128) (h0 : 8 ≤ j.val) (h1 : j.val < 12) : r47 X G W (ix2 r j) = pj X G W ⟨r.val / 2048, by omega⟩ ⟨r.val % 2048, by omega⟩ ⟨2886 + (j.val - 8), by omega⟩ :=
  (congrArg (fun j => r47 X G W (ix2 r j)) (Fin.ext (by dsimp only; omega) : j = ⟨8 + (j.val - 8), by omega⟩)).trans (r47_8_at X G W _ ⟨j.val - 8, by omega⟩)

theorem r47_12_at (r : Fin 32768) (i : Fin 116) : r47 X G W (ix2 r ⟨12 + i.val, by omega⟩) = 0 := by
  pointwise [r47]
  split_ifs <;> first | omega | rfl | (exfalso; simp_all; done) | exact congrArg (pj X G W _ _) (Fin.ext (by dsimp only; omega)) | (show (((0#32 : BitVec 32).toInt : ℝ) : EReal) = 0; simp)
theorem r47_12 (r : Fin 32768) (j : Fin 128) (h0 : 12 ≤ j.val) (h1 : j.val < 128) : r47 X G W (ix2 r j) = 0 :=
  (congrArg (fun j => r47 X G W (ix2 r j)) (Fin.ext (by dsimp only; omega) : j = ⟨12 + (j.val - 12), by omega⟩)).trans (r47_12_at X G W _ ⟨j.val - 12, by omega⟩)

theorem r55_0_at (r : Fin 32768) (i : Fin 3072) : r55 X G W (ix2 r ⟨i.val, by omega⟩) = Ideal.logistic (pj X G W ⟨r.val / 2048, by omega⟩ ⟨r.val % 2048, by omega⟩ ⟨2890 + i.val, by omega⟩) := by
  pointwise [r55]
  exact congrArg Ideal.logistic (pR_at X G W _ _ _)
theorem r55_0 (r : Fin 32768) (j : Fin 3072) (h0 : 0 ≤ j.val) (h1 : j.val < 3072) : r55 X G W (ix2 r j) = Ideal.logistic (pj X G W ⟨r.val / 2048, by omega⟩ ⟨r.val % 2048, by omega⟩ ⟨2890 + (j.val - 0), by omega⟩) :=
  (congrArg (fun j => r55 X G W (ix2 r j)) (Fin.ext rfl : j = ⟨j.val - 0, by omega⟩)).trans (r55_0_at X G W _ ⟨j.val - 0, by omega⟩)

end Cert.Proof.PrjRef
end
-- ==== Proof.PrjRes.lean ====
/- The input projection's results are the reference's. -/
module

public import proofs.«01_k».proof.Proof.PrjEntry
public import proofs.«01_k».proof.Proof.PrjCols
public import proofs.«01_k».proof.Proof.PrjRef
public import Idealize.ShloMosaic.Lib.Claim

@[expose] public section

set_option maxRecDepth 16384

noncomputable section

namespace Cert.Proof.Prj

open Cert.Kernel5Ideal Cert.Kernel5Ideal.Gen
open Idealize.ShloMosaic Idealize.ShloMosaic.TcCoe Idealize.ShloMosaic.Tactic
open Idealize.SL.Sem Cert.Proof.Ffn

variable (X : FVec Ideal S16x2048x1024 .f32) (G : FVec Ideal S1024 .f32) (W : FVec Ideal S1024x5962 .f32)

theorem pc_scale (b : Fin 16) (s : Fin 2048) (j : Fin 6272) (i i' : Fin 5962) (h : ∀ k, wV W (ix2 k j) = W (ix2 k i) * sc) (e : i'.val = i.val) :
    PrjRef.pj X G W b s i' * sc = pc X G W b s j := by
  obtain rfl : i' = i := Fin.ext e
  unfold pc PrjRef.pj
  rw [← prj_scale]
  simp only [h]
theorem pc_same (b : Fin 16) (s : Fin 2048) (j : Fin 6272) (i i' : Fin 5962) (h : ∀ k, wV W (ix2 k j) = W (ix2 k i)) (e : i'.val = i.val) :
    PrjRef.pj X G W b s i' = pc X G W b s j := by
  obtain rfl : i' = i := Fin.ext e
  unfold pc PrjRef.pj
  simp only [h]
theorem pc_zero (b : Fin 16) (s : Fin 2048) (j : Fin 6272) (h : ∀ k, wV W (ix2 k j) = 0) : (0 : EReal) = pc X G W b s j := by
  unfold pc
  simp only [h]
  exact (prj_zero _ _).symm

theorem res9 : PrjRef.r31 X G W = F9 X G W := by
  funext y
  obtain ⟨r, j, rfl⟩ : ∃ (r : Fin 32768) (j : Fin 768), y = ix2 r j := ⟨y 0, y 1, eq_ix2 y⟩
  have hj := j.isLt
  by_cases h0 : j.val < 384
  · exact (PrjRef.r31_0 X G W r j (by omega) (by omega)).trans (pc_scale X G W _ _ ⟨0 + j.val, by omega⟩ _ _ (fun k => w0 W k ⟨0 + j.val, by omega⟩ (by first | omega | (dsimp only; omega)) (by first | omega | (dsimp only; omega))) (by first | omega | (dsimp only; omega)))
  exact (PrjRef.r31_384 X G W r j (by omega) (by omega)).trans (pc_same X G W _ _ ⟨0 + j.val, by omega⟩ _ _ (fun k => w384 W k ⟨0 + j.val, by omega⟩ (by first | omega | (dsimp only; omega)) (by first | omega | (dsimp only; omega))) (by first | omega | (dsimp only; omega)))

theorem res10 : PrjRef.r38 X G W = F10 X G W := by
  funext y
  obtain ⟨r, j, rfl⟩ : ∃ (r : Fin 32768) (j : Fin 768), y = ix2 r j := ⟨y 0, y 1, eq_ix2 y⟩
  have hj := j.isLt
  by_cases h0 : j.val < 320
  · exact (PrjRef.r38_0 X G W r j (by omega) (by omega)).trans (pc_scale X G W _ _ ⟨1152 + j.val, by omega⟩ _ _ (fun k => w1152 W k ⟨1152 + j.val, by omega⟩ (by first | omega | (dsimp only; omega)) (by first | omega | (dsimp only; omega))) (by first | omega | (dsimp only; omega)))
  by_cases h1 : j.val < 384
  · exact (PrjRef.r38_320 X G W r j (by omega) (by omega)).trans (pc_zero X G W _ _ ⟨1152 + j.val, by omega⟩ (fun k => w1472 W k ⟨1152 + j.val, by omega⟩ (by first | omega | (dsimp only; omega)) (by first | omega | (dsimp only; omega))))
  by_cases h2 : j.val < 704
  · exact (PrjRef.r38_384 X G W r j (by omega) (by omega)).trans (pc_same X G W _ _ ⟨1152 + j.val, by omega⟩ _ _ (fun k => w1536 W k ⟨1152 + j.val, by omega⟩ (by first | omega | (dsimp only; omega)) (by first | omega | (dsimp only; omega))) (by first | omega | (dsimp only; omega)))
  exact (PrjRef.r38_704 X G W r j (by omega) (by omega)).trans (pc_zero X G W _ _ ⟨1152 + j.val, by omega⟩ (fun k => w1856 W k ⟨1152 + j.val, by omega⟩ (by first | omega | (dsimp only; omega)) (by first | omega | (dsimp only; omega))))

theorem res11 : PrjRef.r40 X G W = F11 X G W := by
  funext y
  obtain ⟨b, j, s, rfl⟩ : ∃ (b : Fin 16) (j : Fin 384) (s : Fin 2048), y = ix3 b j s := ⟨y 0, y 1, y 2, eq_ix3 y⟩
  have hj := j.isLt
  exact (PrjRef.r40_0 X G W b s j (by omega) (by omega)).trans (pc_same X G W b s ⟨768 + j.val, by omega⟩ _ _ (fun k => w768 W k ⟨768 + j.val, by omega⟩ (by first | omega | (dsimp only; omega)) (by first | omega | (dsimp only; omega))) (by first | omega | (dsimp only; omega)))

theorem res12 : PrjRef.r43 X G W = F12 X G W := by
  funext y
  obtain ⟨b, j, s, rfl⟩ : ∃ (b : Fin 16) (j : Fin 384) (s : Fin 2048), y = ix3 b j s := ⟨y 0, y 1, y 2, eq_ix3 y⟩
  have hj := j.isLt
  by_cases h0 : j.val < 320
  · exact (PrjRef.r43_0 X G W b s j (by omega) (by omega)).trans (pc_same X G W b s ⟨1920 + j.val, by omega⟩ _ _ (fun k => w1920 W k ⟨1920 + j.val, by omega⟩ (by first | omega | (dsimp only; omega)) (by first | omega | (dsimp only; omega))) (by first | omega | (dsimp only; omega)))
  exact (PrjRef.r43_320 X G W b s j (by omega) (by omega)).trans (pc_zero X G W b s ⟨1920 + j.val, by omega⟩ (fun k => w2240 W k ⟨1920 + j.val, by omega⟩ (by first | omega | (dsimp only; omega)) (by first | omega | (dsimp only; omega))))

theorem res16 : PrjRef.r47 X G W = F16 X G W := by
  funext y
  obtain ⟨r, j, rfl⟩ : ∃ (r : Fin 32768) (j : Fin 128), y = ix2 r j := ⟨y 0, y 1, eq_ix2 y⟩
  have hj := j.isLt
  by_cases h0 : j.val < 6
  · exact (PrjRef.r47_0 X G W r j (by omega) (by omega)).trans (pc_same X G W _ _ ⟨3072 + j.val, by omega⟩ _ _ (fun k => w3072 W k ⟨3072 + j.val, by omega⟩ (by first | omega | (dsimp only; omega)) (by first | omega | (dsimp only; omega))) (by first | omega | (dsimp only; omega)))
  by_cases h1 : j.val < 8
  · exact (PrjRef.r47_6 X G W r j (by omega) (by omega)).trans (pc_zero X G W _ _ ⟨3072 + j.val, by omega⟩ (fun k => w3078 W k ⟨3072 + j.val, by omega⟩ (by first | omega | (dsimp only; omega)) (by first | omega | (dsimp only; omega))))
  by_cases h2 : j.val < 12
  · exact (PrjRef.r47_8 X G W r j (by omega) (by omega)).trans (pc_same X G W _ _ ⟨3072 + j.val, by omega⟩ _ _ (fun k => w3080 W k ⟨3072 + j.val, by omega⟩ (by first | omega | (dsimp only; omega)) (by first | omega | (dsimp only; omega))) (by first | omega | (dsimp only; omega)))
  exact (PrjRef.r47_12 X G W r j (by omega) (by omega)).trans (pc_zero X G W _ _ ⟨3072 + j.val, by omega⟩ (fun k => w3084 W k ⟨3072 + j.val, by omega⟩ (by first | omega | (dsimp only; omega)) (by first | omega | (dsimp only; omega))))

theorem res17 : PrjRef.r55 X G W = F17 X G W := by
  funext y
  obtain ⟨r, j, rfl⟩ : ∃ (r : Fin 32768) (j : Fin 3072), y = ix2 r j := ⟨y 0, y 1, eq_ix2 y⟩
  have hj := j.isLt
  exact (PrjRef.r55_0 X G W r j (by omega) (by omega)).trans (congrArg Ideal.logistic (pc_same X G W _ _ ⟨3200 + j.val, by omega⟩ _ _ (fun k => w3200 W k ⟨3200 + j.val, by omega⟩ (by first | omega | (dsimp only; omega)) (by first | omega | (dsimp only; omega))) (by first | omega | (dsimp only; omega))))

end Cert.Proof.Prj
end
-- ==== Proof.PrjClaim.lean ====
/- The value claim about the input projection. -/
module

public import proofs.«01_k».proof.Defs
public import proofs.«01_k».proof.Proof.PrjRes
public import Idealize.ShloMosaic.Lib.Claim

@[expose] public section

noncomputable section

namespace Cert.Proof.Prj

open Idealize.ShloMosaic Idealize.SL.Sem

set_option maxHeartbeats 4000000 in
theorem value : Cert.algebraic_Kernel5Ideal_Reference5Ideal := by
  pair_intro
  · run_from Cert.Kernel5Ideal.Value.run_blocks m g
  · run_from Cert.Reference5Ideal.Value.run m' g'
    all_goals obtain ⟨h0, h1, h2, h3, h4, h5⟩ := hagree c
    · first
      | exact (res9 (argX m c) (argG m c) (argW m c)).trans (final9 m c).symm
      | (rw [h0, h1, h2]; exact (res9 (argX m c) (argG m c) (argW m c)).trans (final9 m c).symm)
    · first
      | exact (res10 (argX m c) (argG m c) (argW m c)).trans (final10 m c).symm
      | (rw [h0, h1, h2]; exact (res10 (argX m c) (argG m c) (argW m c)).trans (final10 m c).symm)
    · first
      | exact (res11 (argX m c) (argG m c) (argW m c)).trans (final11 m c).symm
      | (rw [h0, h1, h2]; exact (res11 (argX m c) (argG m c) (argW m c)).trans (final11 m c).symm)
    · first
      | exact (res12 (argX m c) (argG m c) (argW m c)).trans (final12 m c).symm
      | (rw [h0, h1, h2]; exact (res12 (argX m c) (argG m c) (argW m c)).trans (final12 m c).symm)
    · first
      | exact (res16 (argX m c) (argG m c) (argW m c)).trans (final16 m c).symm
      | (rw [h0, h1, h2]; exact (res16 (argX m c) (argG m c) (argW m c)).trans (final16 m c).symm)
    · first
      | exact (res17 (argX m c) (argG m c) (argW m c)).trans (final17 m c).symm
      | (rw [h0, h1, h2]; exact (res17 (argX m c) (argG m c) (argW m c)).trans (final17 m c).symm)

end Cert.Proof.Prj
end
-- ==== Proof.lean ====
module

public import proofs.«01_k».proof.Defs
public import proofs.«01_k».proof.Proof.SbClaim
public import proofs.«01_k».proof.Proof.FfnClaim
public import proofs.«01_k».proof.Proof.MrgClaim
public import proofs.«01_k».proof.Proof.Mrg4Claim
public import proofs.«01_k».proof.Proof.PrjFrames
public import proofs.«01_k».proof.Proof.PrjClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Sb.frame_kernel, Sb.frame_ideal, Sb.frame_reference, Ffn.frame_kernel, Ffn.frame_ideal, Ffn.frame_reference, Mrg.frame_kernel, Mrg.frame_ideal, Mrg.frame_reference, Mrg4.frame_kernel, Mrg4.frame_ideal, Mrg4.frame_reference, Prj.frame_kernel, Prj.frame_ideal, Prj.frame_reference,
    trivial, Sb.value, trivial, Ffn.value, trivial, Mrg.value, trivial, Mrg4.value, trivial, Prj.value⟩

end Cert.Proof

end
